-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27)
      ∧ r.2.mem ((c.tc : Thread Cert.Kernel15.nD Cert.Kernel15.τ).loc Cert.Kernel15.main_arg28) = m ((c.tc : Thread Cert.Kernel15.nD Cert.Kernel15.τ).loc Cert.Kernel15.main_arg28)
      ∧ r.2.mem ((c.tc : Thread Cert.Kernel15.nD Cert.Kernel15.τ).loc Cert.Kernel15.main_arg29) = m ((c.tc : Thread Cert.Kernel15.nD Cert.Kernel15.τ).loc Cert.Kernel15.main_arg29)
      ∧ r.2.mem ((c.tc : Thread Cert.Kernel15.nD Cert.Kernel15.τ).loc Cert.Kernel15.main_arg30) = m ((c.tc : Thread Cert.Kernel15.nD Cert.Kernel15.τ).loc Cert.Kernel15.main_arg30)
      ∧ r.2.mem ((c.tc : Thread Cert.Kernel15.nD Cert.Kernel15.τ).loc Cert.Kernel15.main_arg31) = m ((c.tc : Thread Cert.Kernel15.nD Cert.Kernel15.τ).loc Cert.Kernel15.main_arg31)
      ∧ r.2.mem ((c.tc : Thread Cert.Kernel15.nD Cert.Kernel15.τ).loc Cert.Kernel15.main_arg32) = m ((c.tc : Thread Cert.Kernel15.nD Cert.Kernel15.τ).loc Cert.Kernel15.main_arg32)
      ∧ r.2.mem ((c.tc : Thread Cert.Kernel15.nD Cert.Kernel15.τ).loc Cert.Kernel15.main_arg33) = m ((c.tc : Thread Cert.Kernel15.nD Cert.Kernel15.τ).loc Cert.Kernel15.main_arg33)
      ∧ r.2.mem ((c.tc : Thread Cert.Kernel15.nD Cert.Kernel15.τ).loc Cert.Kernel15.main_arg34) = m ((c.tc : Thread Cert.Kernel15.nD Cert.Kernel15.τ).loc Cert.Kernel15.main_arg34)
      ∧ r.2.mem ((c.tc : Thread Cert.Kernel15.nD Cert.Kernel15.τ).loc Cert.Kernel15.main_arg35) = m ((c.tc : Thread Cert.Kernel15.nD Cert.Kernel15.τ).loc Cert.Kernel15.main_arg35))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
      ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
      ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
      ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
      ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31)
      ∧ r.2.mem ((c.tc : Thread Cert.Reference15Ideal.nD Cert.Reference15Ideal.τ).loc Cert.Reference15Ideal.main_arg32) = m ((c.tc : Thread Cert.Reference15Ideal.nD Cert.Reference15Ideal.τ).loc Cert.Reference15Ideal.main_arg32)
      ∧ r.2.mem ((c.tc : Thread Cert.Reference15Ideal.nD Cert.Reference15Ideal.τ).loc Cert.Reference15Ideal.main_arg33) = m ((c.tc : Thread Cert.Reference15Ideal.nD Cert.Reference15Ideal.τ).loc Cert.Reference15Ideal.main_arg33)
      ∧ r.2.mem ((c.tc : Thread Cert.Reference15Ideal.nD Cert.Reference15Ideal.τ).loc Cert.Reference15Ideal.main_arg34) = m ((c.tc : Thread Cert.Reference15Ideal.nD Cert.Reference15Ideal.τ).loc Cert.Reference15Ideal.main_arg34)
      ∧ r.2.mem ((c.tc : Thread Cert.Reference15Ideal.nD Cert.Reference15Ideal.τ).loc Cert.Reference15Ideal.main_arg35) = m ((c.tc : Thread Cert.Reference15Ideal.nD Cert.Reference15Ideal.τ).loc Cert.Reference15Ideal.main_arg35))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)) (v5 : (c : Dev Cert.KernelIdeal.nD) → Buf (Elt Ideal) ((c.tc : Thread Cert.KernelIdeal.nD Cert.KernelIdeal.τ).loc Cert.KernelIdeal.main_v40_5)) (v6 : (c : Dev Cert.KernelIdeal.nD) → Buf (Elt Ideal) ((c.tc : Thread Cert.KernelIdeal.nD Cert.KernelIdeal.τ).loc Cert.KernelIdeal.main_v40_6)) (v7 : (c : Dev Cert.KernelIdeal.nD) → Buf (Elt Ideal) ((c.tc : Thread Cert.KernelIdeal.nD Cert.KernelIdeal.τ).loc Cert.KernelIdeal.main_v40_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_v40_5) = v5 c
          ∧ r.2.mem ((c.tc : Thread Cert.KernelIdeal.nD Cert.KernelIdeal.τ).loc Cert.KernelIdeal.main_v40_6) = v6 c
          ∧ r.2.mem ((c.tc : Thread Cert.KernelIdeal.nD Cert.KernelIdeal.τ).loc Cert.KernelIdeal.main_v40_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_v83) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v18_0)) (v1 : (c : Dev Cert.Kernel8Ideal.nD) → Buf (Elt Ideal) ((c.tc : Thread Cert.Kernel8Ideal.nD Cert.Kernel8Ideal.τ).loc Cert.Kernel8Ideal.main_v18_1)) (v2 : (c : Dev Cert.Kernel8Ideal.nD) → Buf (Elt Ideal) ((c.tc : Thread Cert.Kernel8Ideal.nD Cert.Kernel8Ideal.τ).loc Cert.Kernel8Ideal.main_v18_2)) (v3 : (c : Dev Cert.Kernel8Ideal.nD) → Buf (Elt Ideal) ((c.tc : Thread Cert.Kernel8Ideal.nD Cert.Kernel8Ideal.τ).loc Cert.Kernel8Ideal.main_v18_3)) (v4 : (c : Dev Cert.Kernel8Ideal.nD) → Buf (Elt Ideal) ((c.tc : Thread Cert.Kernel8Ideal.nD Cert.Kernel8Ideal.τ).loc Cert.Kernel8Ideal.main_v18_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_0) = v0 c
          ∧ r.2.mem ((c.tc : Thread Cert.Kernel8Ideal.nD Cert.Kernel8Ideal.τ).loc Cert.Kernel8Ideal.main_v18_1) = v1 c
          ∧ r.2.mem ((c.tc : Thread Cert.Kernel8Ideal.nD Cert.Kernel8Ideal.τ).loc Cert.Kernel8Ideal.main_v18_2) = v2 c
          ∧ r.2.mem ((c.tc : Thread Cert.Kernel8Ideal.nD Cert.Kernel8Ideal.τ).loc Cert.Kernel8Ideal.main_v18_3) = v3 c
          ∧ r.2.mem ((c.tc : Thread Cert.Kernel8Ideal.nD Cert.Kernel8Ideal.τ).loc Cert.Kernel8Ideal.main_v18_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_v50) = v3 c
          ∧ r.2.mem ((c.tc : Thread Cert.Reference8Ideal.nD Cert.Reference8Ideal.τ).loc Cert.Reference8Ideal.main_v51) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v29) = v2 c
          ∧ r.2.mem ((c.tc : Thread Cert.Reference9Ideal.nD Cert.Reference9Ideal.τ).loc Cert.Reference9Ideal.main_v30) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)) (v2 : (c : Dev Cert.Kernel10Ideal.nD) → Buf (Elt Ideal) ((c.tc : Thread Cert.Kernel10Ideal.nD Cert.Kernel10Ideal.τ).loc Cert.Kernel10Ideal.main_v5_2)) (v3 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_v5_2) = v2 c
          ∧ r.2.mem ((c.tc : Thread Cert.Kernel10Ideal.nD Cert.Kernel10Ideal.τ).loc Cert.Kernel10Ideal.main_v5_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_v30) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v30) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)) (v3 : (c : Dev Cert.Kernel12Ideal.nD) → Buf (Elt Ideal) ((c.tc : Thread Cert.Kernel12Ideal.nD Cert.Kernel12Ideal.τ).loc Cert.Kernel12Ideal.main_v5_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_v5_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v27) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_v30) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)) (v3 : (c : Dev Cert.Kernel13Ideal.nD) → Buf (Elt Ideal) ((c.tc : Thread Cert.Kernel13Ideal.nD Cert.Kernel13Ideal.τ).loc Cert.Kernel13Ideal.main_v5_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_v5_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_v30) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)
      ∧ m' ((c.tc : Thread Cert.Reference15Ideal.nD Cert.Reference15Ideal.τ).loc Cert.Reference15Ideal.main_arg32) = m ((c.tc : Thread Cert.Kernel15Ideal.nD Cert.Kernel15Ideal.τ).loc Cert.Kernel15Ideal.main_arg32)
      ∧ m' ((c.tc : Thread Cert.Reference15Ideal.nD Cert.Reference15Ideal.τ).loc Cert.Reference15Ideal.main_arg33) = m ((c.tc : Thread Cert.Kernel15Ideal.nD Cert.Kernel15Ideal.τ).loc Cert.Kernel15Ideal.main_arg33)
      ∧ m' ((c.tc : Thread Cert.Reference15Ideal.nD Cert.Reference15Ideal.τ).loc Cert.Reference15Ideal.main_arg34) = m ((c.tc : Thread Cert.Kernel15Ideal.nD Cert.Kernel15Ideal.τ).loc Cert.Kernel15Ideal.main_arg34)
      ∧ m' ((c.tc : Thread Cert.Reference15Ideal.nD Cert.Reference15Ideal.τ).loc Cert.Reference15Ideal.main_arg35) = m ((c.tc : Thread Cert.Kernel15Ideal.nD Cert.Kernel15Ideal.τ).loc Cert.Kernel15Ideal.main_arg35)) →
    ∃ (v0 : (c : Dev Cert.Kernel15Ideal.nD) → Buf (Elt Ideal) ((c.tc : Thread Cert.Kernel15Ideal.nD Cert.Kernel15Ideal.τ).loc Cert.Kernel15Ideal.main_v44_0)) (v1 : (c : Dev Cert.Kernel15Ideal.nD) → Buf (Elt Ideal) ((c.tc : Thread Cert.Kernel15Ideal.nD Cert.Kernel15Ideal.τ).loc Cert.Kernel15Ideal.main_v44_1)) (v2 : (c : Dev Cert.Kernel15Ideal.nD) → Buf (Elt Ideal) ((c.tc : Thread Cert.Kernel15Ideal.nD Cert.Kernel15Ideal.τ).loc Cert.Kernel15Ideal.main_v44_2)) (v3 : (c : Dev Cert.Kernel15Ideal.nD) → Buf (Elt Ideal) ((c.tc : Thread Cert.Kernel15Ideal.nD Cert.Kernel15Ideal.τ).loc Cert.Kernel15Ideal.main_v44_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v44_0) = v0 c
          ∧ r.2.mem ((c.tc : Thread Cert.Kernel15Ideal.nD Cert.Kernel15Ideal.τ).loc Cert.Kernel15Ideal.main_v44_1) = v1 c
          ∧ r.2.mem ((c.tc : Thread Cert.Kernel15Ideal.nD Cert.Kernel15Ideal.τ).loc Cert.Kernel15Ideal.main_v44_2) = v2 c
          ∧ r.2.mem ((c.tc : Thread Cert.Kernel15Ideal.nD Cert.Kernel15Ideal.τ).loc Cert.Kernel15Ideal.main_v44_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
          ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
          ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
          ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
          ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v226) = v0 c
          ∧ r.2.mem ((c.tc : Thread Cert.Reference15Ideal.nD Cert.Reference15Ideal.τ).loc Cert.Reference15Ideal.main_v237) = v1 c
          ∧ r.2.mem ((c.tc : Thread Cert.Reference15Ideal.nD Cert.Reference15Ideal.τ).loc Cert.Reference15Ideal.main_v248) = v2 c
          ∧ r.2.mem ((c.tc : Thread Cert.Reference15Ideal.nD Cert.Reference15Ideal.τ).loc Cert.Reference15Ideal.main_v259) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31)
          ∧ r.2.mem ((c.tc : Thread Cert.Reference15Ideal.nD Cert.Reference15Ideal.τ).loc Cert.Reference15Ideal.main_arg32) = m' ((c.tc : Thread Cert.Reference15Ideal.nD Cert.Reference15Ideal.τ).loc Cert.Reference15Ideal.main_arg32)
          ∧ r.2.mem ((c.tc : Thread Cert.Reference15Ideal.nD Cert.Reference15Ideal.τ).loc Cert.Reference15Ideal.main_arg33) = m' ((c.tc : Thread Cert.Reference15Ideal.nD Cert.Reference15Ideal.τ).loc Cert.Reference15Ideal.main_arg33)
          ∧ r.2.mem ((c.tc : Thread Cert.Reference15Ideal.nD Cert.Reference15Ideal.τ).loc Cert.Reference15Ideal.main_arg34) = m' ((c.tc : Thread Cert.Reference15Ideal.nD Cert.Reference15Ideal.τ).loc Cert.Reference15Ideal.main_arg34)
          ∧ r.2.mem ((c.tc : Thread Cert.Reference15Ideal.nD Cert.Reference15Ideal.τ).loc Cert.Reference15Ideal.main_arg35) = m' ((c.tc : Thread Cert.Reference15Ideal.nD Cert.Reference15Ideal.τ).loc Cert.Reference15Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S3x5632 .f32) (main_arg2 : FVec F S5632 .f32) (main_arg3 : FVec F S2816x1024 .f32) (main_arg4 : FVec F S8192x1024 .f32) : IVec S8192x5632 1 × IVec S3x5632 1 × IVec S5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S4x704x1024 : Shape := ⟨3, ![4, 704, 1024]⟩
abbrev S3x2816 : Shape := ⟨2, ![3, 2816]⟩
abbrev S1x2816 : Shape := ⟨2, ![1, 2816]⟩
abbrev S512x1024 : Shape := ⟨2, ![512, 1024]⟩
abbrev S512x1408 : Shape := ⟨2, ![512, 1408]⟩
abbrev S3x1408 : Shape := ⟨2, ![3, 1408]⟩
abbrev S2x704x1024 : Shape := ⟨3, ![2, 704, 1024]⟩
abbrev S1x1408 : Shape := ⟨2, ![1, 1408]⟩
abbrev S8x1408 : Shape := ⟨2, ![8, 1408]⟩
abbrev S1408x1024 : Shape := ⟨2, ![1408, 1024]⟩
abbrev S520x1408 : Shape := ⟨2, ![520, 1408]⟩
abbrev S65x8x1408 : Shape := ⟨3, ![65, 8, 1408]⟩
abbrev S64x8x1408 : Shape := ⟨3, ![64, 8, 1408]⟩
abbrev S1408 : Shape := ⟨1, ![1408]⟩

abbrev nBuf : Space → Nat
  | .hbm => 63
  | .vmem => 36
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S1x5632, .f32⟩
  | .hbm, ⟨9, _⟩ => ⟨S5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .bf16⟩
  | .hbm, ⟨49, _⟩ => ⟨S8192x2816, .bf16⟩
  | .hbm, ⟨50, _⟩ => ⟨S8192x2816, .bf16⟩
  | .hbm, ⟨51, _⟩ => ⟨S8192x2816, .bf16⟩
  | .hbm, ⟨52, _⟩ => ⟨S8192x2816, .bf16⟩
  | .hbm, ⟨53, _⟩ => ⟨S4x704x1024, .f32⟩
  | .hbm, ⟨54, _⟩ => ⟨S4x704x1024, .bf16⟩
  | .hbm, ⟨55, _⟩ => ⟨S8192x2816, .bf16⟩
  | .hbm, ⟨56, _⟩ => ⟨S8192x2816, .bf16⟩
  | .hbm, ⟨57, _⟩ => ⟨S4x704x1024, .f32⟩
  | .hbm, ⟨58, _⟩ => ⟨S4x704x1024, .bf16⟩
  | .hbm, ⟨59, _⟩ => ⟨S3x2816, .f32⟩
  | .hbm, ⟨60, _⟩ => ⟨S3x2816, .f32⟩
  | .hbm, ⟨61, _⟩ => ⟨S1x2816, .f32⟩
  | .hbm, ⟨62, _⟩ => ⟨S1x2816, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S2x704x1024, .bf16⟩
  | .local _ .vmem, ⟨17, _⟩ => ⟨S2x704x1024, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S2x704x1024, .f32⟩
  | .local _ .vmem, ⟨23, _⟩ => ⟨S2x704x1024, .f32⟩
  | .local _ .vmem, ⟨24, _⟩ => ⟨S2x704x1024, .bf16⟩
  | .local _ .vmem, ⟨25, _⟩ => ⟨S2x704x1024, .bf16⟩
  | .local _ .vmem, ⟨26, _⟩ => ⟨S3x1408, .f32⟩
  | .local _ .vmem, ⟨27, _⟩ => ⟨S3x1408, .f32⟩
  | .local _ .vmem, ⟨28, _⟩ => ⟨S3x1408, .f32⟩
  | .local _ .vmem, ⟨29, _⟩ => ⟨S3x1408, .f32⟩
  | .local _ .vmem, ⟨30, _⟩ => ⟨S1x1408, .f32⟩
  | .local _ .vmem, ⟨31, _⟩ => ⟨S1x1408, .f32⟩
  | .local _ .vmem, ⟨32, _⟩ => ⟨S1x1408, .f32⟩
  | .local _ .vmem, ⟨33, _⟩ => ⟨S1x1408, .f32⟩
  | .local _ .vmem, ⟨34, _⟩ => ⟨S8x1408, .f32⟩
  | .local _ .vmem, ⟨35, _⟩ => ⟨S8x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v40_3 : Ref sig .tc := ⟨.hbm, 58, rfl⟩
abbrev main_v40_4 : Ref sig .tc := ⟨.hbm, 59, rfl⟩
abbrev main_v40_5 : Ref sig .tc := ⟨.hbm, 60, rfl⟩
abbrev main_v40_6 : Ref sig .tc := ⟨.hbm, 61, rfl⟩
abbrev main_v40_7 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v174 : BitVec 1 := Scalar.cmpi .eq arg1 c15_i32
  let v175 : BitVec 32 := Scalar.extui v174
  let c0_i32_84 : BitVec 32 := 0#32
  let v176 : BitVec 1 := Scalar.cmpi .ne v175 c0_i32_84
  v176

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x704x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S3x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1024x2816 : Shape := ⟨2, ![1024, 2816]⟩
abbrev S3x2816 : Shape := ⟨2, ![3, 2816]⟩
abbrev S1x2816 : Shape := ⟨2, ![1, 2816]⟩
abbrev S4x704x1024 : Shape := ⟨3, ![4, 704, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S5632, .f32⟩
  | .hbm, ⟨12, _⟩ => ⟨S8192x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S8192x5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S1x5632, .f32⟩
  | .hbm, ⟨34, _⟩ => ⟨S8192x5632, .f32⟩
  | .hbm, ⟨35, _⟩ => ⟨S8192x5632, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S1024x2816, .f32⟩
  | .hbm, ⟨54, _⟩ => ⟨S2816x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S5632, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S8194x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S8192x5632, .f32⟩
  | .hbm, ⟨82, _⟩ => ⟨S8192x5632, .f32⟩
  | .hbm, ⟨83, _⟩ => ⟨S8192x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S5632, .f32⟩
  | .hbm, ⟨89, _⟩ => ⟨S_, .f32⟩
  | .hbm, ⟨90, _⟩ => ⟨S8194x5632, .f32⟩
  | .hbm, ⟨91, _⟩ => ⟨S8194x5632, .f32⟩
  | .hbm, ⟨92, _⟩ => ⟨S1x5632, .f32⟩
  | .hbm, ⟨93, _⟩ => ⟨S_, .f32⟩
  | .hbm, ⟨94, _⟩ => ⟨S3x5632, .f32⟩
  | .hbm, ⟨95, _⟩ => ⟨S3x5632, .f32⟩
  | .hbm, ⟨96, _⟩ => ⟨S8192x5632, .f32⟩
  | .hbm, ⟨97, _⟩ => ⟨S8192x5632, .f32⟩
  | .hbm, ⟨98, _⟩ => ⟨S8192x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S5632, .f32⟩
  | .hbm, ⟨104, _⟩ => ⟨S_, .f32⟩
  | .hbm, ⟨105, _⟩ => ⟨S8194x5632, .f32⟩
  | .hbm, ⟨106, _⟩ => ⟨S8194x5632, .f32⟩
  | .hbm, ⟨107, _⟩ => ⟨S1x5632, .f32⟩
  | .hbm, ⟨108, _⟩ => ⟨S_, .f32⟩
  | .hbm, ⟨109, _⟩ => ⟨S3x5632, .f32⟩
  | .hbm, ⟨110, _⟩ => ⟨S3x5632, .f32⟩
  | .hbm, ⟨111, _⟩ => ⟨S2x5632, .f32⟩
  | .hbm, ⟨112, _⟩ => ⟨S8192x5632, .f32⟩
  | .hbm, ⟨113, _⟩ => ⟨S8192x5632, .bf16⟩
  | .hbm, ⟨114, _⟩ => ⟨S8192x2816, .bf16⟩
  | .hbm, ⟨115, _⟩ => ⟨S8192x2816, .bf16⟩
  | .hbm, ⟨116, _⟩ => ⟨S3x2816, .f32⟩
  | .hbm, ⟨117, _⟩ => ⟨S3x2816, .f32⟩
  | .hbm, ⟨118, _⟩ => ⟨S1x5632, .f32⟩
  | .hbm, ⟨119, _⟩ => ⟨S1x2816, .f32⟩
  | .hbm, ⟨120, _⟩ => ⟨S1x2816, .f32⟩
  | .hbm, ⟨121, _⟩ => ⟨S4x704x1024, .f32⟩
  | .hbm, ⟨122, _⟩ => ⟨S4x704x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x5632, .bf16⟩
  | .hbm, ⟨6, _⟩ => ⟨S8192x2816, .bf16⟩
  | .hbm, ⟨7, _⟩ => ⟨S8192x2816, .bf16⟩
  | .hbm, ⟨8, _⟩ => ⟨S1024x4x1408, .f32⟩
  | .hbm, ⟨9, _⟩ => ⟨S4x1024x1408, .f32⟩
  | .hbm, ⟨10, _⟩ => ⟨S4x1024x1408, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 26
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S8192x2816, .bf16⟩
  | .hbm, ⟨23, _⟩ => ⟨S8192x2816, .bf16⟩
  | .hbm, ⟨24, _⟩ => ⟨S4x1024x1408, .f32⟩
  | .hbm, ⟨25, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S1x1024x1408, .bf16⟩
  | .local _ .vmem, ⟨9, _⟩ => ⟨S1x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c3_i32_6 : BitVec 32 := 3#32
  let v15 : BitVec 1 := Scalar.cmpi .eq arg1 c3_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .sle arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c1_i32_3 : BitVec 32 := 1#32
  let v5 : BitVec 32 := Scalar.maxsi c0_i32_2 v4
  let v6 : BitVec 32 := Scalar.minsi c1_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .sle arg0 c3_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S5632x1024, .f32⟩
  | .hbm, ⟨22, _⟩ => ⟨S1024x5632, .f32⟩
  | .hbm, ⟨23, _⟩ => ⟨S1024x4x1408, .f32⟩
  | .hbm, ⟨24, _⟩ => ⟨S4x1024x1408, .f32⟩
  | .hbm, ⟨25, _⟩ => ⟨S1024x5632, .bf16⟩
  | .hbm, ⟨26, _⟩ => ⟨S1024x4x1408, .bf16⟩
  | .hbm, ⟨27, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S8192x512 : Shape := ⟨2, ![8192, 512]⟩
abbrev S8192x2048 : Shape := ⟨2, ![8192, 2048]⟩
abbrev S1024x4x1152 : Shape := ⟨3, ![1024, 4, 1152]⟩
abbrev S4x1024x1152 : Shape := ⟨3, ![4, 1024, 1152]⟩
abbrev S1x1024 : Shape := ⟨2, ![1, 1024]⟩
abbrev S512x512 : Shape := ⟨2, ![512, 512]⟩
abbrev S512x2048 : Shape := ⟨2, ![512, 2048]⟩
abbrev S512x1024 : Shape := ⟨2, ![512, 1024]⟩
abbrev S1x1024x512 : Shape := ⟨3, ![1, 1024, 512]⟩
abbrev S1024x512 : Shape := ⟨2, ![1024, 512]⟩
abbrev S512x128 : Shape := ⟨2, ![512, 128]⟩
abbrev S1x1024x128 : Shape := ⟨3, ![1, 1024, 128]⟩
abbrev S1024x128 : Shape := ⟨2, ![1024, 128]⟩
abbrev S512x384 : Shape := ⟨2, ![512, 384]⟩
abbrev S1x1024x384 : Shape := ⟨3, ![1, 1024, 384]⟩
abbrev S1024x384 : Shape := ⟨2, ![1024, 384]⟩
abbrev S512x256 : Shape := ⟨2, ![512, 256]⟩
abbrev S1x1024x256 : Shape := ⟨3, ![1, 1024, 256]⟩
abbrev S1024x256 : Shape := ⟨2, ![1024, 256]⟩
abbrev S512x896 : Shape := ⟨2, ![512, 896]⟩
abbrev S1x1024x896 : Shape := ⟨3, ![1, 1024, 896]⟩
abbrev S1024x896 : Shape := ⟨2, ![1024, 896]⟩
abbrev S512x1152 : Shape := ⟨2, ![512, 1152]⟩
abbrev S1x1024x1152 : Shape := ⟨3, ![1, 1024, 1152]⟩
abbrev S1024x1152 : Shape := ⟨2, ![1024, 1152]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S8192x4608, .f32⟩
  | .hbm, ⟨5, _⟩ => ⟨S8192x4608, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x2048, .bf16⟩
  | .hbm, ⟨12, _⟩ => ⟨S1024x4x1152, .f32⟩
  | .hbm, ⟨13, _⟩ => ⟨S4x1024x1152, .f32⟩
  | .hbm, ⟨14, _⟩ => ⟨S4x1024x1152, .bf16⟩
  | .hbm, ⟨15, _⟩ => ⟨S1x1024, .f32⟩
  | .hbm, ⟨16, _⟩ => ⟨S8192x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S4x1024x1152, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S8192x4608, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4608, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S8192x2048 : Shape := ⟨2, ![8192, 2048]⟩
abbrev S4x1024x1152 : Shape := ⟨3, ![4, 1024, 1152]⟩
abbrev S1024x1024 : Shape := ⟨2, ![1024, 1024]⟩
abbrev S1024x512 : Shape := ⟨2, ![1024, 512]⟩
abbrev S1024x2048 : Shape := ⟨2, ![1024, 2048]⟩
abbrev S1x1024x1152 : Shape := ⟨3, ![1, 1024, 1152]⟩
abbrev S1024x1152 : Shape := ⟨2, ![1024, 1152]⟩
abbrev S1x1024x512 : Shape := ⟨3, ![1, 1024, 512]⟩
abbrev S1x1024x128 : Shape := ⟨3, ![1, 1024, 128]⟩
abbrev S1024x128 : Shape := ⟨2, ![1024, 128]⟩
abbrev S1x1024x384 : Shape := ⟨3, ![1, 1024, 384]⟩
abbrev S1024x384 : Shape := ⟨2, ![1024, 384]⟩
abbrev S1x1024x256 : Shape := ⟨3, ![1, 1024, 256]⟩
abbrev S1024x256 : Shape := ⟨2, ![1024, 256]⟩
abbrev S1x1024x896 : Shape := ⟨3, ![1, 1024, 896]⟩
abbrev S1024x896 : Shape := ⟨2, ![1024, 896]⟩

abbrev nBuf : Space → Nat
  | .hbm => 30
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x4608, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4608, .bf16⟩
  | .hbm, ⟨22, _⟩ => ⟨S8192x512, .bf16⟩
  | .hbm, ⟨23, _⟩ => ⟨S8192x512, .bf16⟩
  | .hbm, ⟨24, _⟩ => ⟨S8192x512, .bf16⟩
  | .hbm, ⟨25, _⟩ => ⟨S8192x512, .bf16⟩
  | .hbm, ⟨26, _⟩ => ⟨S8192x512, .bf16⟩
  | .hbm, ⟨27, _⟩ => ⟨S8192x2048, .bf16⟩
  | .hbm, ⟨28, _⟩ => ⟨S4x1024x1152, .f32⟩
  | .hbm, ⟨29, _⟩ => ⟨S4x1024x1152, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024x1152, .f32⟩
  | .local _ .vmem, ⟨15, _⟩ => ⟨S1x1024x1152, .f32⟩
  | .local _ .vmem, ⟨16, _⟩ => ⟨S1x1024x1152, .bf16⟩
  | .local _ .vmem, ⟨17, _⟩ => ⟨S1x1024x1152, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c0_i32_0 : BitVec 32 := 0#32
  let v1 : BitVec 1 := Scalar.cmpi .sle arg0 c0_i32_0
  let v2 : BitVec 1 := Scalar.andi v0 v1
  let c0_i32_1 : BitVec 32 := 0#32
  let v3 : BitVec 32 := Scalar.select v2 arg1 c0_i32_1
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c0_i32_0 : BitVec 32 := 0#32
  let v1 : BitVec 1 := Scalar.cmpi .sle arg0 c0_i32_0
  let v2 : BitVec 1 := Scalar.andi v0 v1
  let c0_i32_1 : BitVec 32 := 0#32
  let v3 : BitVec 32 := Scalar.select v2 arg1 c0_i32_1
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .sle arg0 c1_i32
  let v2 : BitVec 1 := Scalar.andi v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let v1 : BitVec 1 := Scalar.cmpi .sle arg0 c1_i32_0
  let v2 : BitVec 1 := Scalar.andi v0 v1
  let c0_i32 : BitVec 32 := 0#32
  let v3 : BitVec 32 := Scalar.select v2 arg1 c0_i32
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c2_i32 : BitVec 32 := 2#32
  let v1 : BitVec 1 := Scalar.cmpi .sle arg0 c2_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .sle arg0 c3_i32
  let v2 : BitVec 1 := Scalar.andi v0 v1
  let c0_i32 : BitVec 32 := 0#32
  let v3 : BitVec 32 := Scalar.select v2 arg1 c0_i32
  let c0_i32_0 : BitVec 32 := 0#32
  let c0_i32_1 : BitVec 32 := 0#32
  ![v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x4608, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4608, .f32⟩
  | .hbm, ⟨21, _⟩ => ⟨S4608x1024, .f32⟩
  | .hbm, ⟨22, _⟩ => ⟨S1024x4608, .f32⟩
  | .hbm, ⟨23, _⟩ => ⟨S1024x4x1152, .f32⟩
  | .hbm, ⟨24, _⟩ => ⟨S4x1024x1152, .f32⟩
  | .hbm, ⟨25, _⟩ => ⟨S1024x4608, .bf16⟩
  | .hbm, ⟨26, _⟩ => ⟨S1024x4x1152, .bf16⟩
  | .hbm, ⟨27, _⟩ => ⟨S4x1024x1152, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1152 : Shape := ⟨3, ![1024, 4, 1152]⟩
abbrev S4x1024x1152 : Shape := ⟨3, ![4, 1024, 1152]⟩
abbrev S8192x4608 : Shape := ⟨2, ![8192, 4608]⟩
abbrev S2048x1024 : Shape := ⟨2, ![2048, 1024]⟩
abbrev S1x1024x1152 : Shape := ⟨3, ![1, 1024, 1152]⟩
abbrev S2048x1152 : Shape := ⟨2, ![2048, 1152]⟩
abbrev S1024x1152 : Shape := ⟨2, ![1024, 1152]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x4x1152, .f32⟩
  | .hbm, ⟨21, _⟩ => ⟨S4x1024x1152, .f32⟩
  | .hbm, ⟨22, _⟩ => ⟨S4x1024x1152, .bf16⟩
  | .hbm, ⟨23, _⟩ => ⟨S8192x4608, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2048x1152, .f32⟩
  | .local _ .vmem, ⟨5, _⟩ => ⟨S2048x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4608 : Shape := ⟨2, ![8192, 4608]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4608, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S4x704x1024 : Shape := ⟨3, ![4, 704, 1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x2816, .bf16⟩
  | .hbm, ⟨5, _⟩ => ⟨S4x704x1024, .f32⟩
  | .hbm, ⟨6, _⟩ => ⟨S4x704x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x1408 : Shape := ⟨3, ![1024, 4, 1408]⟩
abbrev S4x1024x1408 : Shape := ⟨3, ![4, 1024, 1408]⟩
abbrev S1x5632 : Shape := ⟨2, ![1, 5632]⟩
abbrev S8192x2816 : Shape := ⟨2, ![8192, 2816]⟩
abbrev S512x1024 : Shape := ⟨2, ![512, 1024]⟩
abbrev S1x1024x1408 : Shape := ⟨3, ![1, 1024, 1408]⟩
abbrev S3x1408 : Shape := ⟨2, ![3, 1408]⟩
abbrev S1x1408 : Shape := ⟨2, ![1, 1408]⟩
abbrev S512x1408 : Shape := ⟨2, ![512, 1408]⟩
abbrev S8x1408 : Shape := ⟨2, ![8, 1408]⟩
abbrev S1024x1408 : Shape := ⟨2, ![1024, 1408]⟩
abbrev S520x1408 : Shape := ⟨2, ![520, 1408]⟩
abbrev S65x8x1408 : Shape := ⟨3, ![65, 8, 1408]⟩
abbrev S64x8x1408 : Shape := ⟨3, ![64, 8, 1408]⟩

abbrev nBuf : Space → Nat
  | .hbm => 31
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x4x1408, .f32⟩
  | .hbm, ⟨23, _⟩ => ⟨S4x1024x1408, .f32⟩
  | .hbm, ⟨24, _⟩ => ⟨S4x1024x1408, .bf16⟩
  | .hbm, ⟨25, _⟩ => ⟨S1x5632, .f32⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .hbm, ⟨30, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S8x1408, .f32⟩
  | .local _ .vmem, ⟨25, _⟩ => ⟨S8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference8Ideal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S_, .f32⟩
  | .hbm, ⟨23, _⟩ => ⟨S2x5632, .f32⟩
  | .hbm, ⟨24, _⟩ => ⟨S8194x5632, .f32⟩
  | .hbm, ⟨25, _⟩ => ⟨S1x5632, .f32⟩
  | .hbm, ⟨26, _⟩ => ⟨S5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S5632, .f32⟩
  | .hbm, ⟨36, _⟩ => ⟨S8192x5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S8192x5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S8192x5632, .f32⟩
  | .hbm, ⟨50, _⟩ => ⟨S8192x5632, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .bf16⟩
  | .hbm, ⟨66, _⟩ => ⟨S8192x2816, .bf16⟩
  | .hbm, ⟨67, _⟩ => ⟨S8192x2816, .bf16⟩
  | .hbm, ⟨68, _⟩ => ⟨S8192x2816, .bf16⟩
  | .hbm, ⟨69, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel9.lean ====
abbrev S2x1024x1152 : Shape := ⟨3, ![2, 1024, 1152]⟩
abbrev S2048x1152 : Shape := ⟨2, ![2048, 1152]⟩
abbrev S256x1152 : Shape := ⟨2, ![256, 1152]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .bf16⟩
  | .hbm, ⟨4, _⟩ => ⟨S2x1024x1152, .bf16⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .bf16⟩
  | .hbm, ⟨9, _⟩ => ⟨S2048x1152, .bf16⟩
  | .hbm, ⟨10, _⟩ => ⟨S2048x1152, .f32⟩
  | .hbm, ⟨11, _⟩ => ⟨S2048x1152, .f32⟩
  | .hbm, ⟨12, _⟩ => ⟨S2048x1152, .f32⟩
  | .hbm, ⟨13, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .bf16⟩
  | .local _ .vmem, ⟨7, _⟩ => ⟨S256x1152, .bf16⟩
  | .local _ .vmem, ⟨8, _⟩ => ⟨S256x1152, .bf16⟩
  | .local _ .vmem, ⟨9, _⟩ => ⟨S256x1152, .bf16⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel9Ideal.lean ====
abbrev S2x1024x1152 : Shape := ⟨3, ![2, 1024, 1152]⟩
abbrev S2048x1152 : Shape := ⟨2, ![2048, 1152]⟩
abbrev S256x1152 : Shape := ⟨2, ![256, 1152]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .bf16⟩
  | .hbm, ⟨4, _⟩ => ⟨S2x1024x1152, .bf16⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .bf16⟩
  | .hbm, ⟨9, _⟩ => ⟨S2048x1152, .bf16⟩
  | .hbm, ⟨10, _⟩ => ⟨S2048x1152, .f32⟩
  | .hbm, ⟨11, _⟩ => ⟨S2048x1152, .f32⟩
  | .hbm, ⟨12, _⟩ => ⟨S2048x1152, .f32⟩
  | .hbm, ⟨13, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .bf16⟩
  | .local _ .vmem, ⟨7, _⟩ => ⟨S256x1152, .bf16⟩
  | .local _ .vmem, ⟨8, _⟩ => ⟨S256x1152, .bf16⟩
  | .local _ .vmem, ⟨9, _⟩ => ⟨S256x1152, .bf16⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | _, _ => ⟨S2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2x1024x1152 : Shape := ⟨3, ![2, 1024, 1152]⟩
abbrev S_ : Shape := ⟨0, ![]⟩
abbrev S2048x1152 : Shape := ⟨2, ![2048, 1152]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1152, .f32⟩
  | .hbm, ⟨1, _⟩ => ⟨S2x1024x1152, .f32⟩
  | .hbm, ⟨2, _⟩ => ⟨S2x1024x1152, .f32⟩
  | .hbm, ⟨3, _⟩ => ⟨S2x1024x1152, .bf16⟩
  | .hbm, ⟨4, _⟩ => ⟨S2x1024x1152, .bf16⟩
  | .hbm, ⟨5, _⟩ => ⟨S2x1024x1152, .f32⟩
  | .hbm, ⟨6, _⟩ => ⟨S2x1024x1152, .f32⟩
  | .hbm, ⟨7, _⟩ => ⟨S2x1024x1152, .f32⟩
  | .hbm, ⟨8, _⟩ => ⟨S_, .f32⟩
  | .hbm, ⟨9, _⟩ => ⟨S2x1024x1152, .f32⟩
  | .hbm, ⟨10, _⟩ => ⟨S2x1024x1152, .f32⟩
  | .hbm, ⟨11, _⟩ => ⟨S_, .f32⟩
  | .hbm, ⟨12, _⟩ => ⟨S2x1024x1152, .f32⟩
  | .hbm, ⟨13, _⟩ => ⟨S2x1024x1152, .f32⟩
  | .hbm, ⟨14, _⟩ => ⟨S2x1024x1152, .f32⟩
  | .hbm, ⟨15, _⟩ => ⟨S_, .f32⟩
  | .hbm, ⟨16, _⟩ => ⟨S2x1024x1152, .f32⟩
  | .hbm, ⟨17, _⟩ => ⟨S2x1024x1152, .f32⟩
  | .hbm, ⟨18, _⟩ => ⟨S2x1024x1152, .f32⟩
  | .hbm, ⟨19, _⟩ => ⟨S_, .f32⟩
  | .hbm, ⟨20, _⟩ => ⟨S2x1024x1152, .f32⟩
  | .hbm, ⟨21, _⟩ => ⟨S2x1024x1152, .f32⟩
  | .hbm, ⟨22, _⟩ => ⟨S2x1024x1152, .f32⟩
  | .hbm, ⟨23, _⟩ => ⟨S_, .f32⟩
  | .hbm, ⟨24, _⟩ => ⟨S2x1024x1152, .f32⟩
  | .hbm, ⟨25, _⟩ => ⟨S2x1024x1152, .f32⟩
  | .hbm, ⟨26, _⟩ => ⟨S_, .f32⟩
  | .hbm, ⟨27, _⟩ => ⟨S2x1024x1152, .f32⟩
  | .hbm, ⟨28, _⟩ => ⟨S2x1024x1152, .f32⟩
  | .hbm, ⟨29, _⟩ => ⟨S2x1024x1152, .f32⟩
  | .hbm, ⟨30, _⟩ => ⟨S_, .f32⟩
  | .hbm, ⟨31, _⟩ => ⟨S2x1024x1152, .f32⟩
  | .hbm, ⟨32, _⟩ => ⟨S2x1024x1152, .f32⟩
  | .hbm, ⟨33, _⟩ => ⟨S2x1024x1152, .f32⟩
  | .hbm, ⟨34, _⟩ => ⟨S_, .f32⟩
  | .hbm, ⟨35, _⟩ => ⟨S2x1024x1152, .f32⟩
  | .hbm, ⟨36, _⟩ => ⟨S2x1024x1152, .f32⟩
  | .hbm, ⟨37, _⟩ => ⟨S2x1024x1152, .f32⟩
  | .hbm, ⟨38, _⟩ => ⟨S_, .f32⟩
  | .hbm, ⟨39, _⟩ => ⟨S2x1024x1152, .f32⟩
  | .hbm, ⟨40, _⟩ => ⟨S2x1024x1152, .f32⟩
  | .hbm, ⟨41, _⟩ => ⟨S2048x1152, .f32⟩
  | .hbm, ⟨42, _⟩ => ⟨S2048x1152, .f32⟩
  | .hbm, ⟨43, _⟩ => ⟨S2048x1152, .f32⟩
  | .hbm, ⟨44, _⟩ => ⟨S2048x1152, .f32⟩
  | _, _ => ⟨S2x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel10.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .bf16⟩
  | .hbm, ⟨4, _⟩ => ⟨S2x1024x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .bf16⟩
  | .hbm, ⟨9, _⟩ => ⟨S2048x1408, .bf16⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel10Ideal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .bf16⟩
  | .hbm, ⟨4, _⟩ => ⟨S2x1024x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .bf16⟩
  | .hbm, ⟨9, _⟩ => ⟨S2048x1408, .bf16⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .bf16⟩
  | .hbm, ⟨4, _⟩ => ⟨S2x1024x1408, .bf16⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | .hbm, ⟨41, _⟩ => ⟨S2048x1408, .f32⟩
  | .hbm, ⟨42, _⟩ => ⟨S2048x1408, .f32⟩
  | .hbm, ⟨43, _⟩ => ⟨S2048x1408, .f32⟩
  | .hbm, ⟨44, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel11.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .bf16⟩
  | .hbm, ⟨4, _⟩ => ⟨S2x704x1024, .bf16⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .bf16⟩
  | .hbm, ⟨9, _⟩ => ⟨S1408x1024, .bf16⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel11Ideal.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .bf16⟩
  | .hbm, ⟨4, _⟩ => ⟨S2x704x1024, .bf16⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .bf16⟩
  | .hbm, ⟨9, _⟩ => ⟨S1408x1024, .bf16⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .bf16⟩
  | .hbm, ⟨4, _⟩ => ⟨S2x704x1024, .bf16⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S1408x1024, .f32⟩
  | .hbm, ⟨42, _⟩ => ⟨S1408x1024, .f32⟩
  | .hbm, ⟨43, _⟩ => ⟨S1408x1024, .f32⟩
  | .hbm, ⟨44, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel12.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .bf16⟩
  | .hbm, ⟨4, _⟩ => ⟨S2x256x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .bf16⟩
  | .hbm, ⟨9, _⟩ => ⟨S512x1024, .bf16⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .bf16⟩
  | .hbm, ⟨4, _⟩ => ⟨S2x256x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .bf16⟩
  | .hbm, ⟨9, _⟩ => ⟨S512x1024, .bf16⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .bf16⟩
  | .hbm, ⟨4, _⟩ => ⟨S2x256x1024, .bf16⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel13.lean ====
abbrev S2x512x256 : Shape := ⟨3, ![2, 512, 256]⟩
abbrev S1024x256 : Shape := ⟨2, ![1024, 256]⟩

abbrev nBuf : Space → Nat
  | .hbm => 14
  | .vmem => 9
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .bf16⟩
  | .hbm, ⟨4, _⟩ => ⟨S2x512x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .bf16⟩
  | .hbm, ⟨9, _⟩ => ⟨S1024x256, .bf16⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel13Ideal.lean ====
abbrev S2x512x256 : Shape := ⟨3, ![2, 512, 256]⟩
abbrev S1024x256 : Shape := ⟨2, ![1024, 256]⟩

abbrev nBuf : Space → Nat
  | .hbm => 14
  | .vmem => 9
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .bf16⟩
  | .hbm, ⟨4, _⟩ => ⟨S2x512x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .bf16⟩
  | .hbm, ⟨9, _⟩ => ⟨S1024x256, .bf16⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S2x512x256 : Shape := ⟨3, ![2, 512, 256]⟩
abbrev S_ : Shape := ⟨0, ![]⟩
abbrev S1024x256 : Shape := ⟨2, ![1024, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .bf16⟩
  | .hbm, ⟨4, _⟩ => ⟨S2x512x256, .bf16⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S_, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel14.lean ====
abbrev S2x3x1408 : Shape := ⟨3, ![2, 3, 1408]⟩
abbrev S6x1408 : Shape := ⟨2, ![6, 1408]⟩

abbrev nBuf : Space → Nat
  | .hbm => 12
  | .vmem => 8
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | .local _ .vmem, ⟨7, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S6x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 41
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | .hbm, ⟨40, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S2x1024 : Shape := ⟨2, ![2, 1024]⟩
abbrev S2x2048 : Shape := ⟨2, ![2, 2048]⟩
abbrev S2x4x128x128 : Shape := ⟨4, ![2, 4, 128, 128]⟩
abbrev S2x512 : Shape := ⟨2, ![2, 512]⟩
abbrev S2x128 : Shape := ⟨2, ![2, 128]⟩
abbrev S2x5632 : Shape := ⟨2, ![2, 5632]⟩
abbrev S1024 : Shape := ⟨1, ![1024]⟩
abbrev S2048 : Shape := ⟨1, ![2048]⟩
abbrev S4096 : Shape := ⟨1, ![4096]⟩
abbrev S131072 : Shape := ⟨1, ![131072]⟩
abbrev S256 : Shape := ⟨1, ![256]⟩
abbrev S_ : Shape := ⟨0, ![]⟩
abbrev S11264 : Shape := ⟨1, ![11264]⟩
abbrev S154624 : Shape := ⟨1, ![154624]⟩
abbrev S1208x128 : Shape := ⟨2, ![1208, 128]⟩

abbrev nBuf : Space → Nat
  | .hbm => 92
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x2048, .f32⟩
  | .hbm, ⟨2, _⟩ => ⟨S2x4x128x128, .f32⟩
  | .hbm, ⟨3, _⟩ => ⟨S2x512, .f32⟩
  | .hbm, ⟨4, _⟩ => ⟨S2x512, .f32⟩
  | .hbm, ⟨5, _⟩ => ⟨S2x128, .f32⟩
  | .hbm, ⟨6, _⟩ => ⟨S2x1024, .f32⟩
  | .hbm, ⟨7, _⟩ => ⟨S2x5632, .f32⟩
  | .hbm, ⟨8, _⟩ => ⟨S1024, .f32⟩
  | .hbm, ⟨9, _⟩ => ⟨S2x1024, .f32⟩
  | .hbm, ⟨10, _⟩ => ⟨S2x2048, .f32⟩
  | .hbm, ⟨11, _⟩ => ⟨S2x4x128x128, .f32⟩
  | .hbm, ⟨12, _⟩ => ⟨S2x512, .f32⟩
  | .hbm, ⟨13, _⟩ => ⟨S2x512, .f32⟩
  | .hbm, ⟨14, _⟩ => ⟨S2x128, .f32⟩
  | .hbm, ⟨15, _⟩ => ⟨S2x1024, .f32⟩
  | .hbm, ⟨16, _⟩ => ⟨S2x5632, .f32⟩
  | .hbm, ⟨17, _⟩ => ⟨S1024, .f32⟩
  | .hbm, ⟨18, _⟩ => ⟨S2x1024, .f32⟩
  | .hbm, ⟨19, _⟩ => ⟨S2x2048, .f32⟩
  | .hbm, ⟨20, _⟩ => ⟨S2x4x128x128, .f32⟩
  | .hbm, ⟨21, _⟩ => ⟨S2x512, .f32⟩
  | .hbm, ⟨22, _⟩ => ⟨S2x512, .f32⟩
  | .hbm, ⟨23, _⟩ => ⟨S2x128, .f32⟩
  | .hbm, ⟨24, _⟩ => ⟨S2x1024, .f32⟩
  | .hbm, ⟨25, _⟩ => ⟨S2x5632, .f32⟩
  | .hbm, ⟨26, _⟩ => ⟨S1024, .f32⟩
  | .hbm, ⟨27, _⟩ => ⟨S2x1024, .f32⟩
  | .hbm, ⟨28, _⟩ => ⟨S2x2048, .f32⟩
  | .hbm, ⟨29, _⟩ => ⟨S2x4x128x128, .f32⟩
  | .hbm, ⟨30, _⟩ => ⟨S2x512, .f32⟩
  | .hbm, ⟨31, _⟩ => ⟨S2x512, .f32⟩
  | .hbm, ⟨32, _⟩ => ⟨S2x128, .f32⟩
  | .hbm, ⟨33, _⟩ => ⟨S2x1024, .f32⟩
  | .hbm, ⟨34, _⟩ => ⟨S2x5632, .f32⟩
  | .hbm, ⟨35, _⟩ => ⟨S1024, .f32⟩
  | .hbm, ⟨36, _⟩ => ⟨S2048, .f32⟩
  | .hbm, ⟨37, _⟩ => ⟨S4096, .f32⟩
  | .hbm, ⟨38, _⟩ => ⟨S131072, .f32⟩
  | .hbm, ⟨39, _⟩ => ⟨S1024, .f32⟩
  | .hbm, ⟨40, _⟩ => ⟨S1024, .f32⟩
  | .hbm, ⟨41, _⟩ => ⟨S256, .f32⟩
  | .hbm, ⟨42, _⟩ => ⟨S_, .i32⟩
  | .hbm, ⟨43, _⟩ => ⟨S_, .f32⟩
  | .hbm, ⟨44, _⟩ => ⟨S1024, .f32⟩
  | .hbm, ⟨45, _⟩ => ⟨S2048, .f32⟩
  | .hbm, ⟨46, _⟩ => ⟨S11264, .f32⟩
  | .hbm, ⟨47, _⟩ => ⟨S154624, .f32⟩
  | .hbm, ⟨48, _⟩ => ⟨S1208x128, .f32⟩
  | .hbm, ⟨49, _⟩ => ⟨S2048, .f32⟩
  | .hbm, ⟨50, _⟩ => ⟨S4096, .f32⟩
  | .hbm, ⟨51, _⟩ => ⟨S131072, .f32⟩
  | .hbm, ⟨52, _⟩ => ⟨S1024, .f32⟩
  | .hbm, ⟨53, _⟩ => ⟨S1024, .f32⟩
  | .hbm, ⟨54, _⟩ => ⟨S256, .f32⟩
  | .hbm, ⟨55, _⟩ => ⟨S_, .i32⟩
  | .hbm, ⟨56, _⟩ => ⟨S_, .f32⟩
  | .hbm, ⟨57, _⟩ => ⟨S1024, .f32⟩
  | .hbm, ⟨58, _⟩ => ⟨S2048, .f32⟩
  | .hbm, ⟨59, _⟩ => ⟨S11264, .f32⟩
  | .hbm, ⟨60, _⟩ => ⟨S154624, .f32⟩
  | .hbm, ⟨61, _⟩ => ⟨S1208x128, .f32⟩
  | .hbm, ⟨62, _⟩ => ⟨S2048, .f32⟩
  | .hbm, ⟨63, _⟩ => ⟨S4096, .f32⟩
  | .hbm, ⟨64, _⟩ => ⟨S131072, .f32⟩
  | .hbm, ⟨65, _⟩ => ⟨S1024, .f32⟩
  | .hbm, ⟨66, _⟩ => ⟨S1024, .f32⟩
  | .hbm, ⟨67, _⟩ => ⟨S256, .f32⟩
  | .hbm, ⟨68, _⟩ => ⟨S_, .i32⟩
  | .hbm, ⟨69, _⟩ => ⟨S_, .f32⟩
  | .hbm, ⟨70, _⟩ => ⟨S1024, .f32⟩
  | .hbm, ⟨71, _⟩ => ⟨S2048, .f32⟩
  | .hbm, ⟨72, _⟩ => ⟨S11264, .f32⟩
  | .hbm, ⟨73, _⟩ => ⟨S154624, .f32⟩
  | .hbm, ⟨74, _⟩ => ⟨S1208x128, .f32⟩
  | .hbm, ⟨75, _⟩ => ⟨S2048, .f32⟩
  | .hbm, ⟨76, _⟩ => ⟨S4096, .f32⟩
  | .hbm, ⟨77, _⟩ => ⟨S131072, .f32⟩
  | .hbm, ⟨78, _⟩ => ⟨S1024, .f32⟩
  | .hbm, ⟨79, _⟩ => ⟨S1024, .f32⟩
  | .hbm, ⟨80, _⟩ => ⟨S256, .f32⟩
  | .hbm, ⟨81, _⟩ => ⟨S_, .i32⟩
  | .hbm, ⟨82, _⟩ => ⟨S_, .f32⟩
  | .hbm, ⟨83, _⟩ => ⟨S1024, .f32⟩
  | .hbm, ⟨84, _⟩ => ⟨S2048, .f32⟩
  | .hbm, ⟨85, _⟩ => ⟨S11264, .f32⟩
  | .hbm, ⟨86, _⟩ => ⟨S154624, .f32⟩
  | .hbm, ⟨87, _⟩ => ⟨S1208x128, .f32⟩
  | .hbm, ⟨88, _⟩ => ⟨S1208x128, .f32⟩
  | .hbm, ⟨89, _⟩ => ⟨S1208x128, .f32⟩
  | .hbm, ⟨90, _⟩ => ⟨S1208x128, .f32⟩
  | .hbm, ⟨91, _⟩ => ⟨S1208x128, .f32⟩
  | .local _ .vmem, ⟨0, _⟩ => ⟨S1208x128, .f32⟩
  | .local _ .vmem, ⟨1, _⟩ => ⟨S1208x128, .f32⟩
  | .local _ .vmem, ⟨2, _⟩ => ⟨S1208x128, .f32⟩
  | .local _ .vmem, ⟨3, _⟩ => ⟨S1208x128, .f32⟩
  | .local _ .vmem, ⟨4, _⟩ => ⟨S1208x128, .f32⟩
  | .local _ .vmem, ⟨5, _⟩ => ⟨S1208x128, .f32⟩
  | .local _ .vmem, ⟨6, _⟩ => ⟨S1208x128, .f32⟩
  | .local _ .vmem, ⟨7, _⟩ => ⟨S1208x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_c : Ref sig .tc := ⟨.hbm, 42, rfl⟩
abbrev main_call0_v0 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_c_0 : Ref sig .tc := ⟨.hbm, 55, rfl⟩
abbrev main_call1_v0 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_1 : Ref sig .tc := ⟨.hbm, 68, rfl⟩
abbrev main_call2_v0 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_2 : Ref sig .tc := ⟨.hbm, 81, rfl⟩
abbrev main_call3_v0 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev main_v44_3 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1208x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1208x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1208x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1208x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S2x1024 : Shape := ⟨2, ![2, 1024]⟩
abbrev S2x2048 : Shape := ⟨2, ![2, 2048]⟩
abbrev S2x4x128x128 : Shape := ⟨4, ![2, 4, 128, 128]⟩
abbrev S2x512 : Shape := ⟨2, ![2, 512]⟩
abbrev S2x128 : Shape := ⟨2, ![2, 128]⟩
abbrev S2x5632 : Shape := ⟨2, ![2, 5632]⟩
abbrev S1024 : Shape := ⟨1, ![1024]⟩
abbrev S_ : Shape := ⟨0, ![]⟩
abbrev S2048 : Shape := ⟨1, ![2048]⟩
abbrev S4096 : Shape := ⟨1, ![4096]⟩
abbrev S131072 : Shape := ⟨1, ![131072]⟩
abbrev S256 : Shape := ⟨1, ![256]⟩
abbrev S11264 : Shape := ⟨1, ![11264]⟩
abbrev S154624 : Shape := ⟨1, ![154624]⟩
abbrev S1208x128 : Shape := ⟨2, ![1208, 128]⟩

abbrev nBuf : Space → Nat
  | .hbm => 385
  | .vmem => 0
  | .smem => 0
  | _ => 0

abbrev hbmTy0_0 (i : Nat) : BufTy := match i % 128 with
  | 0 => ⟨S2x1024, .f32⟩
  | 1 => ⟨S2x2048, .f32⟩
  | 2 => ⟨S2x4x128x128, .f32⟩
  | 3 => ⟨S2x512, .f32⟩
  | 4 => ⟨S2x512, .f32⟩
  | 5 => ⟨S2x128, .f32⟩
  | 6 => ⟨S2x1024, .f32⟩
  | 7 => ⟨S2x5632, .f32⟩
  | 8 => ⟨S1024, .f32⟩
  | 9 => ⟨S2x1024, .f32⟩
  | 10 => ⟨S2x2048, .f32⟩
  | 11 => ⟨S2x4x128x128, .f32⟩
  | 12 => ⟨S2x512, .f32⟩
  | 13 => ⟨S2x512, .f32⟩
  | 14 => ⟨S2x128, .f32⟩
  | 15 => ⟨S2x1024, .f32⟩
  | 16 => ⟨S2x5632, .f32⟩
  | 17 => ⟨S1024, .f32⟩
  | 18 => ⟨S2x1024, .f32⟩
  | 19 => ⟨S2x2048, .f32⟩
  | 20 => ⟨S2x4x128x128, .f32⟩
  | 21 => ⟨S2x512, .f32⟩
  | 22 => ⟨S2x512, .f32⟩
  | 23 => ⟨S2x128, .f32⟩
  | 24 => ⟨S2x1024, .f32⟩
  | 25 => ⟨S2x5632, .f32⟩
  | 26 => ⟨S1024, .f32⟩
  | 27 => ⟨S2x1024, .f32⟩
  | 28 => ⟨S2x2048, .f32⟩
  | 29 => ⟨S2x4x128x128, .f32⟩
  | 30 => ⟨S2x512, .f32⟩
  | 31 => ⟨S2x512, .f32⟩
  | 32 => ⟨S2x128, .f32⟩
  | 33 => ⟨S2x1024, .f32⟩
  | 34 => ⟨S2x5632, .f32⟩
  | 35 => ⟨S1024, .f32⟩
  | 36 => ⟨S_, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S2x2048, .f32⟩
  | 84 => ⟨S_, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S_, .f32⟩
  | 103 => ⟨S2x4x128x128, .f32⟩
  | 104 => ⟨S2x4x128x128, .f32⟩
  | 105 => ⟨S_, .f32⟩
  | 106 => ⟨S2x4x128x128, .f32⟩
  | 107 => ⟨S2x4x128x128, .f32⟩
  | 108 => ⟨S2x4x128x128, .f32⟩
  | 109 => ⟨S_, .f32⟩
  | 110 => ⟨S2x4x128x128, .f32⟩
  | 111 => ⟨S2x4x128x128, .f32⟩
  | 112 => ⟨S2x4x128x128, .f32⟩
  | 113 => ⟨S_, .f32⟩
  | 114 => ⟨S2x4x128x128, .f32⟩
  | 115 => ⟨S2x4x128x128, .f32⟩
  | 116 => ⟨S2x4x128x128, .f32⟩
  | 117 => ⟨S_, .f32⟩
  | 118 => ⟨S2x4x128x128, .f32⟩
  | 119 => ⟨S2x4x128x128, .f32⟩
  | 120 => ⟨S_, .f32⟩
  | 121 => ⟨S2x4x128x128, .f32⟩
  | 122 => ⟨S2x4x128x128, .f32⟩
  | 123 => ⟨S2x4x128x128, .f32⟩
  | 124 => ⟨S_, .f32⟩
  | 125 => ⟨S2x4x128x128, .f32⟩
  | 126 => ⟨S2x4x128x128, .f32⟩
  | 127 => ⟨S2x4x128x128, .f32⟩
  | _ => ⟨S2x1024, .f32⟩

abbrev hbmTy0_1 (i : Nat) : BufTy := match i % 128 with
  | 0 => ⟨S_, .f32⟩
  | 1 => ⟨S2x4x128x128, .f32⟩
  | 2 => ⟨S2x4x128x128, .f32⟩
  | 3 => ⟨S2x4x128x128, .f32⟩
  | 4 => ⟨S_, .f32⟩
  | 5 => ⟨S2x4x128x128, .f32⟩
  | 6 => ⟨S2x4x128x128, .f32⟩
  | 7 => ⟨S_, .f32⟩
  | 8 => ⟨S2x512, .f32⟩
  | 9 => ⟨S2x512, .f32⟩
  | 10 => ⟨S_, .f32⟩
  | 11 => ⟨S2x512, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S_, .f32⟩
  | 74 => ⟨S2x128, .f32⟩
  | 75 => ⟨S2x128, .f32⟩
  | 76 => ⟨S_, .f32⟩
  | 77 => ⟨S2x128, .f32⟩
  | 78 => ⟨S2x128, .f32⟩
  | 79 => ⟨S2x128, .f32⟩
  | 80 => ⟨S_, .f32⟩
  | 81 => ⟨S2x128, .f32⟩
  | 82 => ⟨S2x128, .f32⟩
  | 83 => ⟨S2x128, .f32⟩
  | 84 => ⟨S_, .f32⟩
  | 85 => ⟨S2x128, .f32⟩
  | 86 => ⟨S2x128, .f32⟩
  | 87 => ⟨S2x128, .f32⟩
  | 88 => ⟨S_, .f32⟩
  | 89 => ⟨S2x128, .f32⟩
  | 90 => ⟨S2x128, .f32⟩
  | 91 => ⟨S_, .f32⟩
  | 92 => ⟨S2x128, .f32⟩
  | 93 => ⟨S2x128, .f32⟩
  | 94 => ⟨S2x128, .f32⟩
  | 95 => ⟨S_, .f32⟩
  | 96 => ⟨S2x128, .f32⟩
  | 97 => ⟨S2x128, .f32⟩
  | 98 => ⟨S2x128, .f32⟩
  | 99 => ⟨S_, .f32⟩
  | 100 => ⟨S2x128, .f32⟩
  | 101 => ⟨S2x128, .f32⟩
  | 102 => ⟨S2x128, .f32⟩
  | 103 => ⟨S_, .f32⟩
  | 104 => ⟨S2x128, .f32⟩
  | 105 => ⟨S2x128, .f32⟩
  | 106 => ⟨S_, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x1024, .f32⟩

abbrev hbmTy0_2 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S_, .f32⟩
  | 12 => ⟨S2x5632, .f32⟩
  | 13 => ⟨S2x5632, .f32⟩
  | 14 => ⟨S_, .f32⟩
  | 15 => ⟨S2x5632, .f32⟩
  | 16 => ⟨S2x5632, .f32⟩
  | 17 => ⟨S2x5632, .f32⟩
  | 18 => ⟨S_, .f32⟩
  | 19 => ⟨S2x5632, .f32⟩
  | 20 => ⟨S2x5632, .f32⟩
  | 21 => ⟨S2x5632, .f32⟩
  | 22 => ⟨S_, .f32⟩
  | 23 => ⟨S2x5632, .f32⟩
  | 24 => ⟨S2x5632, .f32⟩
  | 25 => ⟨S2x5632, .f32⟩
  | 26 => ⟨S_, .f32⟩
  | 27 => ⟨S2x5632, .f32⟩
  | 28 => ⟨S2x5632, .f32⟩
  | 29 => ⟨S_, .f32⟩
  | 30 => ⟨S2x5632, .f32⟩
  | 31 => ⟨S2x5632, .f32⟩
  | 32 => ⟨S2x5632, .f32⟩
  | 33 => ⟨S_, .f32⟩
  | 34 => ⟨S2x5632, .f32⟩
  | 35 => ⟨S2x5632, .f32⟩
  | 36 => ⟨S2x5632, .f32⟩
  | 37 => ⟨S_, .f32⟩
  | 38 => ⟨S2x5632, .f32⟩
  | 39 => ⟨S2x5632, .f32⟩
  | 40 => ⟨S2x5632, .f32⟩
  | 41 => ⟨S_, .f32⟩
  | 42 => ⟨S2x5632, .f32⟩
  | 43 => ⟨S2x5632, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S2048, .f32⟩
  | 78 => ⟨S4096, .f32⟩
  | 79 => ⟨S131072, .f32⟩
  | 80 => ⟨S1024, .f32⟩
  | 81 => ⟨S1024, .f32⟩
  | 82 => ⟨S256, .f32⟩
  | 83 => ⟨S_, .i32⟩
  | 84 => ⟨S_, .f32⟩
  | 85 => ⟨S1024, .f32⟩
  | 86 => ⟨S2048, .f32⟩
  | 87 => ⟨S11264, .f32⟩
  | 88 => ⟨S154624, .f32⟩
  | 89 => ⟨S1208x128, .f32⟩
  | 90 => ⟨S2048, .f32⟩
  | 91 => ⟨S4096, .f32⟩
  | 92 => ⟨S131072, .f32⟩
  | 93 => ⟨S1024, .f32⟩
  | 94 => ⟨S1024, .f32⟩
  | 95 => ⟨S256, .f32⟩
  | 96 => ⟨S_, .i32⟩
  | 97 => ⟨S_, .f32⟩
  | 98 => ⟨S1024, .f32⟩
  | 99 => ⟨S2048, .f32⟩
  | 100 => ⟨S11264, .f32⟩
  | 101 => ⟨S154624, .f32⟩
  | 102 => ⟨S1208x128, .f32⟩
  | 103 => ⟨S2048, .f32⟩
  | 104 => ⟨S4096, .f32⟩
  | 105 => ⟨S131072, .f32⟩
  | 106 => ⟨S1024, .f32⟩
  | 107 => ⟨S1024, .f32⟩
  | 108 => ⟨S256, .f32⟩
  | 109 => ⟨S_, .i32⟩
  | 110 => ⟨S_, .f32⟩
  | 111 => ⟨S1024, .f32⟩
  | 112 => ⟨S2048, .f32⟩
  | 113 => ⟨S11264, .f32⟩
  | 114 => ⟨S154624, .f32⟩
  | 115 => ⟨S1208x128, .f32⟩
  | 116 => ⟨S2048, .f32⟩
  | 117 => ⟨S4096, .f32⟩
  | 118 => ⟨S131072, .f32⟩
  | 119 => ⟨S1024, .f32⟩
  | 120 => ⟨S1024, .f32⟩
  | 121 => ⟨S256, .f32⟩
  | 122 => ⟨S_, .i32⟩
  | 123 => ⟨S_, .f32⟩
  | 124 => ⟨S1024, .f32⟩
  | 125 => ⟨S2048, .f32⟩
  | 126 => ⟨S11264, .f32⟩
  | 127 => ⟨S154624, .f32⟩
  | _ => ⟨S2x1024, .f32⟩

abbrev hbmTy0_3 (i : Nat) : BufTy := match i % 128 with
  | 0 => ⟨S1208x128, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_c : Ref sig .tc := ⟨.hbm, 339, rfl⟩
abbrev main_call0_v0 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_c_80 : Ref sig .tc := ⟨.hbm, 352, rfl⟩
abbrev main_call1_v0 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_c_81 : Ref sig .tc := ⟨.hbm, 365, rfl⟩
abbrev main_call2_v0 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_c_82 : Ref sig .tc := ⟨.hbm, 378, rfl⟩
abbrev main_call3_v0 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_v259 : Ref sig .tc := ⟨.hbm, 384, rfl⟩

abbrev nD : Nat := 1
abbrev τ : Topo := Topo.v7x

variable {F : FTy → Type} [FloatOps F]
-- ==== Proof.Ffn.Reference.lean ====
module

public import proofs.«01_k».proof.Proof.Gen.ReferenceIdeal.Run
public import Idealize.ShloMosaic.Lib.Pointwise

/-!
# The reference, in stages, and its results element by element

The reference differentiates the gated feed-forward block: a causal convolution of three taps over
the rows, a split into a value half and a gate half, `silu(gate) * value`, and a product with
`w_down`. The stages below are the arrays it forms on the way, in its own order.
-/

@[expose] public section

set_option maxRecDepth 16384

noncomputable section

namespace Cert.ReferenceIdeal.Ffn

open Cert.ReferenceIdeal Cert.ReferenceIdeal.Gen Cert.ReferenceIdeal.Value
open Idealize.ShloMosaic Idealize.ShloMosaic.TcCoe Idealize.SL.Sem Idealize.ShloMosaic.StableHlo

/-- The input with two rows of zeros in front. -/
def padded (h : FVec Ideal S8192x5632 .f32) : FVec Ideal S8194x5632 .f32 :=
  fn_main_v1 (F := Ideal) (broadcastInDim S2x5632 ![] bcast_S_S2x5632 (constant (F := Ideal) S_ .f32 0x00000000#32)) h

/-- Row `j` of the taps, repeated over all rows. -/
def tap0 (k : FVec Ideal S3x5632 .f32) : FVec Ideal S8192x5632 .f32 :=
  broadcastInDim S8192x5632 ![0, 1] bcast_S1x5632_S8192x5632_0_1
    (broadcastInDim S1x5632 ![1] bcast_S5632_S1x5632_1
      (shapeCast S5632 (extractStridedSlice S1x5632 ![0, 0] k slices_S3x5632_S1x5632_0_0) shapeCasts_S1x5632_S5632))

@[inherit_doc tap0]
def tap1 (k : FVec Ideal S3x5632 .f32) : FVec Ideal S8192x5632 .f32 :=
  broadcastInDim S8192x5632 ![0, 1] bcast_S1x5632_S8192x5632_0_1
    (broadcastInDim S1x5632 ![1] bcast_S5632_S1x5632_1
      (shapeCast S5632 (extractStridedSlice S1x5632 ![1, 0] k slices_S3x5632_S1x5632_1_0) shapeCasts_S1x5632_S5632))

@[inherit_doc tap0]
def tap2 (k : FVec Ideal S3x5632 .f32) : FVec Ideal S8192x5632 .f32 :=
  broadcastInDim S8192x5632 ![0, 1] bcast_S1x5632_S8192x5632_0_1
    (broadcastInDim S1x5632 ![1] bcast_S5632_S1x5632_1
      (shapeCast S5632 (extractStridedSlice S1x5632 ![2, 0] k slices_S3x5632_S1x5632_2_0) shapeCasts_S1x5632_S5632))

/-- The rows of the padded input that a tap meets: from row 0, 1 or 2 of it. -/
def rows0 (h : FVec Ideal S8192x5632 .f32) : FVec Ideal S8192x5632 .f32 :=
  extractStridedSlice S8192x5632 ![0, 0] (padded h) slices_S8194x5632_S8192x5632_0_0

@[inherit_doc rows0]
def rows1 (h : FVec Ideal S8192x5632 .f32) : FVec Ideal S8192x5632 .f32 :=
  extractStridedSlice S8192x5632 ![1, 0] (padded h) slices_S8194x5632_S8192x5632_1_0

@[inherit_doc rows0]
def rows2 (h : FVec Ideal S8192x5632 .f32) : FVec Ideal S8192x5632 .f32 :=
  extractStridedSlice S8192x5632 ![2, 0] (padded h) slices_S8194x5632_S8192x5632_2_0

/-- The convolution with its bias. -/
def conv (h : FVec Ideal S8192x5632 .f32) (k : FVec Ideal S3x5632 .f32) (b : FVec Ideal S5632 .f32) :
    FVec Ideal S8192x5632 .f32 :=
  addf (addf (addf (addf (broadcastInDim S8192x5632 ![] bcast_S_S8192x5632 (constant S_ .f32 0x00000000#32))
      (mulf (tap0 k) (rows0 h))) (mulf (tap1 k) (rows1 h))) (mulf (tap2 k) (rows2 h)))
    (broadcastInDim S8192x5632 ![0, 1] bcast_S1x5632_S8192x5632_0_1
      (broadcastInDim S1x5632 ![1] bcast_S5632_S1x5632_1 b))

/-- The value half. -/
def val (u : FVec Ideal S8192x5632 .f32) : FVec Ideal S8192x2816 .f32 :=
  extractStridedSlice S8192x2816 ![0, 0] u slices_S8192x5632_S8192x2816_0_0

/-- The gate half. -/
def gate (u : FVec Ideal S8192x5632 .f32) : FVec Ideal S8192x2816 .f32 :=
  extractStridedSlice S8192x2816 ![0, 2816] u slices_S8192x5632_S8192x2816_0_2816

/-- An array of ones. -/
def ones : FVec Ideal S8192x2816 .f32 :=
  broadcastInDim S8192x2816 ![] bcast_S_S8192x2816 (constant S_ .f32 0x3F800000#32)

/-- The logistic function, written out. -/
def sigm (g : FVec Ideal S8192x2816 .f32) : FVec Ideal S8192x2816 .f32 :=
  Host.divf ones (addf ones (Host.exp (Host.negf g)))

/-- `silu`. -/
def silu (g : FVec Ideal S8192x2816 .f32) : FVec Ideal S8192x2816 .f32 := mulf g (sigm g)

/-- The gated activation. -/
def act (u : FVec Ideal S8192x5632 .f32) : FVec Ideal S8192x2816 .f32 := mulf (silu (gate u)) (val u)

/-- The gradient with respect to the gated activation. -/
def dact (ct : FVec Ideal S8192x1024 .f32) (w : FVec Ideal S2816x1024 .f32) : FVec Ideal S8192x2816 .f32 :=
  Host.dotGeneral dot_S8192x1024_S2816x1024_S8192x2816_1_1_0_0_n_n none ct w

/-- The gradient of the gate half. -/
def dgate (u : FVec Ideal S8192x5632 .f32) (d : FVec Ideal S8192x2816 .f32) : FVec Ideal S8192x2816 .f32 :=
  addf (mulf (mulf d (val u)) (sigm (gate u)))
    (mulf (mulf (gate u) (mulf d (val u))) (mulf (sigm (gate u)) (subf ones (sigm (gate u)))))

/-- The gradient with respect to the output of the convolution, both halves. -/
def dconv (u : FVec Ideal S8192x5632 .f32) (d : FVec Ideal S8192x2816 .f32) : FVec Ideal S8192x5632 .f32 :=
  fn_main_v39 (F := Ideal) (mulf (silu (gate u)) d) (dgate u d)

/-- The gradient of the bias. -/
def dbias (D : FVec Ideal S8192x5632 .f32) : FVec Ideal S1x5632 .f32 :=
  shapeCast S1x5632
    (Host.reduceAdd (shapeCast S1x5632 (Host.reduceAdd D (constant S_ .f32 0x00000000#32) reducesTo_S8192x5632_S5632_d0 h_S_)
        shapeCasts_S5632_S1x5632) (constant S_ .f32 0x00000000#32) reducesTo_S1x5632_S5632_d0 h_S_)
    shapeCasts_S5632_S1x5632

/-- The sum over the rows of one tap's products. -/
def tapSum (D r : FVec Ideal S8192x5632 .f32) : FVec Ideal S1x5632 .f32 :=
  broadcastInDim S1x5632 ![1] bcast_S5632_S1x5632_1
    (Host.reduceAdd (shapeCast S1x5632
      (Host.reduceAdd (mulf D r) (constant S_ .f32 0x00000000#32) reducesTo_S8192x5632_S5632_d0 h_S_)
        shapeCasts_S5632_S1x5632) (constant S_ .f32 0x00000000#32) reducesTo_S1x5632_S5632_d0 h_S_)

/-- The gradient of the three taps. -/
def dtaps (h D : FVec Ideal S8192x5632 .f32) : FVec Ideal S3x5632 .f32 :=
  addf (addf
      (pad S3x5632 ![2, 0] ![0, 0] ![0, 0] (tapSum D (rows2 h)) (constant S_ .f32 0x00000000#32) pads_S1x5632_S3x5632_200_000 h_S_)
      (pad S3x5632 ![1, 0] ![1, 0] ![0, 0] (tapSum D (rows1 h)) (constant S_ .f32 0x00000000#32) pads_S1x5632_S3x5632_110_000 h_S_))
    (pad S3x5632 ![0, 0] ![2, 0] ![0, 0] (tapSum D (rows0 h)) (constant S_ .f32 0x00000000#32) pads_S1x5632_S3x5632_020_000 h_S_)

/-- The gradient with respect to the input of the convolution. -/
def dinput (k : FVec Ideal S3x5632 .f32) (D : FVec Ideal S8192x5632 .f32) : FVec Ideal S8192x5632 .bf16 :=
  truncf .bf16 (extractStridedSlice S8192x5632 ![2, 0]
    (addf (addf
      (pad S8194x5632 ![2, 0] ![0, 0] ![0, 0] (mulf (tap2 k) D) (constant S_ .f32 0x00000000#32) pads_S8192x5632_S8194x5632_200_000 h_S_)
      (pad S8194x5632 ![1, 0] ![1, 0] ![0, 0] (mulf (tap1 k) D) (constant S_ .f32 0x00000000#32) pads_S8192x5632_S8194x5632_110_000 h_S_))
      (pad S8194x5632 ![0, 0] ![2, 0] ![0, 0] (mulf (tap0 k) D) (constant S_ .f32 0x00000000#32) pads_S8192x5632_S8194x5632_020_000 h_S_))
    slices_S8194x5632_S8192x5632_2_0) bitsLt_bf16_f32

/-- The gradient of `w_down`. -/
def dweight (ct : FVec Ideal S8192x1024 .f32) (a : FVec Ideal S8192x2816 .f32) : FVec Ideal S4x704x1024 .f32 :=
  shapeCast S4x704x1024 (transpose S2816x1024 [1, 0]
    (Host.dotGeneral dot_S8192x1024_S8192x2816_S1024x2816_0_0_1_1_n_n none ct a) transposes_S1024x2816_S2816x1024_1_0)
    shapeCasts_S2816x1024_S4x704x1024

/-- The gradient with respect to the convolution's output, of the arguments. -/
def gradConv (h : FVec Ideal S8192x5632 .f32) (k : FVec Ideal S3x5632 .f32) (b : FVec Ideal S5632 .f32)
    (w : FVec Ideal S2816x1024 .f32) (ct : FVec Ideal S8192x1024 .f32) : FVec Ideal S8192x5632 .f32 :=
  dconv (conv h k b) (dact ct w)

/-- A column of an array with zeros below its last row. -/
def colExt (D : FVec Ideal S8192x5632 .f32) (c : Fin 5632) (n : ℕ) : EReal :=
  if h : n < 8192 then D (ix2 ⟨n, h⟩ c) else 0

/-- The padded input at a row. -/
theorem padded_apply (h : FVec Ideal S8192x5632 .f32) (t : Fin 8194) (c : Fin 5632) :
    padded h (ix2 t c) = if g : t.val < 2 then 0 else h (ix2 ⟨t.val - 2, by omega⟩ c) := by
  pointwise [padded, fn_main_v1]

/-- The gradient with respect to the input: each row meets the output rows that its taps reach. -/
theorem dinput_apply (k : FVec Ideal S3x5632 .f32) (D : FVec Ideal S8192x5632 .f32) (t : Fin 8192) (c : Fin 5632) :
    dinput k D (ix2 t c) = k (ix2 2 c) * colExt D c t.val + k (ix2 1 c) * colExt D c (t.val + 1)
      + k (ix2 0 c) * colExt D c (t.val + 2) := by
  pointwise [dinput, tap0, tap1, tap2]
  have e0 : colExt D c t.val = D (ix2 t c) := dif_pos t.isLt
  have e1 : (if h : 1 ≤ 2 + t.val ∧ 2 + t.val - 1 < 8192 then k (ix2 1 c) * D (ix2 ⟨2 + t.val - 1, by omega⟩ c) else 0)
      = k (ix2 1 c) * colExt D c (t.val + 1) := by
    unfold colExt
    by_cases h : t.val + 1 < 8192
    · rw [dif_pos h, dif_pos (by omega)]
      exact congrArg (fun n : Fin 8192 => k (ix2 1 c) * D (ix2 n c)) (Fin.ext (by show 2 + t.val - 1 = t.val + 1; omega))
    · rw [dif_neg h, dif_neg (by omega), mul_zero]
  have e2 : (if h : 2 + t.val < 8192 then k (ix2 0 c) * D (ix2 ⟨2 + t.val, by omega⟩ c) else 0)
      = k (ix2 0 c) * colExt D c (t.val + 2) := by
    unfold colExt
    by_cases h : t.val + 2 < 8192
    · rw [dif_pos h, dif_pos (by omega)]
      exact congrArg (fun n : Fin 8192 => k (ix2 0 c) * D (ix2 n c)) (Fin.ext (by show 2 + t.val = t.val + 2; omega))
    · rw [dif_neg h, dif_neg (by omega), mul_zero]
  rw [e0, e1, e2]

/-- Moving a sum from the output rows to the input rows they meet. -/
theorem sum_shift (D H : ℕ → EReal) (M d : ℕ) :
    ∑ t ∈ Finset.range (M + d), D t * (if t < d then 0 else H (t - d)) =
      ∑ s ∈ Finset.range (M + d), (if s + d < M + d then D (s + d) else 0) * H s := by
  have l := Finset.sum_range_add (fun t => D t * (if t < d then 0 else H (t - d))) d M
  have r := Finset.sum_range_add (fun s => (if s + d < M + d then D (s + d) else 0) * H s) M d
  have a : ∑ x ∈ Finset.range d, D x * (if x < d then 0 else H (x - d)) = 0 :=
    Finset.sum_eq_zero fun x hx => by rw [if_pos (Finset.mem_range.mp hx), mul_zero]
  have b : ∑ x ∈ Finset.range d, (if M + x + d < M + d then D (M + x + d) else 0) * H (M + x) = 0 :=
    Finset.sum_eq_zero fun x _ => by rw [if_neg (by omega), zero_mul]
  rw [r, b, add_zero, Nat.add_comm M d, l, a, zero_add]
  refine Finset.sum_congr rfl fun x hx => ?_
  have := Finset.mem_range.mp hx
  rw [if_neg (by omega), if_pos (by omega), Nat.add_sub_cancel_left, Nat.add_comm]

/-- The gradient of a tap: products of the output rows with the input rows `2 - j` places above. -/
theorem dtaps_apply (h D : FVec Ideal S8192x5632 .f32) (j : Fin 3) (c : Fin 5632) :
    dtaps h D (ix2 j c) = ∑ t : Fin 8192, colExt D c (t.val + (2 - j.val)) * h (ix2 t c) := by
  have gen : ∀ d : ℕ, d ≤ 2 → ∑ t : Fin 8192, D (ix2 t c) * padded h (ix2 ⟨t.val + (2 - d), by omega⟩ c)
      = ∑ t : Fin 8192, colExt D c (t.val + d) * h (ix2 t c) := by
    intro d hd
    have := sum_shift (colExt D c) (colExt h c) (8192 - d) d
    rw [show 8192 - d + d = 8192 by omega, ← Fin.sum_univ_eq_sum_range, ← Fin.sum_univ_eq_sum_range] at this
    refine Eq.trans (Finset.sum_congr rfl fun t _ => ?_) (this.trans (Finset.sum_congr rfl fun t _ => ?_))
    · rw [padded_apply, show colExt D c t.val = D (ix2 t c) from dif_pos t.isLt]
      by_cases g : t.val < d
      · rw [if_pos g, dif_pos (by show t.val + (2 - d) < 2; omega)]
      · rw [if_neg g, dif_neg (by show ¬ t.val + (2 - d) < 2; omega)]
        unfold colExt
        rw [dif_pos (by omega)]
        exact congrArg (fun n : Fin 8192 => D (ix2 t c) * h (ix2 n c)) (Fin.ext (by show t.val + (2 - d) - 2 = t.val - d; omega))
    · rw [show colExt h c t.val = h (ix2 t c) from dif_pos t.isLt]
      unfold colExt
      by_cases g : t.val + d < 8192
      · rw [if_pos g]
      · rw [if_neg g, dif_neg g]
  pointwise [dtaps, tapSum, rows0, rows1, rows2]
  fin_cases j
  · simp
    exact gen 2 le_rfl
  · simp
    refine Eq.trans (Finset.sum_congr rfl fun t _ => ?_) (gen 1 (by omega))
    exact congrArg (fun n : Fin 8194 => D (ix2 t c) * padded h (ix2 n c)) (Fin.ext (by dsimp only; omega))
  · simp
    refine Eq.trans (Finset.sum_congr rfl fun t _ => ?_) (gen 0 (by omega))
    exact congrArg (fun n : Fin 8194 => D (ix2 t c) * padded h (ix2 n c)) (Fin.ext (by dsimp only; omega))

/-- The gradient of the bias: the sum of the rows. -/
theorem dbias_apply (D : FVec Ideal S8192x5632 .f32) (c : Fin 5632) :
    dbias D (ix2 0 c) = ∑ t : Fin 8192, D (ix2 t c) := by
  pointwise [dbias]
  simp

/-- The gradient of `w_down`. -/
theorem dweight_apply (ct : FVec Ideal S8192x1024 .f32) (a : FVec Ideal S8192x2816 .f32) (p : Fin 4) (q : Fin 704) (d : Fin 1024) :
    dweight ct a (ix3 p q d) = ∑ t : Fin 8192, ct (ix2 t d) * a (ix2 t ⟨p.val * 704 + q.val, by omega⟩) := by
  pointwise [dweight]

/-- The gradient with respect to the gated activation. -/
theorem dact_apply (ct : FVec Ideal S8192x1024 .f32) (w : FVec Ideal S2816x1024 .f32) (t : Fin 8192) (c : Fin 2816) :
    dact ct w (ix2 t c) = ∑ d : Fin 1024, ct (ix2 t d) * w (ix2 c d) := by
  pointwise [dact]

/-- The written-out logistic function is the logistic function. -/
theorem sigm_apply (g : FVec Ideal S8192x2816 .f32) (t : Fin 8192) (c : Fin 2816) :
    sigm g (ix2 t c) = Ideal.logistic (g (ix2 t c)) := by
  pointwise [sigm, ones]
  rfl

/-- The value half of the gradient with respect to the convolution's output. -/
theorem dconv_val (u : FVec Ideal S8192x5632 .f32) (d : FVec Ideal S8192x2816 .f32) (t : Fin 8192) (c : Fin 2816) :
    dconv u d (ix2 t ⟨c.val, by omega⟩) =
      gate u (ix2 t c) * Ideal.logistic (gate u (ix2 t c)) * d (ix2 t c) := by
  pointwise [dconv, fn_main_v39, silu]
  rw [sigm_apply]

/-- The gate half of the gradient with respect to the convolution's output. -/
theorem dconv_gate (u : FVec Ideal S8192x5632 .f32) (d : FVec Ideal S8192x2816 .f32) (t : Fin 8192) (c : Fin 2816) :
    dconv u d (ix2 t ⟨c.val + 2816, by omega⟩) =
      d (ix2 t c) * val u (ix2 t c) * Ideal.logistic (gate u (ix2 t c))
        + gate u (ix2 t c) * (d (ix2 t c) * val u (ix2 t c)) *
          (Ideal.logistic (gate u (ix2 t c)) * (1 - Ideal.logistic (gate u (ix2 t c)))) := by
  pointwise [dconv, fn_main_v39, dgate, ones]
  rw [dif_neg (by omega)]
  simp only [Nat.add_sub_cancel, Fin.eta, sigm_apply]

end Cert.ReferenceIdeal.Ffn
end
-- ==== Proof.Ffn.Host.lean ====
module

public import proofs.«01_k».proof.Proof.Gen.KernelIdeal.Frame
public import Idealize.ShloMosaic.Lib.Pipeline.ValueKit
public import Idealize.ShloMosaic.Lib.Claim
public import proofs.«01_k».proof.Proof.Ffn.Reference

/-!
# The arrays the host code hands to the kernel

They are the reference's own stages, taken of the kernel program's arguments.
-/

@[expose] public section

set_option maxRecDepth 16384

noncomputable section

open Idealize.ShloMosaic Idealize.ShloMosaic.TcCoe Idealize.SL.Sem

namespace Cert.KernelIdeal.Ffn

open Cert.KernelIdeal Cert.KernelIdeal.Gen

variable (m : (ℓ : Loc nD τ sig) → Buf (Elt Ideal) ℓ) (c : Dev nD)

open Cert.ReferenceIdeal.Ffn (conv val gate act)

/-- The arguments, at their types. -/
abbrev aH : FVec Ideal S8192x5632 .f32 := m ((c : Thread nD τ).loc main_arg0)
@[inherit_doc aH] abbrev aK : FVec Ideal S3x5632 .f32 := m ((c : Thread nD τ).loc main_arg1)
@[inherit_doc aH] abbrev aB : FVec Ideal S5632 .f32 := m ((c : Thread nD τ).loc main_arg2)
@[inherit_doc aH] abbrev aW : FVec Ideal S2816x1024 .f32 := m ((c : Thread nD τ).loc main_arg3)
@[inherit_doc aH] abbrev aC : FVec Ideal S8192x1024 .f32 := m ((c : Thread nD τ).loc main_arg4)

/-- The output of the convolution. -/
abbrev pre : FVec Ideal S8192x5632 .f32 := conv (aH m c) (aK m c) (aB m c)

/-- `main_v33`: the value half of the block's input. -/
theorem V_hv : V m c main_v33 = extractStridedSlice S8192x2816 ![0, 0] (aH m c) slices_S8192x5632_S8192x2816_0_0 := by
  simp only [V, hostOps0, hostOps0_1, hostOps0_2, List.flatten_cons, List.flatten_nil, List.append_nil,
    List.cons_append, List.nil_append]
  entry_read
  rfl

/-- `main_v34`: its gate half. -/
theorem V_hg : V m c main_v34 = extractStridedSlice S8192x2816 ![0, 2816] (aH m c) slices_S8192x5632_S8192x2816_0_2816 := by
  simp only [V, hostOps0, hostOps0_1, hostOps0_2, List.flatten_cons, List.flatten_nil, List.append_nil,
    List.cons_append, List.nil_append]
  entry_read
  rfl

/-- `main_v35`: the value half of the convolution's output. -/
theorem V_val : V m c main_v35 = val (pre m c) := by
  simp only [V, hostOps0, hostOps0_1, hostOps0_2, List.flatten_cons, List.flatten_nil, List.append_nil,
    List.cons_append, List.nil_append]
  entry_read
  rfl

/-- `main_v36`: its gate half. -/
theorem V_gate : V m c main_v36 = gate (pre m c) := by
  simp only [V, hostOps0, hostOps0_1, hostOps0_2, List.flatten_cons, List.flatten_nil, List.append_nil,
    List.cons_append, List.nil_append]
  entry_read
  rfl

/-- `main_v37`: the activation. -/
theorem V_act : V m c main_v37 = act (pre m c) := by
  simp only [V, hostOps0, hostOps0_1, hostOps0_2, List.flatten_cons, List.flatten_nil, List.append_nil,
    List.cons_append, List.nil_append]
  entry_read
  rfl

/-- `main_v39`: the weights, in four groups of 704 rows. -/
theorem V_w : V m c main_v39 = shapeCast S4x704x1024 (aW m c) shapeCasts_S2816x1024_S4x704x1024 := by
  simp only [V, hostOps0, hostOps0_1, hostOps0_2, List.flatten_cons, List.flatten_nil, List.append_nil,
    List.cons_append, List.nil_append]
  entry_read
  rfl

end Cert.KernelIdeal.Ffn
end
-- ==== Proof.Ffn.Block.lean ====
module

public import proofs.«01_k».proof.Proof.Gen.KernelIdeal.Skeleton
public import Idealize.ShloMosaic.Lib.Pipeline.ValueKit
public import Idealize.ShloMosaic.Lib.Pointwise

/-!
# What one grid point of the feed-forward gradient computes, element by element

A grid point holds 512 rows and 1408 columns. Each lemma reads one of the arrays the body forms
there at one index: the gradient of the product with `w_down`, the two gradients of the gated unit,
the rows one and two places further down (which the last rows take from the carried strip `s`, the
first eight rows of the tile below), and the new contents of the accumulators.
-/

@[expose] public section

set_option maxRecDepth 16384

noncomputable section

open Idealize.ShloMosaic Idealize.ShloMosaic.TcCoe Idealize.SL.Sem

namespace Cert.KernelIdeal.Ffn

open Cert.KernelIdeal Cert.KernelIdeal.Gen

/-- A tile of 512 rows by 1408 columns. -/
abbrev Tile := FVec Ideal S512x1408 .f32

/-- A strip of eight rows, carried from one tile to the next. -/
abbrev Strip := FVec Ideal S8x1408 .f32

/-- The gradient with respect to the gated activation: a row of the cotangent times a row of
`w_down`. -/
theorem da_apply (x : Vec Ideal S512x1024 .f32) (w : Vec Ideal S2x704x1024 .bf16) (r : Fin 512)
    (c : Fin 1408) :
    k0_pay17 x w (ix2 r c) =
      ∑ d : Fin 1024, x (ix2 r d) * w (ix3 ⟨c.val / 704, by omega⟩ ⟨c.val % 704, by omega⟩ d) := by
  pointwise [k0_pay17, k0_pay12]

/-- The accumulator of the weight gradient gains the products over the tile's rows. -/
theorem dwd_apply (x : Vec Ideal S512x1024 .f32) (acc : Vec Ideal S2x704x1024 .f32)
    (a : Vec Ideal S512x1408 .bf16) (p : Fin 2) (q : Fin 704) (d : Fin 1024) :
    k0_pay16 x acc a (ix3 p q d) =
      acc (ix3 p q d) + ∑ r : Fin 512, a (ix2 r ⟨p.val * 704 + q.val, by omega⟩) * x (ix2 r d) := by
  pointwise [k0_pay16, k0_pay12]

/-- The gradient of the value half: the gradient times `silu` of the gate. -/
theorem dval_apply (x : Vec Ideal S512x1024 .f32) (g : Vec Ideal S512x1408 .bf16)
    (w : Vec Ideal S2x704x1024 .bf16) (r : Fin 512) (c : Fin 1408) :
    k0_pay18 x g w (ix2 r c) =
      k0_pay17 x w (ix2 r c) * (g (ix2 r c) * Ideal.logistic (g (ix2 r c))) := by
  pointwise [k0_pay18, k0_pay14, k0_pay15]

/-- The gradient of the gate half: the gradient times the value times the slope of `silu`. -/
theorem dgate_apply (v g : Vec Ideal S512x1408 .bf16) (a : Tile) (r : Fin 512) (c : Fin 1408) :
    k0_pay29 (k0_pay13 v) (k0_pay14 g) (k0_pay15 g) a (ix2 r c) =
      a (ix2 r c) * v (ix2 r c) *
        (Ideal.logistic (g (ix2 r c)) *
          (1 + g (ix2 r c) * (1 - Ideal.logistic (g (ix2 r c))))) := by
  pointwise [k0_pay29, k0_pay13, k0_pay14, k0_pay15]

/-- The row one place further down. -/
theorem n1_apply (v : Tile) (s : Vec Ideal S8x1408 .f32) (r : Fin 512) (c : Fin 1408) :
    k0_pay21 v s (ix2 r c) =
      if h : r.val + 1 < 512 then v (ix2 ⟨r.val + 1, h⟩ c)
      else s (ix2 ⟨r.val + 1 - 512, by omega⟩ c) := by
  pointwise [k0_pay21, k0_pay20]
  have hc : ∀ k : Fin 8, IntOp.cmpi .slt (BitVec.ofNat 32 k.val) 7#32
      = BitVec.ofBool (decide (k.val < 7)) := by decide
  rw [hc ⟨r.val % 8, by omega⟩]
  by_cases h : r.val % 8 < 7
  · have e : r.val / 8 * 8 + (r.val % 8 + 8 - 7) % 8 = r.val + 1 := by omega
    simp only [Scalar.select, h, e, decide_true, BitVec.ofBool_true, if_true]
  · have e : (1 + r.val / 8) * 8 + (r.val % 8 + 8 - 7) % 8 = r.val + 1 := by omega
    simp only [Scalar.select, h, e, decide_false, BitVec.ofBool_false]
    rfl

/-- The row two places further down. -/
theorem n2_apply (v : Tile) (s : Vec Ideal S8x1408 .f32) (r : Fin 512) (c : Fin 1408) :
    k0_pay22 v s (ix2 r c) =
      if h : r.val + 2 < 512 then v (ix2 ⟨r.val + 2, h⟩ c)
      else s (ix2 ⟨r.val + 2 - 512, by omega⟩ c) := by
  pointwise [k0_pay22, k0_pay20]
  have hc : ∀ k : Fin 8, IntOp.cmpi .slt (BitVec.ofNat 32 k.val) 6#32
      = BitVec.ofBool (decide (k.val < 6)) := by decide
  rw [hc ⟨r.val % 8, by omega⟩]
  by_cases h : r.val % 8 < 6
  · have e : r.val / 8 * 8 + (r.val % 8 + 8 - 6) % 8 = r.val + 2 := by omega
    simp only [Scalar.select, h, e, decide_true, BitVec.ofBool_true, if_true]
  · have e : (1 + r.val / 8) * 8 + (r.val % 8 + 8 - 6) % 8 = r.val + 2 := by omega
    simp only [Scalar.select, h, e, decide_false, BitVec.ofBool_false]
    rfl

/-- The gradient with respect to the input of the convolution. -/
theorem dh_apply (v : Tile) (k : Vec Ideal S3x1408 .f32) (s : Vec Ideal S8x1408 .f32) (r : Fin 512)
    (c : Fin 1408) :
    k0_pay23 v k s (ix2 r c) =
      k (ix2 2 c) * v (ix2 r c) + k (ix2 1 c) * k0_pay21 v s (ix2 r c)
        + k (ix2 0 c) * k0_pay22 v s (ix2 r c) := by
  pointwise [k0_pay23]

/-- The strip carried on is the tile's first eight rows. -/
theorem strip_apply (v : Tile) (r : Fin 8) (c : Fin 1408) :
    k0_pay24 v (ix2 r c) = v (ix2 ⟨r.val, by omega⟩ c) := by
  pointwise [k0_pay24]

/-- The gradient of the tap two rows back gains the tile's rows. -/
theorem tap0_apply (v h : Tile) (s : Vec Ideal S8x1408 .f32) (o : Vec Ideal S1x1408 .f32)
    (c : Fin 1408) :
    k0_pay25 v h s o (ix2 0 c) =
      o (ix2 0 c) + ∑ r : Fin 512, k0_pay22 v s (ix2 r c) * h (ix2 r c) := by
  pointwise [k0_pay25]

/-- The gradient of the tap one row back gains the tile's rows. -/
theorem tap1_apply (h n : Tile) (o : Vec Ideal S1x1408 .f32) (c : Fin 1408) :
    k0_pay26 h n o (ix2 0 c) = o (ix2 0 c) + ∑ r : Fin 512, n (ix2 r c) * h (ix2 r c) := by
  pointwise [k0_pay26]

/-- The gradient of the tap at the row itself gains the tile's rows. -/
theorem tap2_apply (v h : Tile) (o : Vec Ideal S1x1408 .f32) (c : Fin 1408) :
    k0_pay27 v h o (ix2 0 c) = o (ix2 0 c) + ∑ r : Fin 512, v (ix2 r c) * h (ix2 r c) := by
  pointwise [k0_pay27]

/-- The gradient of the bias gains the tile's rows. -/
theorem bias_apply (v : Tile) (o : Vec Ideal S1x1408 .f32) (c : Fin 1408) :
    k0_pay28 v o (ix2 0 c) = o (ix2 0 c) + ∑ r : Fin 512, v (ix2 r c) := by
  pointwise [k0_pay28]

/-- The gate half goes through the same steps as the value half. -/
theorem gate_steps :
    @k0_pay30 Ideal = @k0_pay19 Ideal ∧ @k0_pay32 Ideal = @k0_pay21 Ideal ∧ @k0_pay33 Ideal = @k0_pay22 Ideal
      ∧ @k0_pay34 Ideal = @k0_pay23 Ideal ∧ @k0_pay35 Ideal = @k0_pay24 Ideal
      ∧ @k0_pay36 Ideal = @k0_pay25 Ideal ∧ @k0_pay1 Ideal = @k0_pay26 Ideal
      ∧ @k0_pay2 Ideal = @k0_pay27 Ideal ∧ @k0_pay3 Ideal = @k0_pay28 Ideal :=
  ⟨rfl, rfl, rfl, rfl, rfl, rfl, rfl, rfl, rfl⟩

/-- A read of the 16-bit copy is the value itself. -/
theorem h_eq (h : Vec Ideal S512x1408 .bf16) : k0_pay19 h = (h : Tile) := by
  funext i
  idx_vars i
  pointwise [k0_pay19]

/-- The 16-bit copy of the accumulator is the accumulator. -/
theorem dwd16_eq (d : Vec Ideal S2x704x1024 .f32) : k0_pay4 d = d := by
  funext i
  idx_vars i
  pointwise [k0_pay4]

end Cert.KernelIdeal.Ffn
end
-- ==== Proof.Ffn.Step.lean ====
module

public import proofs.«01_k».proof.Proof.Gen.KernelIdeal.Frame
public import Idealize.ShloMosaic.Lib.Pipeline.ValueKit
public import Idealize.ShloMosaic.Lib.Pipeline.ReadBack
public import proofs.«01_k».proof.Proof.Ffn.Block

/-!
# What one grid point leaves in its buffers

The grid has two column halves of sixteen row tiles each, the tiles taken from the last to the
first. At the first point of a column half the accumulators and the carried strips start at zero.
-/

@[expose] public section

set_option maxRecDepth 16384

noncomputable section

open Idealize.ShloMosaic Idealize.ShloMosaic.TcCoe Idealize.SL.Sem

namespace Cert.KernelIdeal.Ffn

open Cert.KernelIdeal Cert.KernelIdeal.Gen

variable (m : (ℓ : Loc nD τ sig) → Buf (Elt Ideal) ℓ) (c : Dev nD)

/-- The point before. -/
abbrev prev (t : Fin cfg0.N) : Fin cfg0.N := ⟨t.val - 1, Nat.lt_of_le_of_lt (Nat.sub_le _ _) t.isLt⟩

/-- The tile of the value half's gradient at a point. -/
def dvT (t : Fin cfg0.N) : Tile := k0_pay18 (iblk m c 0 t) (iblk m c 4 t) (iblk m c 8 t)

/-- The tile of the gate half's gradient at a point. -/
def dgT (t : Fin cfg0.N) : Tile :=
  k0_pay29 (k0_pay13 (iblk m c 3 t)) (k0_pay14 (iblk m c 4 t)) (k0_pay15 (iblk m c 4 t))
    (k0_pay17 (iblk m c 0 t) (iblk m c 8 t))

/-- The strip a point finds: zeros at the first tile, else the first rows of the tile before. -/
def strip (d : Fin cfg0.N → Tile) (t : Fin cfg0.N) : Strip :=
  if t.val % 16 = 0 then k0_pay5 else k0_pay24 (d (prev t))

/-- The three cases of a point. -/
theorem point_cases (t : Fin cfg0.N) :
    (t.val % 16 = 0 ∧ ¬t.val % 16 = 15) ∨ (¬t.val % 16 = 0 ∧ ¬t.val % 16 = 15)
      ∨ (¬t.val % 16 = 0 ∧ t.val % 16 = 15) := by omega

/-- The strip carried on by the value half. -/
theorem strip_v (t : Fin cfg0.N) :
    (outsAt0 m c t.val t.isLt).2.2.2.2.2.2.2.2.1 = k0_pay24 (dvT m c t) := by
  obtain ⟨h0, h1⟩ | ⟨h0, h1⟩ | ⟨h0, h1⟩ := point_cases t
  · rw [outsAt0_A m c t h0 h1]; frame_out; rfl
  · rw [outsAt0_B m c t h0 h1]; frame_out; rfl
  · rw [outsAt0_C m c t h0 h1]; frame_out; rfl

/-- The strip carried on by the gate half. -/
theorem strip_g (t : Fin cfg0.N) :
    (outsAt0 m c t.val t.isLt).2.2.2.2.2.2.2.2.2 = k0_pay24 (dgT m c t) := by
  obtain ⟨h0, h1⟩ | ⟨h0, h1⟩ | ⟨h0, h1⟩ := point_cases t
  · rw [outsAt0_A m c t h0 h1]; frame_out; rfl
  · rw [outsAt0_B m c t h0 h1]; frame_out; rfl
  · rw [outsAt0_C m c t h0 h1]; frame_out; rfl

/-- The block of the gradient with respect to the value half's input. -/
theorem dh_v (t : Fin cfg0.N) :
    (outsAt0 m c t.val t.isLt).1 = k0_pay23 (dvT m c t) (iblk m c 6 t) (strip (dvT m c) t) := by
  obtain ⟨h0, h1⟩ | ⟨h0, h1⟩ | ⟨h0, h1⟩ := point_cases t
  · rw [outsAt0_A m c t h0 h1, strip, if_pos h0]; frame_out; rfl
  · rw [outsAt0_B m c t h0 h1, strip, if_neg h0, ← strip_v m c (prev t)]; frame_out; rw [read_unread_whole]; rfl
  · rw [outsAt0_C m c t h0 h1, strip, if_neg h0, ← strip_v m c (prev t)]; frame_out; rw [read_unread_whole]; rfl

/-- The block of the gradient with respect to the gate half's input. -/
theorem dh_g (t : Fin cfg0.N) :
    (outsAt0 m c t.val t.isLt).2.1 = k0_pay23 (dgT m c t) (iblk m c 7 t) (strip (dgT m c) t) := by
  obtain ⟨h0, h1⟩ | ⟨h0, h1⟩ | ⟨h0, h1⟩ := point_cases t
  · rw [outsAt0_A m c t h0 h1, strip, if_pos h0]; frame_out; rfl
  · rw [outsAt0_B m c t h0 h1, strip, if_neg h0, ← strip_g m c (prev t)]; frame_out; rw [read_unread_whole]; rfl
  · rw [outsAt0_C m c t h0 h1, strip, if_neg h0, ← strip_g m c (prev t)]; frame_out; rw [read_unread_whole]; rfl

/-- The weight gradient starts from zero, … -/
theorem dwd_first (t : Fin cfg0.N) (h : t.val % 16 = 0) :
    (outsAt0 m c t.val t.isLt).2.2.1 = k0_pay16 (iblk m c 0 t) (k0_pay7 (F := Ideal)) (iblk m c 5 t) := by
  rw [outsAt0_A m c t h (by omega)]; frame_out

/-- … and is added to at every later point. -/
theorem dwd_next (t : Fin cfg0.N) (h : ¬t.val % 16 = 0) :
    (outsAt0 m c t.val t.isLt).2.2.1 =
      k0_pay16 (iblk m c 0 t) (outsAt0 m c (prev t).val (prev t).isLt).2.2.1 (iblk m c 5 t) := by
  by_cases h1 : t.val % 16 = 15
  · rw [outsAt0_C m c t h h1]; frame_out
  · rw [outsAt0_B m c t h h1]; frame_out

/-- The 16-bit copy of the weight gradient is made at the last tile. -/
theorem dwd16_last (t : Fin cfg0.N) (h : t.val % 16 = 15) :
    (outsAt0 m c t.val t.isLt).2.2.2.1 = k0_pay4 (outsAt0 m c t.val t.isLt).2.2.1 := by
  rw [outsAt0_C m c t (by omega) h]; frame_out

/-- The bias gradient of the value half. -/
theorem db_v (t : Fin cfg0.N) :
    (outsAt0 m c t.val t.isLt).2.2.2.2.2.2.1 = k0_pay28 (dvT m c t)
      (if t.val % 16 = 0 then k0_pay11 (F := Ideal) else (outsAt0 m c (prev t).val (prev t).isLt).2.2.2.2.2.2.1) := by
  obtain ⟨h0, h1⟩ | ⟨h0, h1⟩ | ⟨h0, h1⟩ := point_cases t
  · rw [outsAt0_A m c t h0 h1, if_pos h0]; frame_out; rfl
  · rw [outsAt0_B m c t h0 h1, if_neg h0]; frame_out; rfl
  · rw [outsAt0_C m c t h0 h1, if_neg h0]; frame_out; rfl

/-- The bias gradient of the gate half. -/
theorem db_g (t : Fin cfg0.N) :
    (outsAt0 m c t.val t.isLt).2.2.2.2.2.2.2.1 = k0_pay28 (dgT m c t)
      (if t.val % 16 = 0 then k0_pay11 (F := Ideal) else (outsAt0 m c (prev t).val (prev t).isLt).2.2.2.2.2.2.2.1) := by
  obtain ⟨h0, h1⟩ | ⟨h0, h1⟩ | ⟨h0, h1⟩ := point_cases t
  · rw [outsAt0_A m c t h0 h1, if_pos h0]; frame_out; rfl
  · rw [outsAt0_B m c t h0 h1, if_neg h0]; frame_out; rfl
  · rw [outsAt0_C m c t h0 h1, if_neg h0]; frame_out; rfl

end Cert.KernelIdeal.Ffn
end
-- ==== Proof.Ffn.Points.lean ====
module

public import proofs.«01_k».proof.Proof.Ffn.Host
public import proofs.«01_k».proof.Proof.Ffn.Step
public import Idealize.ShloMosaic.Lib.Pointwise
public import Idealize.ShloMosaic.Lib.Pipeline.ValueKit

/-!
# The blocks of one grid point

Point `t` works on the columns `1408 * (t / 16) + cc` of each half and, going up the rows from the last, on the rows
`512 * (15 - t % 16) + r`.
-/

@[expose] public section

set_option maxRecDepth 16384

noncomputable section

open Idealize.ShloMosaic Idealize.ShloMosaic.TcCoe Idealize.SL.Sem

namespace Cert.KernelIdeal.Ffn

open Cert.KernelIdeal Cert.KernelIdeal.Gen
open Cert.ReferenceIdeal.Ffn (conv val gate act gradConv)

/-- The block each window reads or writes at a point. -/
theorem idx : ∀ t : Fin cfg0.N,
    win0_0.index t = ![15 - t.val % 16, 0] ∧
    win0_1.index t = ![15 - t.val % 16, t.val / 16] ∧ win0_2.index t = ![15 - t.val % 16, t.val / 16] ∧
    win0_3.index t = ![15 - t.val % 16, t.val / 16] ∧ win0_4.index t = ![15 - t.val % 16, t.val / 16] ∧
    win0_5.index t = ![15 - t.val % 16, t.val / 16] ∧
    win0_6.index t = ![0, t.val / 16] ∧ win0_7.index t = ![0, t.val / 16 + 2] ∧
    win0_8.index t = ![t.val / 16, 0, 0] ∧
    win0_9.index t = ![15 - t.val % 16, t.val / 16] ∧ win0_10.index t = ![15 - t.val % 16, t.val / 16] ∧
    win0_11.index t = ![t.val / 16, 0, 0] ∧ win0_12.index t = ![t.val / 16, 0, 0] ∧
    win0_13.index t = ![0, t.val / 16] ∧ win0_14.index t = ![0, t.val / 16] ∧
    win0_15.index t = ![0, t.val / 16] ∧ win0_16.index t = ![0, t.val / 16] :=
  (by decide +kernel : ∀ t : Fin grid0.N, _)

/-- The array's row at row `r` of the point's blocks. -/
def row (t : Fin cfg0.N) (r : Fin 512) : Fin 8192 := ⟨512 * (15 - t.val % 16) + r.val, by omega⟩

/-- The column, in one half, at column `cc` of the point's blocks. -/
def col (t : Fin cfg0.N) (cc : Fin 1408) : Fin 2816 :=
  ⟨1408 * (t.val / 16) + cc.val, by have : t.val < 32 := t.isLt; omega⟩

/-- A column of the value half, and of the gate half, in the whole. -/
def lo (c : Fin 2816) : Fin 5632 := ⟨c.val, by omega⟩
@[inherit_doc lo] def hi (c : Fin 2816) : Fin 5632 := ⟨c.val + 2816, by omega⟩

variable (m : (ℓ : Loc nD τ sig) → Buf (Elt Ideal) ℓ) (c : Dev nD)

/-- The rows of the gradient coming in. -/
theorem ct_blk (t : Fin cfg0.N) (r : Fin 512) (d : Fin 1024) :
    (show EReal from iblk m c 0 t (ix2 r d)) = aC m c (ix2 (row t r) d) := by
  have : t.val < 32 := t.isLt
  blk_simp [iblk, idx t]
  blk_ext [V, idx t, row]

/-- The block's input, value half. -/
theorem hv_blk (t : Fin cfg0.N) (r : Fin 512) (cc : Fin 1408) :
    (show EReal from iblk m c 1 t (ix2 r cc)) = aH m c (ix2 (row t r) (lo (col t cc))) := by
  have : t.val < 32 := t.isLt
  blk_simp [iblk, idx t]
  have e : (win0_1.blk t).view.emb (ix2 r cc) = ix2 (row t r) (col t cc) := by blk_ext [idx t, row, col]
  rw [V_hv, e]
  pointwise
  blk_ext [lo]

/-- The block's input, gate half. -/
theorem hg_blk (t : Fin cfg0.N) (r : Fin 512) (cc : Fin 1408) :
    (show EReal from iblk m c 2 t (ix2 r cc)) = aH m c (ix2 (row t r) (hi (col t cc))) := by
  have : t.val < 32 := t.isLt
  blk_simp [iblk, idx t]
  have e : (win0_2.blk t).view.emb (ix2 r cc) = ix2 (row t r) (col t cc) := by blk_ext [idx t, row, col]
  rw [V_hg, e]
  pointwise
  blk_ext [hi]

/-- The saved value half. -/
theorem val_blk (t : Fin cfg0.N) (r : Fin 512) (cc : Fin 1408) :
    (show EReal from iblk m c 3 t (ix2 r cc)) = val (pre m c) (ix2 (row t r) (col t cc)) := by
  have : t.val < 32 := t.isLt
  blk_simp [iblk, idx t]
  rw [V_val]
  blk_ext [V, idx t, row, col]

/-- The saved gate half. -/
theorem gate_blk (t : Fin cfg0.N) (r : Fin 512) (cc : Fin 1408) :
    (show EReal from iblk m c 4 t (ix2 r cc)) = gate (pre m c) (ix2 (row t r) (col t cc)) := by
  have : t.val < 32 := t.isLt
  blk_simp [iblk, idx t]
  rw [V_gate]
  blk_ext [V, idx t, row, col]

/-- The saved activation. -/
theorem act_blk (t : Fin cfg0.N) (r : Fin 512) (cc : Fin 1408) :
    (show EReal from iblk m c 5 t (ix2 r cc)) = act (pre m c) (ix2 (row t r) (col t cc)) := by
  have : t.val < 32 := t.isLt
  blk_simp [iblk, idx t]
  rw [V_act]
  blk_ext [V, idx t, row, col]

/-- The taps of the value half. -/
theorem kv_blk (t : Fin cfg0.N) (j : Fin 3) (cc : Fin 1408) :
    (show EReal from iblk m c 6 t (ix2 j cc)) = aK m c (ix2 j (lo (col t cc))) := by
  have : t.val < 32 := t.isLt
  blk_simp [iblk, idx t]
  blk_ext [V, idx t, col, lo]

/-- The taps of the gate half. -/
theorem kg_blk (t : Fin cfg0.N) (j : Fin 3) (cc : Fin 1408) :
    (show EReal from iblk m c 7 t (ix2 j cc)) = aK m c (ix2 j (hi (col t cc))) := by
  have : t.val < 32 := t.isLt
  blk_simp [iblk, idx t]
  blk_ext [V, idx t, col, hi]

/-- The weights. -/
theorem w_blk (t : Fin cfg0.N) (cc : Fin 1408) (d : Fin 1024) :
    (show EReal from iblk m c 8 t (ix3 (⟨cc.val / 704, by omega⟩ : Fin 2) (⟨cc.val % 704, by omega⟩ : Fin 704) d)) = aW m c (ix2 (col t cc) d) := by
  have : t.val < 32 := t.isLt
  blk_simp [iblk, idx t]
  have e : (win0_8.blk t).view.emb (ix3 (⟨cc.val / 704, by omega⟩ : Fin 2) (⟨cc.val % 704, by omega⟩ : Fin 704) d) =
      ix3 (⟨2 * (t.val / 16) + cc.val / 704, by omega⟩ : Fin 4) (⟨cc.val % 704, by omega⟩ : Fin 704) d := by
    blk_ext [idx t]
  rw [V_w, e]
  pointwise
  blk_ext [col]

end Cert.KernelIdeal.Ffn
end
-- ==== Proof.Ffn.Taps.lean ====
module

public import proofs.«01_k».proof.Proof.Gen.KernelIdeal.Frame
public import Idealize.ShloMosaic.Lib.Pipeline.ValueKit
public import Idealize.ShloMosaic.Lib.Pipeline.ReadBack
public import proofs.«01_k».proof.Proof.Ffn.Step

/-!
# What one grid point leaves in the accumulators of the taps

The three rows of a tap accumulator are loaded, added to and stored one by one.
-/

@[expose] public section

set_option maxRecDepth 16384

noncomputable section

open Idealize.ShloMosaic Idealize.ShloMosaic.TcCoe Idealize.SL.Sem

namespace Cert.KernelIdeal.Ffn

open Cert.KernelIdeal Cert.KernelIdeal.Gen

variable (m : (ℓ : Loc nD τ sig) → Buf (Elt Ideal) ℓ) (c : Dev nD)

/-- The rows a tap meets in a tile: two further down, one further down, the tile itself. -/
def shifted (v : Tile) (s : Strip) : Fin 3 → Tile := ![k0_pay22 v s, k0_pay21 v s, v]

/-- The taps' accumulator after a tile. -/
def taps (v h : Tile) (s : Strip) (X : FVec Ideal S3x1408 .f32) : FVec Ideal S3x1408 .f32 :=
  fun i => X i + ∑ r : Fin 512, shifted v s (i 0) (ix2 r (i 1)) * h (ix2 r (i 1))

/-- The three rows stored one by one, over whatever was stored before, are the accumulator. -/
theorem rows_eq (v h : Tile) (s : Strip) (X : FVec Ideal S3x1408 .f32)
    (L : List (View.Piece (Elt Ideal) S3x1408 .f32)) :
    View.canon ([⟨Rect.unit ![2, 0] ![1, 1408] inb_S3x1408_S1x1408_2_0,
          k0_pay27 v h (View.ld (Val := Elt Ideal) (e' := .f32) X (Rect.unit ![2, 0] ![1, 1408] inb_S3x1408_S1x1408_2_0))⟩,
        ⟨Rect.unit ![1, 0] ![1, 1408] inb_S3x1408_S1x1408_1_0,
          k0_pay26 h (k0_pay21 v s) (View.ld (Val := Elt Ideal) (e' := .f32) X (Rect.unit ![1, 0] ![1, 1408] inb_S3x1408_S1x1408_1_0))⟩,
        ⟨Rect.unit ![0, 0] ![1, 1408] inb_S3x1408_S1x1408_0_0,
          k0_pay25 v h s (View.ld (Val := Elt Ideal) (e' := .f32) X (Rect.unit ![0, 0] ![1, 1408] inb_S3x1408_S1x1408_0_0))⟩] ++ L)
      = taps v h s X := by
  funext y
  refine View.canon_append_of_piecesOf (taps v h s X) L [_, _, _] ⟨fun x => ?_, fun x => ?_, fun x => ?_, trivial⟩ y ?_
  · idx_vars x
    obtain rfl : x0 = 0 := Subsingleton.elim _ _
    have e : (Rect.unit ![2, 0] ![1, 1408] inb_S3x1408_S1x1408_2_0).emb (ix2 0 x1) = (ix2 2 x1 : S3x1408.Idx) := by
      blk_ext []
    refine (tap2_apply v h _ x1).trans ?_
    exact (congrArg (fun i => X i + _) e).trans (congrArg (taps v h s X) e.symm)
  · idx_vars x
    obtain rfl : x0 = 0 := Subsingleton.elim _ _
    have e : (Rect.unit ![1, 0] ![1, 1408] inb_S3x1408_S1x1408_1_0).emb (ix2 0 x1) = (ix2 1 x1 : S3x1408.Idx) := by
      blk_ext []
    refine (tap1_apply h _ _ x1).trans ?_
    exact (congrArg (fun i => X i + _) e).trans (congrArg (taps v h s X) e.symm)
  · idx_vars x
    obtain rfl : x0 = 0 := Subsingleton.elim _ _
    have e : (Rect.unit ![0, 0] ![1, 1408] inb_S3x1408_S1x1408_0_0).emb (ix2 0 x1) = (ix2 0 x1 : S3x1408.Idx) := by
      blk_ext []
    refine (tap0_apply v h s _ x1).trans ?_
    exact (congrArg (fun i => X i + _) e).trans (congrArg (taps v h s X) e.symm)
  · have h0 : (y 0).val < 3 := (y 0).isLt
    have h1 : (y 1).val < 1408 := (y 1).isLt
    have key : ∀ k : ℕ, ∀ inb, (y 0).val = k → y ∈ (Rect.unit (s := S3x1408) ![k, 0] ![1, 1408] inb).set := by
      intro k inb hk
      rw [Rect.mem_set_unit]
      intro a
      fin_cases a
      · exact ⟨hk.ge, by show (y 0).val < k + 1; omega⟩
      · exact ⟨Nat.zero_le _, by show (y 1).val < 0 + 1408; omega⟩
    obtain hy | hy | hy : (y 0).val = 2 ∨ (y 0).val = 1 ∨ (y 0).val = 0 := by omega
    · exact ⟨_, .head _, key 2 inb_S3x1408_S1x1408_2_0 hy⟩
    · exact ⟨_, .tail _ (.head _), key 1 inb_S3x1408_S1x1408_1_0 hy⟩
    · exact ⟨_, .tail _ (.tail _ (.head _)), key 0 inb_S3x1408_S1x1408_0_0 hy⟩

variable (m : (ℓ : Loc nD τ sig) → Buf (Elt Ideal) ℓ) (c : Dev nD)

/-- The tap gradient of the value half. -/
theorem dcw_v (t : Fin cfg0.N) :
    (outsAt0 m c t.val t.isLt).2.2.2.2.1 = taps (dvT m c t) (k0_pay19 (iblk m c 1 t)) (strip (dvT m c) t)
      (if t.val % 16 = 0 then k0_pay8 (F := Ideal) else (outsAt0 m c (prev t).val (prev t).isLt).2.2.2.2.1) := by
  obtain ⟨h0, h1⟩ | ⟨h0, h1⟩ | ⟨h0, h1⟩ := point_cases t
  · rw [outsAt0_A m c t h0 h1, strip, if_pos h0, if_pos h0]; frame_out
    simp (disch := decide) only [↓ View.readCov_skip, ↓ View.readCov_cons_toLoadRect, ↓ View.readCov_fill]
    exact rows_eq _ _ _ _ [_]
  · rw [outsAt0_B m c t h0 h1, strip, if_neg h0, if_neg h0, ← strip_v m c (prev t)]; frame_out; rw [read_unread_whole]
    exact rows_eq _ _ _ _ []
  · rw [outsAt0_C m c t h0 h1, strip, if_neg h0, if_neg h0, ← strip_v m c (prev t)]; frame_out; rw [read_unread_whole]
    exact rows_eq _ _ _ _ []

/-- The tap gradient of the gate half. -/
theorem dcw_g (t : Fin cfg0.N) :
    (outsAt0 m c t.val t.isLt).2.2.2.2.2.1 = taps (dgT m c t) (k0_pay19 (iblk m c 2 t)) (strip (dgT m c) t)
      (if t.val % 16 = 0 then k0_pay8 (F := Ideal) else (outsAt0 m c (prev t).val (prev t).isLt).2.2.2.2.2.1) := by
  obtain ⟨h0, h1⟩ | ⟨h0, h1⟩ | ⟨h0, h1⟩ := point_cases t
  · rw [outsAt0_A m c t h0 h1, strip, if_pos h0, if_pos h0]; frame_out
    simp (disch := decide) only [↓ View.readCov_skip, ↓ View.readCov_cons_toLoadRect, ↓ View.readCov_fill]
    exact rows_eq _ _ _ _ [_]
  · rw [outsAt0_B m c t h0 h1, strip, if_neg h0, if_neg h0, ← strip_g m c (prev t)]; frame_out; rw [read_unread_whole]
    exact rows_eq _ _ _ _ []
  · rw [outsAt0_C m c t h0 h1, strip, if_neg h0, if_neg h0, ← strip_g m c (prev t)]; frame_out; rw [read_unread_whole]
    exact rows_eq _ _ _ _ []

end Cert.KernelIdeal.Ffn
end
-- ==== Proof.Ffn.Finite.lean ====
module

public import proofs.«01_k».proof.Proof.Gen.Pre_finite
public import proofs.«01_k».proof.Proof.Ffn.Reference

/-!
# Finite arguments give finite gradients

The gate half of the gradient is a product distributed over a sum, which on the extended reals holds of finite
numbers. Every number met there is a sum of products of the arguments, or a logistic.
-/

@[expose] public section

set_option maxRecDepth 16384

noncomputable section

namespace Cert.ReferenceIdeal.Ffn

open Cert.ReferenceIdeal Cert.ReferenceIdeal.Gen Cert.ReferenceIdeal.Value
open Idealize.ShloMosaic Idealize.ShloMosaic.TcCoe Idealize.SL.Sem

/-- A real number, among the extended ones. -/
def IsReal (x : EReal) : Prop := ∃ r : ℝ, x = r

theorem IsReal.add {x y : EReal} : IsReal x → IsReal y → IsReal (x + y) := by
  rintro ⟨a, rfl⟩ ⟨b, rfl⟩; exact ⟨a + b, by push_cast; rfl⟩

theorem IsReal.mul {x y : EReal} : IsReal x → IsReal y → IsReal (x * y) := by
  rintro ⟨a, rfl⟩ ⟨b, rfl⟩; exact ⟨a * b, by push_cast; rfl⟩

theorem IsReal.sum {ι : Type*} (s : Finset ι) {f : ι → EReal} (h : ∀ i, IsReal (f i)) : IsReal (∑ i ∈ s, f i) :=
  Finset.sum_induction f IsReal (fun _ _ => IsReal.add) ⟨0, rfl⟩ fun i _ => h i

/-- The distribution the gate half needs. -/
theorem slope_eq {d v g : EReal} (hd : IsReal d) (hv : IsReal v) (hg : IsReal g) :
    d * v * Ideal.logistic g + g * (d * v) * (Ideal.logistic g * (1 - Ideal.logistic g)) =
      d * v * (Ideal.logistic g * (1 + g * (1 - Ideal.logistic g))) := by
  obtain ⟨d, rfl⟩ := hd
  obtain ⟨v, rfl⟩ := hv
  obtain ⟨g, rfl⟩ := hg
  rw [Ideal.logistic_coe]
  norm_cast
  ring

/-- A number below plus infinity in absolute value is real. -/
theorem isReal_of_abs_lt {x : EReal}
    (h : BitVec.ofBool (decide (max x (-x) < Ideal.ofBits .f32 0x7F800000#32)) = 1#1) : IsReal x := by
  rw [show Ideal.ofBits .f32 0x7F800000#32 = ⊤ by simp [Ideal.ofBits, Ideal.ieee]] at h
  induction x using EReal.rec with
  | bot => simp at h
  | coe r => exact ⟨r, rfl⟩
  | top => simp at h

variable (h : FVec Ideal S8192x5632 .f32) (k : FVec Ideal S3x5632 .f32) (b : FVec Ideal S5632 .f32)
  (w : FVec Ideal S2816x1024 .f32) (ct : FVec Ideal S8192x1024 .f32)

/-- The precondition makes every element of every argument real. -/
theorem args_real
    (hp : (Cert.Pre_finite.fn (F := Ideal) h k b w ct).1 = (fun _ => 1#1)
      ∧ (Cert.Pre_finite.fn (F := Ideal) h k b w ct).2.1 = (fun _ => 1#1)
      ∧ (Cert.Pre_finite.fn (F := Ideal) h k b w ct).2.2.1 = (fun _ => 1#1)
      ∧ (Cert.Pre_finite.fn (F := Ideal) h k b w ct).2.2.2.1 = (fun _ => 1#1)
      ∧ (Cert.Pre_finite.fn (F := Ideal) h k b w ct).2.2.2.2 = (fun _ => 1#1)) :
    (∀ i, IsReal (h i)) ∧ (∀ i, IsReal (k i)) ∧ (∀ i, IsReal (b i)) ∧ (∀ i, IsReal (w i)) ∧ ∀ i, IsReal (ct i) := by
  obtain ⟨h0, h1, h2, h3, h4⟩ := hp
  exact ⟨fun i => isReal_of_abs_lt (congrFun h0 i), fun i => isReal_of_abs_lt (congrFun h1 i),
    fun i => isReal_of_abs_lt (congrFun h2 i), fun i => isReal_of_abs_lt (congrFun h3 i),
    fun i => isReal_of_abs_lt (congrFun h4 i)⟩

variable {h k b w ct}

/-- The convolution of real arrays is real. -/
theorem conv_real (hh : ∀ i, IsReal (h i)) (hk : ∀ i, IsReal (k i)) (hb : ∀ i, IsReal (b i)) (t : Fin 8192) (c : Fin 5632) :
    IsReal (conv h k b (ix2 t c)) := by
  have hp : ∀ (t : Fin 8194) (c : Fin 5632), IsReal (padded h (ix2 t c)) := fun t c => by
    rw [padded_apply]
    split
    · exact ⟨0, rfl⟩
    · exact hh _
  pointwise [conv, tap0, tap1, tap2, rows0, rows1, rows2]
  exact ((((hk _).mul (hp _ _)).add ((hk _).mul (hp _ _))).add ((hk _).mul (hp _ _))).add (hb _)

/-- The gate half of the gradient at the convolution's output, as one product: the slope of `silu` taken out. -/
theorem gradConv_gate (hh : ∀ i, IsReal (h i)) (hk : ∀ i, IsReal (k i)) (hb : ∀ i, IsReal (b i))
    (hw : ∀ i, IsReal (w i)) (hc : ∀ i, IsReal (ct i)) (t : Fin 8192) (c : Fin 2816) :
    gradConv h k b w ct (ix2 t ⟨c.val + 2816, by omega⟩) =
      dact ct w (ix2 t c) * val (conv h k b) (ix2 t c) *
        (Ideal.logistic (gate (conv h k b) (ix2 t c)) *
          (1 + gate (conv h k b) (ix2 t c) * (1 - Ideal.logistic (gate (conv h k b) (ix2 t c))))) := by
  have hv : IsReal (val (conv h k b) (ix2 t c)) := by
    have := conv_real hh hk hb t ⟨c.val, by omega⟩
    pointwise [val]
    exact this
  have hg : IsReal (gate (conv h k b) (ix2 t c)) := by
    have := conv_real hh hk hb t ⟨2816 + c.val, by omega⟩
    pointwise [gate]
    exact this
  have hd : IsReal (dact ct w (ix2 t c)) := by
    rw [dact_apply]
    exact IsReal.sum _ fun d => (hc _).mul (hw _)
  unfold gradConv
  rw [dconv_gate]
  exact slope_eq hd hv hg

end Cert.ReferenceIdeal.Ffn
end
-- ==== Proof.Ffn.Rows.lean ====
module

public import proofs.«01_k».proof.Proof.Ffn.Points
public import proofs.«01_k».proof.Proof.Ffn.Taps
public import proofs.«01_k».proof.Proof.Ffn.Finite

/-!
# The rows further down

If a point's tiles are blocks of one array `D`, the rows that a tile takes from the carried strip are the array's own
next rows, zeros below the last.
-/

@[expose] public section

set_option maxRecDepth 16384

noncomputable section

open Idealize.ShloMosaic Idealize.ShloMosaic.TcCoe Idealize.SL.Sem

namespace Cert.KernelIdeal.Ffn

open Cert.KernelIdeal Cert.KernelIdeal.Gen
open Cert.ReferenceIdeal.Ffn (conv val gate act gradConv dact dconv colExt IsReal dact_apply dconv_val gradConv_gate)

/-- The strip starts as zeros. -/
theorem zero_strip (r : Fin 8) (cc : Fin 1408) : k0_pay5 (F := Ideal) (ix2 r cc) = (0 : EReal) := by
  pointwise [k0_pay5]

section rows
variable {D : FVec Ideal S8192x5632 .f32} {d : Fin cfg0.N → Tile} {f : Fin 2816 → Fin 5632}

/-- Row `r` of the strip a point finds is the row after the tile's last, `r` further. -/
theorem strip_ext (hd : ∀ t r cc, d t (ix2 r cc) = D (ix2 (row t r) (f (col t cc)))) (t : Fin cfg0.N) (r : Fin 8)
    (cc : Fin 1408) : strip d t (ix2 r cc) = colExt D (f (col t cc)) (512 * (15 - t.val % 16) + 512 + r.val) := by
  have ht : t.val < 32 := t.isLt
  by_cases h : t.val % 16 = 0
  · rw [strip, if_pos h, colExt, dif_neg (by omega)]
    exact zero_strip r cc
  · have hn : 512 * (15 - t.val % 16) + 512 + r.val < 8192 := by omega
    have hrow : row (prev t) ⟨r.val, by omega⟩ = ⟨_, hn⟩ := Fin.ext (by simp only [row, prev]; omega)
    have hcol : col (prev t) cc = col t cc := Fin.ext (by simp only [col, prev]; omega)
    rw [strip, if_neg h, strip_apply, hd, hrow, hcol, colExt, dif_pos hn]

/-- The tile `s` rows further down. -/
theorem shifted_ext (hd : ∀ t r cc, d t (ix2 r cc) = D (ix2 (row t r) (f (col t cc)))) (t : Fin cfg0.N) (j : Fin 3)
    (r : Fin 512) (cc : Fin 1408) :
    shifted (d t) (strip d t) j (ix2 r cc) = colExt D (f (col t cc)) ((row t r).val + (2 - j.val)) := by
  have here : ∀ (n : Fin 512) (k : ℕ), k = (row t n).val → d t (ix2 n cc) = colExt D (f (col t cc)) k := by
    rintro n _ rfl
    rw [hd, colExt, dif_pos (row t n).isLt]
  have next : ∀ (n : Fin 8) (k : ℕ), k = 512 * (15 - t.val % 16) + 512 + n.val →
      strip d t (ix2 n cc) = colExt D (f (col t cc)) k := by
    rintro n _ rfl
    exact strip_ext hd t n cc
  fin_cases j
  · show k0_pay22 (d t) (strip d t) (ix2 r cc) = _
    rw [n2_apply]
    split
    · exact here _ _ (by simp only [row]; omega)
    · exact next _ _ (by simp only [row]; omega)
  · show k0_pay21 (d t) (strip d t) (ix2 r cc) = _
    rw [n1_apply]
    split
    · exact here _ _ (by simp only [row]; omega)
    · exact next _ _ (by simp only [row]; omega)
  · exact here r _ rfl

end rows

end Cert.KernelIdeal.Ffn
end
-- ==== Proof.Ffn.Tiles.lean ====
module

public import proofs.«01_k».proof.Proof.Ffn.Points
public import proofs.«01_k».proof.Proof.Ffn.Taps
public import proofs.«01_k».proof.Proof.Ffn.Finite

/-!
# The tiles of the gradient are the reference's

`grad` is the reference's gradient at the convolution's output, of the kernel program's arguments. A point's two tiles
are its blocks, and the rows further down that a tile takes from the carried strip are the array's own next rows, zeros
below the last.
-/

@[expose] public section

set_option maxRecDepth 16384

noncomputable section

open Idealize.ShloMosaic Idealize.ShloMosaic.TcCoe Idealize.SL.Sem

namespace Cert.KernelIdeal.Ffn

open Cert.KernelIdeal Cert.KernelIdeal.Gen
open Cert.ReferenceIdeal.Ffn (conv val gate act gradConv dact dconv colExt IsReal dact_apply dconv_val gradConv_gate)

variable (m : (ℓ : Loc nD τ sig) → Buf (Elt Ideal) ℓ) (c : Dev nD)

/-- The gradient at the convolution's output. -/
abbrev grad : FVec Ideal S8192x5632 .f32 := gradConv (aH m c) (aK m c) (aB m c) (aW m c) (aC m c)

/-- Every argument is an array of real numbers. -/
def Real : Prop :=
  (∀ i, IsReal (aH m c i)) ∧ (∀ i, IsReal (aK m c i)) ∧ (∀ i, IsReal (aB m c i)) ∧ (∀ i, IsReal (aW m c i)) ∧ ∀ i, IsReal (aC m c i)

/-- The gradient at the gated activation. -/
theorem da_tile (t : Fin cfg0.N) (r : Fin 512) (cc : Fin 1408) :
    k0_pay17 (iblk m c 0 t) (iblk m c 8 t) (ix2 r cc) = dact (aC m c) (aW m c) (ix2 (row t r) (col t cc)) := by
  rw [da_apply, dact_apply]
  exact Finset.sum_congr rfl fun d _ => congrArg₂ (· * · : EReal → EReal → EReal) (ct_blk m c t r d) (w_blk m c t cc d)

/-- A tile of the value half. -/
theorem dv_tile (t : Fin cfg0.N) (r : Fin 512) (cc : Fin 1408) :
    dvT m c t (ix2 r cc) = grad m c (ix2 (row t r) (lo (col t cc))) := by
  unfold dvT grad gradConv lo
  rw [dval_apply, dconv_val, da_tile, show iblk m c 4 t (ix2 r cc) = _ from gate_blk m c t r cc]
  exact mul_comm _ _

/-- A tile of the gate half. -/
theorem dg_tile (hr : Real m c) (t : Fin cfg0.N) (r : Fin 512) (cc : Fin 1408) :
    dgT m c t (ix2 r cc) = grad m c (ix2 (row t r) (hi (col t cc))) := by
  obtain ⟨h0, h1, h2, h3, h4⟩ := hr
  unfold dgT grad hi
  rw [dgate_apply, gradConv_gate h0 h1 h2 h3 h4, da_tile, show iblk m c 4 t (ix2 r cc) = _ from gate_blk m c t r cc,
    show iblk m c 3 t (ix2 r cc) = _ from val_blk m c t r cc]

end Cert.KernelIdeal.Ffn
end
-- ==== Proof.Ffn.Sums.lean ====
module

public import proofs.«01_k».proof.Proof.Ffn.Rows
public import proofs.«01_k».proof.Proof.Ffn.Tiles
public import Idealize.ShloMosaic.Lib.Pipeline.ValueKit

/-!
# The accumulators at the end of a run

Sixteen points in a row work on the same columns, and their tiles are the sixteen groups of 512 rows, from the last to
the first. What they add up to is a sum over all 8192 rows.
-/

@[expose] public section

set_option maxRecDepth 16384

noncomputable section

open Idealize.ShloMosaic Idealize.ShloMosaic.TcCoe Idealize.SL.Sem

namespace Cert.KernelIdeal.Ffn

open Cert.KernelIdeal Cert.KernelIdeal.Gen
open Cert.ReferenceIdeal.Ffn (colExt)

/-- The tiles of a run, going up, are all the rows. -/
theorem sum_rows (g : Fin 8192 → EReal) (q : ℕ) (hq : ∀ s : Fin 16, 16 * q + s.val < cfg0.N) :
    ∑ s : Fin 16, ∑ r : Fin 512, g (row ⟨16 * q + s.val, hq s⟩ r) = ∑ n : Fin 8192, g n := by
  rw [← Equiv.sum_comp Fin.revPerm]
  refine Fin.sum_mul_add_congr fun s r hl => ?_
  refine congrArg g (Fin.ext ?_)
  simp only [row, Fin.revPerm_apply, Fin.val_rev]
  omega

/-- An accumulator that starts from zero and gains the rows of every tile holds, at the run's end, the sum over all
rows. -/
theorem run_sum {ι : Type} (f : (n : ℕ) → n < cfg0.N → ι → EReal) (g : Fin cfg0.N → ι → Fin 8192 → EReal)
    (hg : ∀ t t' : Fin cfg0.N, t.val / 16 = t'.val / 16 → g t = g t')
    (h0 : ∀ t : Fin cfg0.N, t.val % 16 = 0 → ∀ i, f t.val t.isLt i = 0 + ∑ r : Fin 512, g t i (row t r))
    (hs : ∀ t : Fin cfg0.N, ¬t.val % 16 = 0 → ∀ i,
      f t.val t.isLt i = f (prev t).val (prev t).isLt i + ∑ r : Fin 512, g t i (row t r))
    (t : Fin cfg0.N) (ht : t.val % 16 = 15) (i : ι) : f t.val t.isLt i = ∑ n : Fin 8192, g t i n := by
  rw [Pipeline.eq_sum_fin_of_reset_step_apply_of_flush f 16 (fun _ => 0) (fun t i => ∑ r : Fin 512, g t i (row t r))
    h0 hs t ht i, zero_add, ← sum_rows (g t i) (t.val / 16) (Pipeline.run_point_lt_of_flush t ht)]
  refine Finset.sum_congr rfl fun s _ => ?_
  rw [hg _ t (by show (16 * (t.val / 16) + s.val) / 16 = _; omega)]

theorem col_run {t t' : Fin cfg0.N} (h : t.val / 16 = t'.val / 16) (cc : Fin 1408) : col t cc = col t' cc :=
  Fin.ext (by simp only [col, h])

section halves
variable {D H : FVec Ideal S8192x5632 .f32} {d h : Fin cfg0.N → Tile} {f : Fin 2816 → Fin 5632}

theorem zero_bias (cc : Fin 1408) : k0_pay11 (F := Ideal) (ix2 0 cc) = (0 : EReal) := by pointwise [k0_pay11]

theorem zero_taps (j : Fin 3) (cc : Fin 1408) : k0_pay8 (F := Ideal) (ix2 j cc) = (0 : EReal) := by pointwise [k0_pay8]

theorem zero_weight (p : Fin 2) (q : Fin 704) (e : Fin 1024) : k0_pay7 (F := Ideal) (ix3 p q e) = (0 : EReal) := by
  pointwise [k0_pay7]

/-- The bias gradient of one half. -/
theorem bias_run (hd : ∀ t r cc, d t (ix2 r cc) = D (ix2 (row t r) (f (col t cc))))
    (X : (n : ℕ) → n < cfg0.N → FVec Ideal S1x1408 .f32)
    (hX : ∀ t : Fin cfg0.N, X t.val t.isLt =
      k0_pay28 (d t) (if t.val % 16 = 0 then k0_pay11 (F := Ideal) else X (prev t).val (prev t).isLt))
    (t : Fin cfg0.N) (ht : t.val % 16 = 15) (cc : Fin 1408) :
    X t.val t.isLt (ix2 0 cc) = ∑ n : Fin 8192, D (ix2 n (f (col t cc))) := by
  have step : ∀ (t : Fin cfg0.N) (cc : Fin 1408), ∑ r : Fin 512, d t (ix2 r cc) = ∑ r : Fin 512, D (ix2 (row t r) (f (col t cc))) :=
    fun t cc => Finset.sum_congr rfl fun r _ => hd t r cc
  refine run_sum (fun n hn cc => X n hn (ix2 0 cc)) (fun t cc n => D (ix2 n (f (col t cc))))
    (fun t t' e => funext fun cc => by rw [col_run e]) (fun t e cc => ?_) (fun t e cc => ?_) t ht cc
  · rw [hX t, if_pos e, bias_apply, zero_bias, step]
  · rw [hX t, if_neg e, bias_apply, step]

/-- The tap gradient of one half. -/
theorem taps_run (hd : ∀ t r cc, d t (ix2 r cc) = D (ix2 (row t r) (f (col t cc))))
    (hh : ∀ t r cc, h t (ix2 r cc) = H (ix2 (row t r) (f (col t cc))))
    (X : (n : ℕ) → n < cfg0.N → FVec Ideal S3x1408 .f32)
    (hX : ∀ t : Fin cfg0.N, X t.val t.isLt =
      taps (d t) (h t) (strip d t) (if t.val % 16 = 0 then k0_pay8 (F := Ideal) else X (prev t).val (prev t).isLt))
    (t : Fin cfg0.N) (ht : t.val % 16 = 15) (j : Fin 3) (cc : Fin 1408) :
    X t.val t.isLt (ix2 j cc) =
      ∑ n : Fin 8192, colExt D (f (col t cc)) (n.val + (2 - j.val)) * H (ix2 n (f (col t cc))) := by
  have step : ∀ (t : Fin cfg0.N) (Y : FVec Ideal S3x1408 .f32) (i : Fin 3 × Fin 1408),
      taps (d t) (h t) (strip d t) Y (ix2 i.1 i.2) = Y (ix2 i.1 i.2) + ∑ r : Fin 512,
        colExt D (f (col t i.2)) ((row t r).val + (2 - i.1.val)) * H (ix2 (row t r) (f (col t i.2))) :=
    fun t Y i => congrArg (Y (ix2 i.1 i.2) + ·) (Finset.sum_congr rfl fun r _ =>
      congrArg₂ (· * · : EReal → EReal → EReal) (shifted_ext hd t i.1 r i.2) (hh t r i.2))
  refine run_sum (fun n hn i => X n hn (ix2 i.1 i.2))
    (fun t (i : Fin 3 × Fin 1408) n => colExt D (f (col t i.2)) (n.val + (2 - i.1.val)) * H (ix2 n (f (col t i.2))))
    (fun t t' e => funext fun i => by rw [col_run e]) (fun t e i => ?_) (fun t e i => ?_) t ht (j, cc)
  · rw [hX t, if_pos e, step, zero_taps]
  · rw [hX t, if_neg e, step]

end halves

variable (m : (ℓ : Loc nD τ sig) → Buf (Elt Ideal) ℓ) (c : Dev nD)

/-- The weight gradient at the end of a run. -/
theorem weight_run (t : Fin cfg0.N) (ht : t.val % 16 = 15) (p : Fin 2) (q : Fin 704) (e : Fin 1024) :
    (show EReal from (outsAt0 m c t.val t.isLt).2.2.1 (ix3 p q e)) =
      ∑ n : Fin 8192, Cert.ReferenceIdeal.Ffn.act (pre m c) (ix2 n (col t ⟨p.val * 704 + q.val, by omega⟩)) * aC m c (ix2 n e) := by
  have step : ∀ (t : Fin cfg0.N) (Y : FVec Ideal S2x704x1024 .f32) (i : Fin 2 × Fin 704 × Fin 1024),
      k0_pay16 (iblk m c 0 t) Y (iblk m c 5 t) (ix3 i.1 i.2.1 i.2.2) = Y (ix3 i.1 i.2.1 i.2.2) + ∑ r : Fin 512,
        Cert.ReferenceIdeal.Ffn.act (pre m c) (ix2 (row t r) (col t ⟨i.1.val * 704 + i.2.1.val, by omega⟩))
          * aC m c (ix2 (row t r) i.2.2) :=
    fun t Y i => (dwd_apply _ _ _ _ _ _).trans (congrArg (Y (ix3 i.1 i.2.1 i.2.2) + ·) (Finset.sum_congr rfl fun r _ =>
      congrArg₂ (· * · : EReal → EReal → EReal) (act_blk m c t r _) (ct_blk m c t r i.2.2)))
  refine run_sum (fun n hn i => (outsAt0 m c n hn).2.2.1 (ix3 i.1 i.2.1 i.2.2))
    (fun t (i : Fin 2 × Fin 704 × Fin 1024) n =>
      Cert.ReferenceIdeal.Ffn.act (pre m c) (ix2 n (col t ⟨i.1.val * 704 + i.2.1.val, by omega⟩)) * aC m c (ix2 n i.2.2))
    (fun t t' e => funext fun i => by rw [col_run e]) (fun t e i => ?_) (fun t e i => ?_) t ht (p, q, e)
  · rw [dwd_first m c t e, step, zero_weight]
  · rw [dwd_next m c t e, step]

end Cert.KernelIdeal.Ffn
end
-- ==== Proof.Ffn.Arrays.lean ====
module

public import proofs.«01_k».proof.Proof.Ffn.Sums
public import proofs.«01_k».proof.Proof.Gen.KernelIdeal.Value

/-!
# The eight arrays after the run

Each is the reference's array, of the kernel program's arguments. The two gradients of the input are written block by
block; the other six are accumulated and written at the end of a run of sixteen points.
-/

@[expose] public section

set_option maxRecDepth 16384

noncomputable section

open Idealize.ShloMosaic Idealize.ShloMosaic.TcCoe Idealize.SL.Sem

namespace Cert.KernelIdeal.Ffn

open Cert.KernelIdeal Cert.KernelIdeal.Gen
open Cert.ReferenceIdeal.Ffn (act colExt dinput dinput_apply dtaps dtaps_apply dbias dbias_apply dweight dweight_apply)

variable (m : (ℓ : Loc nD τ sig) → Buf (Elt Ideal) ℓ) (c : Dev nD)

section slices
variable {φ : FTy}

theorem left_rows (X : FVec Ideal S8192x5632 φ) (h : S8192x5632.Slices ![0, 0] S8192x2816) (t : Fin 8192) (c : Fin 2816) :
    extractStridedSlice S8192x2816 ![0, 0] X h (ix2 t c) = X (ix2 t (lo c)) := by
  pointwise
  blk_ext [lo]

theorem right_rows (X : FVec Ideal S8192x5632 φ) (h : S8192x5632.Slices ![0, 2816] S8192x2816) (t : Fin 8192) (c : Fin 2816) :
    extractStridedSlice S8192x2816 ![0, 2816] X h (ix2 t c) = X (ix2 t (hi c)) := by
  pointwise
  blk_ext [hi]

theorem left_taps (X : FVec Ideal S3x5632 φ) (h : S3x5632.Slices ![0, 0] S3x2816) (t : Fin 3) (c : Fin 2816) :
    extractStridedSlice S3x2816 ![0, 0] X h (ix2 t c) = X (ix2 t (lo c)) := by
  pointwise
  blk_ext [lo]

theorem right_taps (X : FVec Ideal S3x5632 φ) (h : S3x5632.Slices ![0, 2816] S3x2816) (t : Fin 3) (c : Fin 2816) :
    extractStridedSlice S3x2816 ![0, 2816] X h (ix2 t c) = X (ix2 t (hi c)) := by
  pointwise
  blk_ext [hi]

theorem left_row1 (X : FVec Ideal S1x5632 φ) (h : S1x5632.Slices ![0, 0] S1x2816) (t : Fin 1) (c : Fin 2816) :
    extractStridedSlice S1x2816 ![0, 0] X h (ix2 t c) = X (ix2 t (lo c)) := by
  pointwise
  blk_ext [lo]

theorem right_row1 (X : FVec Ideal S1x5632 φ) (h : S1x5632.Slices ![0, 2816] S1x2816) (t : Fin 1) (c : Fin 2816) :
    extractStridedSlice S1x2816 ![0, 2816] X h (ix2 t c) = X (ix2 t (hi c)) := by
  pointwise
  blk_ext [hi]

end slices

/-- One element of a block of the input's gradient. -/
theorem dinput_point {D : FVec Ideal S8192x5632 .f32} {d : Fin cfg0.N → Tile} {f : Fin 2816 → Fin 5632}
    (hd : ∀ t r cc, d t (ix2 r cc) = D (ix2 (row t r) (f (col t cc)))) (k : FVec Ideal S3x5632 .f32)
    (kb : Fin cfg0.N → FVec Ideal S3x1408 .f32) (hk : ∀ t j cc, kb t (ix2 j cc) = k (ix2 j (f (col t cc))))
    (t : Fin cfg0.N) (r : Fin 512) (cc : Fin 1408) :
    k0_pay23 (d t) (kb t) (strip d t) (ix2 r cc) = dinput k D (ix2 (row t r) (f (col t cc))) := by
  have s := fun j => shifted_ext hd t j r cc
  rw [dh_apply, dinput_apply, hk, hk, hk, show d t (ix2 r cc) = _ from s 2, show k0_pay21 (d t) (strip d t) (ix2 r cc) = _ from s 1,
    show k0_pay22 (d t) (strip d t) (ix2 r cc) = _ from s 0]
  rfl

/-- The gradient of the value half's input. -/
theorem arr9 : (dats m 0 c).arrAt 9 cfg0.N =
    extractStridedSlice S8192x2816 ![0, 0] (dinput (aK m c) (grad m c)) Cert.ReferenceIdeal.Facts₀.slices_S8192x5632_S8192x2816_0_0 := by
  refine (dats m 0 c).arrAt_eq_of_covers 9 _ (by decide +kernel) fun t hf y => ?_
  blk_simp
  rw [after0_9, dh_v]
  idx_vars y
  rw [dinput_point (f := lo) (fun t r cc => dv_tile m c t r cc) (aK m c) (fun t => iblk m c 6 t) (kv_blk m c)]
  have e : (win0_9.blk t).view.emb (ix2 y0 y1) = ix2 (row t y0) (col t y1) := by blk_ext [idx t, row, col]
  rw [show ((View.whole main_v40_0).slice (win0_9.rect t)).emb (ix2 y0 y1) = _ from e, left_rows]

/-- The gradient of the gate half's input. -/
theorem arr10 (hr : Real m c) : (dats m 0 c).arrAt 10 cfg0.N =
    extractStridedSlice S8192x2816 ![0, 2816] (dinput (aK m c) (grad m c)) Cert.ReferenceIdeal.Facts₀.slices_S8192x5632_S8192x2816_0_2816 := by
  refine (dats m 0 c).arrAt_eq_of_covers 10 _ (by decide +kernel) fun t hf y => ?_
  blk_simp
  rw [after0_10, dh_g]
  idx_vars y
  rw [dinput_point (f := hi) (fun t r cc => dg_tile m c hr t r cc) (aK m c) (fun t => iblk m c 7 t) (kg_blk m c)]
  have e : (win0_10.blk t).view.emb (ix2 y0 y1) = ix2 (row t y0) (col t y1) := by blk_ext [idx t, row, col]
  rw [show ((View.whole main_v40_1).slice (win0_10.rect t)).emb (ix2 y0 y1) = _ from e, right_rows]

/-- The weight gradient. -/
theorem arr11 : (dats m 0 c).arrAt 11 cfg0.N = dweight (aC m c) (act (pre m c)) := by
  refine (dats m 0 c).arrAt_eq_of_covers 11 _ (by decide +kernel) fun t hf y => ?_
  have : t.val < 32 := t.isLt
  blk_simp
  rw [after0_11]
  idx_vars y
  have e : (win0_11.blk t).view.emb (ix3 y0 y1 y2) = ix3 (⟨2 * (t.val / 16) + y0.val, by omega⟩ : Fin 4) y1 y2 := by
    blk_ext [idx t]
  refine (weight_run m c t ((flush0_11 t).mp hf) y0 y1 y2).trans (Eq.trans ?_ (congrArg (dweight (aC m c) (act (pre m c))) e.symm))
  rw [dweight_apply]
  refine Finset.sum_congr rfl fun n _ => ?_
  rw [mul_comm, show col t ⟨y0.val * 704 + y1.val, by omega⟩ = ⟨(2 * (t.val / 16) + y0.val) * 704 + y1.val, by omega⟩ from
    Fin.ext (by simp only [col]; omega)]

/-- Its 16-bit copy. -/
theorem arr12 : (dats m 0 c).arrAt 12 cfg0.N =
    truncf .bf16 (dweight (aC m c) (act (pre m c))) Cert.ReferenceIdeal.Facts₀.bitsLt_bf16_f32 := by
  refine (dats m 0 c).arrAt_eq_of_covers 12 _ (by decide +kernel) fun t hf y => ?_
  have : t.val < 32 := t.isLt
  blk_simp
  rw [after0_12, dwd16_last m c t ((flush0_12 t).mp hf), dwd16_eq]
  idx_vars y
  have e : (win0_12.blk t).view.emb (ix3 y0 y1 y2) = ix3 (⟨2 * (t.val / 16) + y0.val, by omega⟩ : Fin 4) y1 y2 := by
    blk_ext [idx t]
  refine (weight_run m c t ((flush0_12 t).mp hf) y0 y1 y2).trans (Eq.trans ?_ (congrArg (dweight (aC m c) (act (pre m c))) e.symm))
  rw [dweight_apply]
  refine Finset.sum_congr rfl fun n _ => ?_
  rw [mul_comm, show col t ⟨y0.val * 704 + y1.val, by omega⟩ = ⟨(2 * (t.val / 16) + y0.val) * 704 + y1.val, by omega⟩ from
    Fin.ext (by simp only [col]; omega)]

/-- The tap gradient of the value half. -/
theorem arr13 : (dats m 0 c).arrAt 13 cfg0.N =
    extractStridedSlice S3x2816 ![0, 0] (dtaps (aH m c) (grad m c)) Cert.ReferenceIdeal.Facts₀.slices_S3x5632_S3x2816_0_0 := by
  refine (dats m 0 c).arrAt_eq_of_covers 13 _ (by decide +kernel) fun t hf y => ?_
  blk_simp
  rw [after0_13]
  idx_vars y
  refine (taps_run (f := lo) (H := aH m c) (fun t r cc => dv_tile m c t r cc) (h := fun t => k0_pay19 (iblk m c 1 t))
    (fun t r cc => by rw [h_eq]; exact hv_blk m c t r cc) (fun n hn => (outsAt0 m c n hn).2.2.2.2.1)
    (dcw_v m c) t ((flush0_13 t).mp hf) y0 y1).trans ?_
  have e : (win0_13.blk t).view.emb (ix2 y0 y1) = ix2 y0 (col t y1) := by blk_ext [idx t, col]
  rw [show ((View.whole main_v40_4).slice (win0_13.rect t)).emb (ix2 y0 y1) = _ from e, left_taps, dtaps_apply]

/-- The tap gradient of the gate half. -/
theorem arr14 (hr : Real m c) : (dats m 0 c).arrAt 14 cfg0.N =
    extractStridedSlice S3x2816 ![0, 2816] (dtaps (aH m c) (grad m c)) Cert.ReferenceIdeal.Facts₀.slices_S3x5632_S3x2816_0_2816 := by
  refine (dats m 0 c).arrAt_eq_of_covers 14 _ (by decide +kernel) fun t hf y => ?_
  blk_simp
  rw [after0_14]
  idx_vars y
  refine (taps_run (f := hi) (H := aH m c) (fun t r cc => dg_tile m c hr t r cc) (h := fun t => k0_pay19 (iblk m c 2 t))
    (fun t r cc => by rw [h_eq]; exact hg_blk m c t r cc) (fun n hn => (outsAt0 m c n hn).2.2.2.2.2.1)
    (dcw_g m c) t ((flush0_14 t).mp hf) y0 y1).trans ?_
  have e : (win0_14.blk t).view.emb (ix2 y0 y1) = ix2 y0 (col t y1) := by blk_ext [idx t, col]
  rw [show ((View.whole main_v40_5).slice (win0_14.rect t)).emb (ix2 y0 y1) = _ from e, right_taps, dtaps_apply]

/-- The bias gradient of the value half. -/
theorem arr15 : (dats m 0 c).arrAt 15 cfg0.N =
    extractStridedSlice S1x2816 ![0, 0] (dbias (grad m c)) Cert.ReferenceIdeal.Facts₀.slices_S1x5632_S1x2816_0_0 := by
  refine (dats m 0 c).arrAt_eq_of_covers 15 _ (by decide +kernel) fun t hf y => ?_
  blk_simp
  rw [after0_15]
  idx_vars y
  obtain rfl : y0 = 0 := Subsingleton.elim _ _
  refine (bias_run (f := lo) (fun t r cc => dv_tile m c t r cc) (fun n hn => (outsAt0 m c n hn).2.2.2.2.2.2.1)
    (db_v m c) t ((flush0_15 t).mp hf) y1).trans ?_
  have e : (win0_15.blk t).view.emb (ix2 0 y1) = ix2 0 (col t y1) := by blk_ext [idx t, col]
  rw [show ((View.whole main_v40_6).slice (win0_15.rect t)).emb (ix2 0 y1) = _ from e, left_row1, dbias_apply]

/-- The bias gradient of the gate half. -/
theorem arr16 (hr : Real m c) : (dats m 0 c).arrAt 16 cfg0.N =
    extractStridedSlice S1x2816 ![0, 2816] (dbias (grad m c)) Cert.ReferenceIdeal.Facts₀.slices_S1x5632_S1x2816_0_2816 := by
  refine (dats m 0 c).arrAt_eq_of_covers 16 _ (by decide +kernel) fun t hf y => ?_
  blk_simp
  rw [after0_16]
  idx_vars y
  obtain rfl : y0 = 0 := Subsingleton.elim _ _
  refine (bias_run (f := hi) (fun t r cc => dg_tile m c hr t r cc) (fun n hn => (outsAt0 m c n hn).2.2.2.2.2.2.2.1)
    (db_g m c) t ((flush0_16 t).mp hf) y1).trans ?_
  have e : (win0_16.blk t).view.emb (ix2 0 y1) = ix2 0 (col t y1) := by blk_ext [idx t, col]
  rw [show ((View.whole main_v40_7).slice (win0_16.rect t)).emb (ix2 0 y1) = _ from e, right_row1, dbias_apply]

end Cert.KernelIdeal.Ffn
end
-- ==== Proof.Ffn.ReferenceOut.lean ====
module

public import proofs.«01_k».proof.Proof.Gen.ReferenceIdeal.Run
public import proofs.«01_k».proof.Proof.Ffn.Reference

/-!
# The reference, in stages, and its results element by element

The reference differentiates the gated feed-forward block: a causal convolution of three taps over
the rows, a split into a value half and a gate half, `silu(gate) * value`, and a product with
`w_down`. The stages below are the arrays it forms on the way, in its own order.
-/

@[expose] public section

set_option maxRecDepth 16384

noncomputable section

namespace Cert.ReferenceIdeal.Ffn

open Cert.ReferenceIdeal Cert.ReferenceIdeal.Gen Cert.ReferenceIdeal.Value
open Idealize.ShloMosaic Idealize.ShloMosaic.TcCoe Idealize.SL.Sem Idealize.ShloMosaic.StableHlo

section results
variable (m : (ℓ : Loc nD τ sig) → Buf (Elt Ideal) ℓ) (c : Dev nD)

/-- The arguments, at their types. -/
abbrev aH : FVec Ideal S8192x5632 .f32 := m ((c.tc : Thread nD τ).loc main_arg0)
@[inherit_doc aH] abbrev aK : FVec Ideal S3x5632 .f32 := m ((c.tc : Thread nD τ).loc main_arg1)
@[inherit_doc aH] abbrev aB : FVec Ideal S5632 .f32 := m ((c.tc : Thread nD τ).loc main_arg2)
@[inherit_doc aH] abbrev aW : FVec Ideal S2816x1024 .f32 := m ((c.tc : Thread nD τ).loc main_arg3)
@[inherit_doc aH] abbrev aC : FVec Ideal S8192x1024 .f32 := m ((c.tc : Thread nD τ).loc main_arg4)

theorem out0_eq : res_out0 m c = extractStridedSlice S8192x2816 ![0, 0]
    (dinput (aK m c) (gradConv (aH m c) (aK m c) (aB m c) (aW m c) (aC m c))) slices_S8192x5632_S8192x2816_0_0 := rfl

theorem out1_eq : res_out1 m c = extractStridedSlice S8192x2816 ![0, 2816]
    (dinput (aK m c) (gradConv (aH m c) (aK m c) (aB m c) (aW m c) (aC m c))) slices_S8192x5632_S8192x2816_0_2816 := rfl

theorem out2_eq : res_out2 m c = dweight (aC m c) (act (conv (aH m c) (aK m c) (aB m c))) := rfl

theorem out3_eq : res_out3 m c = truncf .bf16 (dweight (aC m c) (act (conv (aH m c) (aK m c) (aB m c)))) bitsLt_bf16_f32 := rfl

theorem out4_eq : res_out4 m c = extractStridedSlice S3x2816 ![0, 0]
    (dtaps (aH m c) (gradConv (aH m c) (aK m c) (aB m c) (aW m c) (aC m c))) slices_S3x5632_S3x2816_0_0 := rfl

theorem out5_eq : res_out5 m c = extractStridedSlice S3x2816 ![0, 2816]
    (dtaps (aH m c) (gradConv (aH m c) (aK m c) (aB m c) (aW m c) (aC m c))) slices_S3x5632_S3x2816_0_2816 := rfl

theorem out6_eq : res_out6 m c = extractStridedSlice S1x2816 ![0, 0]
    (dbias (gradConv (aH m c) (aK m c) (aB m c) (aW m c) (aC m c))) slices_S1x5632_S1x2816_0_0 := rfl

theorem out7_eq : res_out7 m c = extractStridedSlice S1x2816 ![0, 2816]
    (dbias (gradConv (aH m c) (aK m c) (aB m c) (aW m c) (aC m c))) slices_S1x5632_S1x2816_0_2816 := rfl

end results

end Cert.ReferenceIdeal.Ffn
end
-- ==== Proof.Ffn.Equal.lean ====
module

public import proofs.«01_k».proof.Defs
public import proofs.«01_k».proof.Proof.Ffn.Arrays
public import proofs.«01_k».proof.Proof.Ffn.ReferenceOut

/-!
# The kernel's eight arrays are the reference's eight results

Of arguments that agree and are real numbers everywhere.
-/

@[expose] public section

noncomputable section

open Idealize.ShloMosaic Idealize.ShloMosaic.TcCoe Idealize.SL.Sem

namespace Cert.Ffn

open Cert.KernelIdeal (cfg0)
open Cert.KernelIdeal.Gen (dats)
open Cert.ReferenceIdeal.Value

/-- The precondition makes the arguments real. -/
theorem real_of_pre (m : (ℓ : Loc KernelIdeal.nD KernelIdeal.τ KernelIdeal.sig) → Buf (Elt Ideal) ℓ)
    (hp : Pre_KernelIdeal_finite m) (c : Dev KernelIdeal.nD) : KernelIdeal.Ffn.Real m c :=
  ReferenceIdeal.Ffn.args_real _ _ _ _ _ (hp c)

/-- The two programs' arguments agree on a device. -/
structure Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop where
  h : ReferenceIdeal.Ffn.aH m' c = KernelIdeal.Ffn.aH m c
  k : ReferenceIdeal.Ffn.aK m' c = KernelIdeal.Ffn.aK m c
  b : ReferenceIdeal.Ffn.aB m' c = KernelIdeal.Ffn.aB m c
  w : ReferenceIdeal.Ffn.aW m' c = KernelIdeal.Ffn.aW m c
  ct : ReferenceIdeal.Ffn.aC m' c = KernelIdeal.Ffn.aC m c

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- The gradient at the convolution's output, and the activation, are the same on both sides. -/
theorem Agree.grad (a : Agree m m' c) :
    ReferenceIdeal.Ffn.gradConv (ReferenceIdeal.Ffn.aH m' c) (ReferenceIdeal.Ffn.aK m' c) (ReferenceIdeal.Ffn.aB m' c)
      (ReferenceIdeal.Ffn.aW m' c) (ReferenceIdeal.Ffn.aC m' c) = KernelIdeal.Ffn.grad m c := by
  rw [a.h, a.k, a.b, a.w, a.ct]

@[inherit_doc Agree.grad] theorem Agree.pre (a : Agree m m' c) :
    ReferenceIdeal.Ffn.conv (ReferenceIdeal.Ffn.aH m' c) (ReferenceIdeal.Ffn.aK m' c) (ReferenceIdeal.Ffn.aB m' c) =
      KernelIdeal.Ffn.pre m c := by
  rw [a.h, a.k, a.b]

theorem equal0 (a : Agree m m' c) : res_out0 m' c = (dats m 0 c).arrAt 9 cfg0.N := by
  rw [KernelIdeal.Ffn.arr9, ReferenceIdeal.Ffn.out0_eq, a.grad, a.k]

theorem equal1 (a : Agree m m' c) (hr : KernelIdeal.Ffn.Real m c) : res_out1 m' c = (dats m 0 c).arrAt 10 cfg0.N := by
  rw [KernelIdeal.Ffn.arr10 m c hr, ReferenceIdeal.Ffn.out1_eq, a.grad, a.k]

theorem equal2 (a : Agree m m' c) : res_out2 m' c = (dats m 0 c).arrAt 11 cfg0.N := by
  rw [KernelIdeal.Ffn.arr11, ReferenceIdeal.Ffn.out2_eq, a.pre, a.ct]

theorem equal3 (a : Agree m m' c) : res_out3 m' c = (dats m 0 c).arrAt 12 cfg0.N := by
  rw [KernelIdeal.Ffn.arr12, ReferenceIdeal.Ffn.out3_eq, a.pre, a.ct]

theorem equal4 (a : Agree m m' c) : res_out4 m' c = (dats m 0 c).arrAt 13 cfg0.N := by
  rw [KernelIdeal.Ffn.arr13, ReferenceIdeal.Ffn.out4_eq, a.grad, a.h]

theorem equal5 (a : Agree m m' c) (hr : KernelIdeal.Ffn.Real m c) : res_out5 m' c = (dats m 0 c).arrAt 14 cfg0.N := by
  rw [KernelIdeal.Ffn.arr14 m c hr, ReferenceIdeal.Ffn.out5_eq, a.grad, a.h]

theorem equal6 (a : Agree m m' c) : res_out6 m' c = (dats m 0 c).arrAt 15 cfg0.N := by
  rw [KernelIdeal.Ffn.arr15, ReferenceIdeal.Ffn.out6_eq, a.grad]

theorem equal7 (a : Agree m m' c) (hr : KernelIdeal.Ffn.Real m c) : res_out7 m' c = (dats m 0 c).arrAt 16 cfg0.N := by
  rw [KernelIdeal.Ffn.arr16 m c hr, ReferenceIdeal.Ffn.out7_eq, a.grad]

end Cert.Ffn
end
-- ==== Proof.Norm.Scalar.lean ====
module

public import Idealize.ShloMosaic.PureOps.Ideal

/-!
# The gradient of a row's normalisation

A row `x` is scaled by the reciprocal root of its mean square. The derivative of that, step by step, is brought to the
closed form `r (u - x̂ mean(u x̂))`. No entry needs to be finite: where one is not, the mean square is infinite and the
reciprocal root is zero, and on both sides nothing is left of the row.
-/

@[expose] public section

noncomputable section

namespace Cert.Norm

open Idealize.ShloMosaic

/-- A square is not negative. -/
theorem sq_nonneg (x : EReal) : 0 ≤ x * x := by
  induction x using EReal.rec with
  | bot => simp
  | coe r => exact_mod_cast mul_self_nonneg r
  | top => simp

/-- A real factor that is not negative moves out of a sum. -/
theorem mul_sum {ι : Type*} (s : Finset ι) {r : ℝ} (hr : 0 ≤ r) (f : ι → EReal) :
    ∑ i ∈ s, (r : EReal) * f i = r * ∑ i ∈ s, f i := by
  classical
  induction s using Finset.induction_on with
  | empty => simp
  | insert a s ha ih =>
    rw [Finset.sum_insert ha, Finset.sum_insert ha, ih,
      EReal.left_distrib_of_nonneg_of_ne_top (by exact_mod_cast hr) (EReal.coe_ne_top r)]

/-- The reciprocal root `r` of a mean square `s` that is positive, and `r / s`: either both are zero, the mean square
being infinite, or `r` is a positive real number and `r / s` its cube. -/
theorem rsqrt_cases {s : EReal} (hs : 0 < s) :
    (Ideal.rsqrt s = 0 ∧ Ideal.div (Ideal.rsqrt s) s = 0) ∨
      ∃ r : ℝ, 0 < r ∧ Ideal.rsqrt s = r ∧ Ideal.div (Ideal.rsqrt s) s = ((r * r * r : ℝ) : EReal) := by
  induction s using EReal.rec with
  | bot => simp at hs
  | top => left; simp [Ideal.div]
  | coe v =>
    right
    have hv : 0 < v := by exact_mod_cast hs
    refine ⟨(Real.sqrt v)⁻¹, by positivity, ?_, ?_⟩
    · rw [Ideal.rsqrt_coe, if_neg hv.not_gt, if_neg hv.ne']
    · rw [Ideal.rsqrt_coe, if_neg hv.not_gt, if_neg hv.ne', Ideal.div, if_neg (by exact_mod_cast hv.ne'),
        ← EReal.coe_inv, ← EReal.coe_mul]
      congr 1
      rw [mul_assoc, ← mul_inv √v √v, Real.mul_self_sqrt hv.le]

/-- Half of a number taken off twice. -/
theorem half_add_half (y : EReal) : ((-(1/2) : ℝ) : EReal) * y + ((-(1/2) : ℝ) : EReal) * y = -y := by
  induction y using EReal.rec with
  | bot => rw [EReal.coe_mul_bot_of_neg (by norm_num)]; simp
  | top => rw [EReal.coe_mul_top_of_neg (by norm_num)]; simp
  | coe r => norm_cast; ring

/-- Division by a real number that is not zero. -/
theorem div_coe {n : ℝ} (hn : n ≠ 0) (x : EReal) : Ideal.div x n = x * ((n⁻¹ : ℝ) : EReal) := by
  rw [Ideal.div, if_neg (by exact_mod_cast hn), ← EReal.coe_inv]

/-- A mean square with something positive added is positive. -/
theorem mean_pos {ι : Type*} [Fintype ι] (x : ι → EReal) {n e : ℝ} (hn : 0 < n) (he : 0 < e) :
    0 < Ideal.div (∑ i, x i * x i) n + e := by
  rw [div_coe hn.ne']
  have h : 0 ≤ (∑ i, x i * x i) * ((n⁻¹ : ℝ) : EReal) :=
    mul_nonneg (Finset.sum_nonneg fun i _ => sq_nonneg _) (by exact_mod_cast (inv_pos.mpr hn).le)
  exact lt_of_lt_of_le (by exact_mod_cast he) (le_add_of_nonneg_left h)

/-- The gradient of a row's normalisation at one place, as the kernel has it on the right: with `x` the row and `u` the
cotangent of its normalised entries, `r (u - x̂ mean(u x̂))`, and on the left as the derivative of each step. -/
theorem grad_eq {ι : Type*} [Fintype ι] (x u : ι → EReal) (d : EReal) {s : EReal} (hs : 0 < s) {n : ℝ} (hn : n ≠ 0)
    (j : ι) :
    d + u j * Ideal.rsqrt s
        + x j * Ideal.div ((∑ i, x i * u i) * (((-(1/2) : ℝ) : EReal) * Ideal.div (Ideal.rsqrt s) s)) n
        + Ideal.div ((∑ i, x i * u i) * (((-(1/2) : ℝ) : EReal) * Ideal.div (Ideal.rsqrt s) s)) n * x j =
      d + Ideal.rsqrt s * (u j - x j * Ideal.rsqrt s * Ideal.div (∑ i, u i * (x i * Ideal.rsqrt s)) n) := by
  obtain ⟨h, h'⟩ | ⟨r, hr, h, h'⟩ := rsqrt_cases hs
  · rw [h', h, div_coe hn]
    simp
  · rw [h', h, div_coe hn, div_coe hn]
    have e : ∑ i, u i * (x i * (r : EReal)) = r * ∑ i, x i * u i := by
      rw [← mul_sum _ hr.le]
      exact Finset.sum_congr rfl fun i _ => by rw [mul_comm (r : EReal), mul_comm (x i) (u i), mul_assoc]
    rw [e, sub_eq_add_neg, EReal.left_distrib_of_nonneg_of_ne_top (by exact_mod_cast hr.le) (EReal.coe_ne_top r),
      add_assoc (d + _), add_assoc d, mul_comm (u j)]
    congr 2
    set t := ∑ i, x i * u i
    rw [show (r : EReal) * -(x j * r * (r * t * ((n⁻¹ : ℝ) : EReal))) =
        -(t * ((r : EReal) * r * r) * ((n⁻¹ : ℝ) : EReal) * x j) by
          rw [mul_neg]; congr 1; ac_rfl, ← half_add_half]
    push_cast
    congr 1 <;> ac_rfl

/-- The length of a row, the number added to its mean square, and minus a half, as the programs write them. -/
abbrev len : EReal := Ideal.ofBits .f32 0x44800000#32
@[inherit_doc len] abbrev eps : EReal := Ideal.ofBits .f32 0x358637BD#32
@[inherit_doc len] abbrev mhalf : EReal := Ideal.ofBits .f32 0xBF000000#32

theorem len_eq : len = ((1024 : ℝ) : EReal) := by
  simp [Ideal.ofBits, Ideal.ieee]; norm_cast; norm_num
theorem mhalf_eq : mhalf = ((-(1/2) : ℝ) : EReal) := by
  simp [Ideal.ofBits, Ideal.ieee]; norm_cast; norm_num
theorem eps_pos : ∃ e : ℝ, 0 < e ∧ eps = e := by
  refine ⟨8796093 * (2 ^ 43)⁻¹, by positivity, ?_⟩
  simp [Ideal.ofBits, Ideal.ieee]

/-- A row of 1024 numbers. -/
abbrev Row := Fin 1024 → EReal

/-- The mean square of a row, with the small number added. -/
def ms (x : Row) : EReal := Ideal.div (∑ k, x k * x k) len + eps

/-- The reciprocal root. -/
def inv (x : Row) : EReal := Ideal.rsqrt (ms x)

/-- A normalised row. -/
def hat (x : Row) : Row := fun j => x j * inv x

/-- What comes down to a row from the cotangent `u` of its normalised entries. -/
def down (x u : Row) : Row := fun j => inv x * (u j - hat x j * Ideal.div (∑ k, u k * hat x k) len)

theorem ms_pos (x : Row) : 0 < ms x := by
  obtain ⟨e, he, h⟩ := eps_pos
  rw [ms, h, len_eq]
  exact mean_pos x (by norm_num) he

/-- The derivative step by step is the closed form. -/
theorem steps_eq (x u : Row) (d : EReal) (j : Fin 1024) :
    d + u j * inv x + x j * Ideal.div ((∑ k, x k * u k) * (mhalf * Ideal.div (inv x) (ms x))) len
        + Ideal.div ((∑ k, x k * u k) * (mhalf * Ideal.div (inv x) (ms x))) len * x j =
      d + down x u j := by
  rw [len_eq, mhalf_eq, down, len_eq]
  exact grad_eq x u d (ms_pos x) (by norm_num) j

end Cert.Norm
end
end
-- ==== Proof.Norm.Reference.lean ====
module

public import proofs.«01_k».proof.Proof.Gen.Reference2Ideal.Run
public import proofs.«01_k».proof.Proof.Norm.Scalar
public import Idealize.ShloMosaic.Lib.Pointwise

/-!
# The reference's gradient of a normalisation, stage by stage

From the product `q` of the cotangent with the projection's weight on. The stages know nothing of the projection's
width.
-/

@[expose] public section

set_option maxRecDepth 16384

noncomputable section

namespace Cert.Norm

open Cert.Reference2Ideal Cert.Reference2Ideal.Gen
open Idealize.ShloMosaic Idealize.ShloMosaic.TcCoe

/-- A row of an array. -/
def rowOf {n : ℕ} (x : FVec Ideal ⟨2, ![n, 1024]⟩ .f32) (r : Fin n) : Row := fun k => x (ix2 r k)

section stages
variable (x : FVec Ideal S8192x1024 .f32) (g : FVec Ideal S1024 .f32) (d q u : FVec Ideal S8192x1024 .f32)

/-- A number for each row. -/
def splat (b : BitVec 32) : FVec Ideal S8192x1 .f32 :=
  broadcastInDim S8192x1 ![] bcast_S_S8192x1 (constant S_ .f32 b)

/-- The rows' mean squares. -/
def sMs : FVec Ideal S8192x1 .f32 :=
  addf (Host.divf (broadcastInDim S8192x1 ![0] bcast_S8192_S8192x1_0
    (Host.reduceAdd (mulf x x) (constant S_ .f32 0x00000000#32) reducesTo_S8192x1024_S8192_d1 h_S_)) (splat 0x44800000#32))
    (splat 0x358637BD#32)

/-- Their reciprocal roots. -/
def sInv : FVec Ideal S8192x1 .f32 := Host.rsqrt (sMs x)

/-- The normalised rows. -/
def sHat : FVec Ideal S8192x1024 .f32 := mulf x (broadcastInDim S8192x1024 ![0, 1] bcast_S8192x1_S8192x1024_0_1 (sInv x))

/-- The gain, repeated over the rows. -/
def sGain : FVec Ideal S8192x1024 .f32 :=
  broadcastInDim S8192x1024 ![0, 1] bcast_S1x1024_S8192x1024_0_1 (broadcastInDim S1x1024 ![1] bcast_S1024_S1x1024_1 g)

/-- The normalised rows with their gain: what the projection is applied to. -/
def sNorm : FVec Ideal S8192x1024 .f32 := mulf (sHat x) (sGain g)

/-- What comes down to a row through its mean square, of the cotangent `u` of the normalised rows. -/
def sMean : FVec Ideal S8192x1024 .f32 :=
  broadcastInDim S8192x1024 ![0] bcast_S8192_S8192x1024_0
    (Host.reduceAdd (Host.divf (mulf (shapeCast S8192x1
        (Host.reduceAdd (mulf x u) (constant S_ .f32 0x00000000#32) reducesTo_S8192x1024_S8192_d1 h_S_) shapeCasts_S8192_S8192x1)
      (mulf (splat 0xBF000000#32) (Host.divf (sInv x) (sMs x)))) (splat 0x44800000#32))
      (constant S_ .f32 0x00000000#32) reducesTo_S8192x1_S8192_d1 h_S_)

/-- The gradient of the rows. -/
def sDx : FVec Ideal S8192x1024 .f32 :=
  addf (addf (addf d (mulf (mulf q (sGain g)) (broadcastInDim S8192x1024 ![0, 1] bcast_S8192x1_S8192x1024_0_1 (sInv x))))
    (mulf x (sMean x (mulf q (sGain g))))) (mulf (sMean x (mulf q (sGain g))) x)

/-- The gradient of the gain. -/
def sDg : FVec Ideal S1x1024 .f32 :=
  shapeCast S1x1024 (Host.reduceAdd (shapeCast S1x1024
    (Host.reduceAdd (mulf (sHat x) q) (constant S_ .f32 0x00000000#32) reducesTo_S8192x1024_S1024_d0 h_S_)
    shapeCasts_S1024_S1x1024) (constant S_ .f32 0x00000000#32) reducesTo_S1x1024_S1024_d0 h_S_) shapeCasts_S1024_S1x1024

theorem sMs_apply (n : Fin 8192) : sMs x (ix2 n 0) = ms (rowOf x n) := by
  pointwise [sMs, splat]
  rfl

theorem sInv_apply (n : Fin 8192) : sInv x (ix2 n 0) = inv (rowOf x n) := by
  pointwise [sInv]
  rw [sMs_apply]
  rfl

theorem sHat_apply (n : Fin 8192) (j : Fin 1024) : sHat x (ix2 n j) = hat (rowOf x n) j := by
  pointwise [sHat]
  rw [sInv_apply]
  rfl

theorem sGain_apply (n : Fin 8192) (j : Fin 1024) : sGain g (ix2 n j) = g (ix1 j) := by
  pointwise [sGain]

theorem sNorm_apply (n : Fin 8192) (j : Fin 1024) : sNorm x g (ix2 n j) = hat (rowOf x n) j * g (ix1 j) := by
  pointwise [sNorm]
  rw [sHat_apply, sGain_apply]

theorem sMean_apply (n : Fin 8192) (j : Fin 1024) : sMean x u (ix2 n j) =
    Ideal.div ((∑ k, rowOf x n k * rowOf u n k) * (mhalf * Ideal.div (inv (rowOf x n)) (ms (rowOf x n)))) len := by
  pointwise [sMean, splat]
  refine (Fin.sum_univ_one _).trans ?_
  rw [sInv_apply, sMs_apply]
  rfl

/-- The gradient of the rows, in closed form. -/
theorem sDx_apply (n : Fin 8192) (j : Fin 1024) :
    sDx x g d q (ix2 n j) = d (ix2 n j) + down (rowOf x n) (fun k => q (ix2 n k) * g (ix1 k)) j := by
  have hu : rowOf (mulf q (sGain g)) n = fun k => q (ix2 n k) * g (ix1 k) := by
    funext k
    pointwise [rowOf]
    rw [sGain_apply]
  rw [← hu]
  refine Eq.trans ?_ (steps_eq _ _ _ _)
  pointwise [sDx]
  rw [sInv_apply, sMean_apply, sGain_apply, hu]
  rfl

/-- The gradient of the gain: a sum over the rows. -/
theorem sDg_apply (j : Fin 1024) : sDg x q (ix2 0 j) = ∑ n : Fin 8192, hat (rowOf x n) j * q (ix2 n j) := by
  pointwise [sDg]
  refine (Fin.sum_univ_one _).trans ?_
  exact Finset.sum_congr rfl fun n _ => by rw [sHat_apply]

end stages

end Cert.Norm
end
-- ==== Proof.Norm.Block.lean ====
module

public import proofs.«01_k».proof.Proof.Gen.Kernel2Ideal.Skeleton
public import proofs.«01_k».proof.Proof.Norm.Reference
public import Idealize.ShloMosaic.Lib.Pipeline.ValueKit

/-!
# What one grid point makes of 512 rows

Of the product `q` of the cotangent's rows with the weight: the rows' gradient, and the gain's.
-/

@[expose] public section

set_option maxRecDepth 16384

noncomputable section

namespace Cert.Norm

open Cert.Kernel2Ideal Cert.Kernel2Ideal.Gen
open Idealize.ShloMosaic Idealize.ShloMosaic.TcCoe

variable (q x : FVec Ideal S512x1024 .f32)

theorem pInv_apply (r : Fin 512) : k0_pay1 (F := Ideal) (k0_pay7 x) (ix2 r 0) = inv (rowOf x r) := by
  pointwise [k0_pay1, k0_pay7]
  rfl

theorem pHat_apply (r : Fin 512) (j : Fin 1024) : k0_pay2 (F := Ideal) x (k0_pay7 x) (ix2 r j) = hat (rowOf x r) j := by
  pointwise [k0_pay2]
  rw [pInv_apply]
  rfl

/-- The gradient of the rows. -/
theorem rows_apply (g : FVec Ideal S1x1024 .f32) (d : FVec Ideal S512x1024 .f32) (r : Fin 512) (j : Fin 1024) :
    k0_pay3 q x (k0_pay7 x) g d (ix2 r j) =
      d (ix2 r j) + down (rowOf x r) (fun k => q (ix2 r k) * g (ix2 0 k)) j := by
  pointwise [k0_pay3]
  rw [pInv_apply]
  simp only [pHat_apply]
  rfl

/-- The gain's accumulator gains the products over the tile's rows. -/
theorem gain_apply (acc : FVec Ideal S1x1024 .f32) (j : Fin 1024) :
    k0_pay4 q x (k0_pay7 x) acc (ix2 0 j) = acc (ix2 0 j) + ∑ r : Fin 512, q (ix2 r j) * hat (rowOf x r) j := by
  pointwise [k0_pay4]
  simp only [pHat_apply]

theorem gain_zero (j : Fin 1024) : k0_pay5 (F := Ideal) (ix2 0 j) = (0 : EReal) := by pointwise [k0_pay5]

end Cert.Norm
end
-- ==== Proof.Norm.Sums.lean ====
module

public import Idealize.ShloMosaic.Lib.Pipeline.ValueKit
public import Idealize.ShloMosaic.Lib.Pointwise
public import Idealize.ShloMosaic.Lib.Claim

/-!
# Sums over runs of rows and runs of columns
-/

@[expose] public section

noncomputable section

open Idealize.ShloMosaic Idealize.ShloMosaic.TcCoe Idealize.SL.Sem

namespace Cert.Norm

/-- The array's row at row `r` of point `t`'s 512 rows. -/
def row (t : Fin 16) (r : Fin 512) : Fin 8192 := ⟨512 * t.val + r.val, by omega⟩

/-- The sum over `n` places, from place `o` on. -/
def seg {N : ℕ} (f : Fin N → EReal) (o n : ℕ) (h : o + n ≤ N) : EReal := ∑ i : Fin n, f ⟨o + i.val, by omega⟩

/-- A run and the run after it are one run. -/
theorem seg_add {N : ℕ} (f : Fin N → EReal) (o a b : ℕ) (h : o + a + b ≤ N) :
    seg f o a (by omega) + seg f (o + a) b h = seg f o (a + b) (by omega) := by
  unfold seg
  rw [Fin.sum_univ_add]
  refine congrArg₂ (· + ·) rfl (Finset.sum_congr rfl fun i _ => congrArg f (Fin.ext ?_))
  simp only [Fin.val_natAdd]
  omega

/-- The run of all places. -/
theorem seg_all {N : ℕ} (f : Fin N → EReal) : seg f 0 N (by omega) = ∑ i : Fin N, f i :=
  Finset.sum_congr rfl fun i _ => congrArg f (Fin.ext (Nat.zero_add _))

/-- The sixteen points' rows are all the rows. -/
theorem sum_rows (g : Fin 8192 → EReal) : ∑ s : Fin 16, ∑ r : Fin 512, g (row s r) = ∑ n : Fin 8192, g n :=
  Fin.sum_mul_add_congr fun s r hl => congrArg g (Fin.ext (by simp only [row]; omega))

/-- What starts from zero at the first of sixteen points and gains its rows at every point is, at the last, the sum over
all rows. -/
theorem run_rows {ι : Type} (f : (n : ℕ) → n < 16 → ι → EReal) (g : ι → Fin 8192 → EReal)
    (h0 : ∀ t : Fin 16, t.val % 16 = 0 → ∀ i, f t.val t.isLt i = 0 + ∑ r : Fin 512, g i (row t r))
    (hs : ∀ t : Fin 16, ¬t.val % 16 = 0 → ∀ i, f t.val t.isLt i =
      f (t.val - 1) (Nat.lt_of_le_of_lt (Nat.sub_le _ _) t.isLt) i + ∑ r : Fin 512, g i (row t r))
    (t : Fin 16) (ht : t.val % 16 = 15) (i : ι) : f t.val t.isLt i = ∑ n : Fin 8192, g i n := by
  rw [Pipeline.eq_sum_fin_of_reset_step_apply_of_flush f 16 (fun _ => 0) (fun t i => ∑ r : Fin 512, g i (row t r))
    h0 hs t ht i, zero_add, ← sum_rows (g i)]
  refine Finset.sum_congr rfl fun s _ => ?_
  rw [show row ⟨16 * (t.val / 16) + s.val, Pipeline.run_point_lt_of_flush t ht s⟩ = row s from
    congrArg row (Fin.ext (by show 16 * (t.val / 16) + s.val = s.val; omega))]

/-- What starts from zero at the first of `L` points in a row and gains, at every point, the next `R` of all rows, is at the
last of them the sum over all rows. Points with the same quotient by `L` work on one sum. -/
theorem run_tiles {N L R : ℕ} [NeZero L] {ι : Type} (hLR : 8192 = L * R) (f : (n : ℕ) → n < N → ι → EReal)
    (place : Fin N → Fin R → Fin 8192) (hp : ∀ t r, (place t r).val = t.val % L * R + r.val)
    (g : Fin N → ι → Fin 8192 → EReal) (hg : ∀ t t' : Fin N, t.val / L = t'.val / L → g t = g t')
    (h0 : ∀ t : Fin N, t.val % L = 0 → ∀ i, f t.val t.isLt i = 0 + ∑ r : Fin R, g t i (place t r))
    (hs : ∀ t : Fin N, ¬t.val % L = 0 → ∀ i, f t.val t.isLt i =
      f (t.val - 1) (Nat.lt_of_le_of_lt (Nat.sub_le _ _) t.isLt) i + ∑ r : Fin R, g t i (place t r))
    (t : Fin N) (ht : t.val % L = L - 1) (i : ι) : f t.val t.isLt i = ∑ n : Fin 8192, g t i n := by
  rw [Pipeline.eq_sum_fin_of_reset_step_apply_of_flush f L (fun _ => 0) (fun t i => ∑ r : Fin R, g t i (place t r))
    h0 hs t ht i, zero_add]
  refine Fin.sum_mul_add_congr (fun s r hl => ?_) hLR
  have hq : (L * (t.val / L) + s.val) / L = t.val / L := by
    rw [Nat.mul_add_div (NeZero.pos L), Nat.div_eq_of_lt s.isLt, Nat.add_zero]
  rw [hg ⟨L * (t.val / L) + s.val, Pipeline.run_point_lt_of_flush t ht s⟩ t hq]
  refine congrArg (g t i) (Fin.ext ?_)
  rw [hp]
  show (L * (t.val / L) + s.val) % L * R + r.val = s.val * R + r.val
  rw [Nat.mul_add_mod, Nat.mod_eq_of_lt s.isLt]

end Cert.Norm
end
-- ==== Proof.Norm.Up.lean ====
module

public import proofs.«01_k».proof.Proof.Gen.Kernel2Ideal.Value
public import proofs.«01_k».proof.Proof.Norm.Block
public import proofs.«01_k».proof.Proof.Norm.Sums
public import Idealize.ShloMosaic.Lib.Pipeline.ValueKit
public import Idealize.ShloMosaic.Lib.Pipeline.ReadBack
public import Idealize.ShloMosaic.Lib.Claim

/-!
# The gradient of the up projection's input

Point `t` works on the rows `512 * t + r`.
-/

@[expose] public section

set_option maxRecDepth 16384

noncomputable section

open Idealize.ShloMosaic Idealize.ShloMosaic.TcCoe Idealize.SL.Sem

namespace Cert.Norm.Up

open Cert.Kernel2Ideal Cert.Kernel2Ideal.Gen

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aW : FVec Ideal S1024x5632 .f32 := m ((c : Thread nD τ).loc main_arg2)
@[inherit_doc aX] abbrev aD : FVec Ideal S8192x1024 .f32 := m ((c : Thread nD τ).loc main_arg3)
@[inherit_doc aX] abbrev aC : FVec Ideal S8192x5632 .f32 := m ((c : Thread nD τ).loc main_arg4)

/-- `main_v1`: the left half of the gradient coming in. -/
theorem V_lo : V m c main_v1 = extractStridedSlice S8192x2816 ![0, 0] (aC m c) slices_S8192x5632_S8192x2816_0_0 := by
  simp only [V, hostOps0, List.flatten_cons, List.flatten_nil, List.append_nil, List.cons_append, List.nil_append]
  entry_read
  rfl

/-- `main_v2`: its right half. -/
theorem V_hi : V m c main_v2 = extractStridedSlice S8192x2816 ![0, 2816] (aC m c) slices_S8192x5632_S8192x2816_0_2816 := by
  simp only [V, hostOps0, List.flatten_cons, List.flatten_nil, List.append_nil, List.cons_append, List.nil_append]
  entry_read
  rfl

/-- `main_v5`: the weight, a quarter of its columns for each chip. -/
theorem V_w : V m c main_v5 = transpose S4x1024x1408 [1, 0, 2] (shapeCast S1024x4x1408 (aW m c) shapeCasts_S1024x5632_S1024x4x1408)
    transposes_S1024x4x1408_S4x1024x1408_1_0_2 := by
  simp only [V, hostOps0, List.flatten_cons, List.flatten_nil, List.append_nil, List.cons_append, List.nil_append]
  entry_read
  rfl

/-- `main_v6`: the gain, as a row. -/
theorem V_g : V m c main_v6 = shapeCast S1x1024 (aG m c) shapeCasts_S1024_S1x1024 := by
  simp only [V, hostOps0, List.flatten_cons, List.flatten_nil, List.append_nil, List.cons_append, List.nil_append]
  entry_read
  rfl

/-- The block each window reads or writes at a point. -/
theorem idx : ∀ t : Fin cfg0.N,
    win0_0.index t = ![t.val, 0] ∧ win0_1.index t = ![t.val, 0] ∧ win0_2.index t = ![0, 0, 0] ∧
    win0_3.index t = ![t.val, 0] ∧ win0_4.index t = ![0, 0] ∧ win0_5.index t = ![t.val, 0] ∧
    win0_6.index t = ![t.val, 0] ∧ win0_7.index t = ![0, 0] :=
  (by decide +kernel : ∀ t : Fin grid0.N, _)

/-- The rows of the residual stream. -/
theorem x_blk (t : Fin cfg0.N) (r : Fin 512) (j : Fin 1024) :
    (show EReal from iblk m c 3 t (ix2 r j)) = aX m c (ix2 (row t r) j) := by
  have : t.val < 16 := t.isLt
  blk_simp [iblk, idx t]
  blk_ext [V, idx t, row]

/-- The rows of its gradient coming in. -/
theorem d_blk (t : Fin cfg0.N) (r : Fin 512) (j : Fin 1024) :
    (show EReal from iblk m c 5 t (ix2 r j)) = aD m c (ix2 (row t r) j) := by
  have : t.val < 16 := t.isLt
  blk_simp [iblk, idx t]
  blk_ext [V, idx t, row]

/-- The gain. -/
theorem g_blk (t : Fin cfg0.N) (j : Fin 1024) : (show EReal from iblk m c 4 t (ix2 0 j)) = aG m c (ix1 j) := by
  have : t.val < 16 := t.isLt
  blk_simp [iblk, idx t]
  have e : (win0_4.blk t).view.emb (ix2 0 j) = ix2 0 j := by blk_ext [idx t]
  rw [V_g, e]
  pointwise

/-- The rows of the gradient of the projection's output, left half. -/
theorem lo_blk (t : Fin cfg0.N) (r : Fin 512) (k : Fin 2816) :
    (show EReal from iblk m c 0 t (ix2 r k)) = aC m c (ix2 (row t r) ⟨k.val, by omega⟩) := by
  have : t.val < 16 := t.isLt
  blk_simp [iblk, idx t]
  have e : (win0_0.blk t).view.emb (ix2 r k) = ix2 (row t r) k := by blk_ext [idx t, row]
  rw [V_lo, e]
  pointwise
  blk_ext []

/-- And right half. -/
theorem hi_blk (t : Fin cfg0.N) (r : Fin 512) (k : Fin 2816) :
    (show EReal from iblk m c 1 t (ix2 r k)) = aC m c (ix2 (row t r) ⟨2816 + k.val, by omega⟩) := by
  have : t.val < 16 := t.isLt
  blk_simp [iblk, idx t]
  have e : (win0_1.blk t).view.emb (ix2 r k) = ix2 (row t r) k := by blk_ext [idx t, row]
  rw [V_hi, e]
  pointwise
  blk_ext []

/-- The weight. -/
theorem w_blk (t : Fin cfg0.N) (p : Fin 4) (j : Fin 1024) (k : Fin 1408) :
    (show EReal from iblk m c 2 t (ix3 p j k)) = aW m c (ix2 j ⟨1408 * p.val + k.val, by omega⟩) := by
  have : t.val < 16 := t.isLt
  blk_simp [iblk, idx t]
  have e : (win0_2.blk t).view.emb (ix3 p j k) = ix3 p j k := by blk_ext [idx t]
  rw [V_w, e]
  pointwise
  blk_ext []

/-- The product of a point's rows with the weight. -/
def tile (t : Fin cfg0.N) : FVec Ideal S512x1024 .f32 :=
  k0_pay6 (View.ld (iblk m c 0 t) (Rect.unit ![0, 0] ![512, 1408] inb_S512x2816_S512x1408_0_0))
    (View.ld (iblk m c 2 t) (Rect.unit ![0, 0, 0] ![1, 1024, 1408] inb_S4x1024x1408_S1x1024x1408_0_0_0))
    (View.ld (iblk m c 0 t) (Rect.unit ![0, 1408] ![512, 1408] inb_S512x2816_S512x1408_0_1408))
    (View.ld (iblk m c 2 t) (Rect.unit ![1, 0, 0] ![1, 1024, 1408] inb_S4x1024x1408_S1x1024x1408_1_0_0))
    (View.ld (iblk m c 1 t) (Rect.unit ![0, 0] ![512, 1408] inb_S512x2816_S512x1408_0_0))
    (View.ld (iblk m c 2 t) (Rect.unit ![2, 0, 0] ![1, 1024, 1408] inb_S4x1024x1408_S1x1024x1408_2_0_0))
    (View.ld (iblk m c 1 t) (Rect.unit ![0, 1408] ![512, 1408] inb_S512x2816_S512x1408_0_1408))
    (View.ld (iblk m c 2 t) (Rect.unit ![3, 0, 0] ![1, 1024, 1408] inb_S4x1024x1408_S1x1024x1408_3_0_0))

/-- The term of column `k` in the product of row `n` of the gradient with row `j` of the weight. -/
abbrev term (n : Fin 8192) (j : Fin 1024) (k : Fin 5632) : EReal := aC m c (ix2 n k) * aW m c (ix2 j k)

/-- A run of the gradient's columns times the same run of a chip's weight, for the left half's columns. -/
theorem part_lo (t : Fin cfg0.N) (o p : ℕ) (inb : ∀ a, (![0, o] : Fin 2 → ℕ) a + S512x1408.size a ≤ S512x2816.size a)
    (inb' : ∀ a, (![p, 0, 0] : Fin 3 → ℕ) a + S1x1024x1408.size a ≤ S4x1024x1408.size a) (h : 1408 * p = o) (hp : p < 2)
    (r : Fin 512) (j : Fin 1024) :
    ∑ k : Fin 1408, (show EReal from View.ld (iblk m c 0 t) (Rect.unit ![0, o] ![512, 1408] inb) (ix2 r k)) *
        (show EReal from View.ld (iblk m c 2 t) (Rect.unit ![p, 0, 0] ![1, 1024, 1408] inb') (ix3 0 j k)) =
      seg (term m c (row t r) j) o 1408 (by omega) := by
  refine Finset.sum_congr rfl fun k _ => congrArg₂ (· * · : EReal → EReal → EReal) ?_ ?_
  · have e : (Rect.unit (s := S512x2816) ![0, o] ![512, 1408] inb).emb (ix2 r k) = ix2 r ⟨o + k.val, by omega⟩ := by
      blk_ext []
    exact (congrArg (iblk m c 0 t) e).trans (lo_blk m c t r _)
  · have e : (Rect.unit (s := S4x1024x1408) ![p, 0, 0] ![1, 1024, 1408] inb').emb (ix3 0 j k) = ix3 ⟨p, by omega⟩ j k := by
      blk_ext []
    refine (congrArg (iblk m c 2 t) e).trans ((w_blk m c t _ j k).trans (congrArg (fun i => aW m c (ix2 j i)) (Fin.ext ?_)))
    show 1408 * p + k.val = o + k.val
    omega

/-- The same for the right half's columns. -/
theorem part_hi (t : Fin cfg0.N) (o p : ℕ) (inb : ∀ a, (![0, o] : Fin 2 → ℕ) a + S512x1408.size a ≤ S512x2816.size a)
    (inb' : ∀ a, (![p, 0, 0] : Fin 3 → ℕ) a + S1x1024x1408.size a ≤ S4x1024x1408.size a) (h : 1408 * p = 2816 + o) (hp : p < 4)
    (r : Fin 512) (j : Fin 1024) :
    ∑ k : Fin 1408, (show EReal from View.ld (iblk m c 1 t) (Rect.unit ![0, o] ![512, 1408] inb) (ix2 r k)) *
        (show EReal from View.ld (iblk m c 2 t) (Rect.unit ![p, 0, 0] ![1, 1024, 1408] inb') (ix3 0 j k)) =
      seg (term m c (row t r) j) (2816 + o) 1408 (by omega) := by
  refine Finset.sum_congr rfl fun k _ => congrArg₂ (· * · : EReal → EReal → EReal) ?_ ?_
  · have e : (Rect.unit (s := S512x2816) ![0, o] ![512, 1408] inb).emb (ix2 r k) = ix2 r ⟨o + k.val, by omega⟩ := by
      blk_ext []
    refine (congrArg (iblk m c 1 t) e).trans ((hi_blk m c t r _).trans (congrArg (fun i => aC m c (ix2 _ i)) (Fin.ext ?_)))
    show 2816 + (o + k.val) = 2816 + o + k.val
    omega
  · have e : (Rect.unit (s := S4x1024x1408) ![p, 0, 0] ![1, 1024, 1408] inb').emb (ix3 0 j k) = ix3 ⟨p, by omega⟩ j k := by
      blk_ext []
    refine (congrArg (iblk m c 2 t) e).trans ((w_blk m c t _ j k).trans (congrArg (fun i => aW m c (ix2 j i)) (Fin.ext ?_)))
    show 1408 * p + k.val = 2816 + o + k.val
    omega

/-- The product of the gradient with the weight, as the reference has it. -/
abbrev proj : FVec Ideal S8192x1024 .f32 :=
  Host.dotGeneral (F := Ideal) Cert.Reference2Ideal.dot_S8192x5632_S1024x5632_S8192x1024_1_1_0_0_n_n none (aC m c) (aW m c)

theorem proj_apply (n : Fin 8192) (j : Fin 1024) : proj m c (ix2 n j) = ∑ k, term m c n j k := by
  pointwise [proj]

/-- A tile's element, of the four slices of the gradient's rows and of the weight. -/
theorem tile_sum (a b d e : FVec Ideal S512x1408 .bf16) (u v w z : FVec Ideal S1x1024x1408 .bf16) (r : Fin 512) (j : Fin 1024) :
    (show EReal from k0_pay6 (F := Ideal) a u b v d w e z (ix2 r j)) = ((∑ k, a (ix2 r k) * u (ix3 0 j k)) + (∑ k, b (ix2 r k) * v (ix3 0 j k)) +
      ∑ k, d (ix2 r k) * w (ix3 0 j k)) + ∑ k, e (ix2 r k) * z (ix3 0 j k) := by
  pointwise [k0_pay6]

/-- A point's tile holds the product's rows. -/
theorem tile_apply (t : Fin cfg0.N) (r : Fin 512) (j : Fin 1024) : tile m c t (ix2 r j) = proj m c (ix2 (row t r) j) := by
  rw [proj_apply, ← seg_all]
  refine (tile_sum _ _ _ _ _ _ _ _ r j).trans ?_
  refine (congrArg₂ (· + · : EReal → EReal → EReal) (congrArg₂ (· + · : EReal → EReal → EReal)
    (congrArg₂ (· + · : EReal → EReal → EReal) (part_lo m c t 0 0 _ _ rfl (by decide) r j)
      (part_lo m c t 1408 1 _ _ rfl (by decide) r j)) (part_hi m c t 0 2 _ _ rfl (by decide) r j))
      (part_hi m c t 1408 3 _ _ rfl (by decide) r j)).trans ?_
  rw [seg_add _ 0 1408 1408, seg_add _ 0 2816 1408, seg_add _ 0 4224 1408]

/-- What a point leaves of its rows. -/
theorem out_rows (t : Fin cfg0.N) : (outsAt0 m c t.val t.isLt).1 =
    k0_pay3 (tile m c t) (iblk m c 3 t) (k0_pay7 (iblk m c 3 t)) (iblk m c 4 t) (iblk m c 5 t) := by
  by_cases h0 : t.val % 16 = 0
  · rw [outsAt0_A m c t h0]; frame_out; rfl
  · rw [outsAt0_B m c t h0]; frame_out; rfl

/-- The gain's gradient starts from zero and is added to at every point. -/
theorem out_gain (t : Fin cfg0.N) : (outsAt0 m c t.val t.isLt).2 =
    k0_pay4 (tile m c t) (iblk m c 3 t) (k0_pay7 (iblk m c 3 t))
      (if t.val % 16 = 0 then k0_pay5 (F := Ideal) else (outsAt0 m c (t.val - 1) (Nat.lt_of_le_of_lt (Nat.sub_le _ _) t.isLt)).2) := by
  by_cases h0 : t.val % 16 = 0
  · rw [outsAt0_A m c t h0, if_pos h0]; frame_out; rfl
  · rw [outsAt0_B m c t h0, if_neg h0]; frame_out; rfl

open Cert.Norm in
/-- What a point leaves of its rows is the reference's. -/
theorem arr6 : (dats m 0 c).arrAt 6 cfg0.N = sDx (aX m c) (aG m c) (aD m c) (proj m c) := by
  refine (dats m 0 c).arrAt_eq_of_covers 6 _ (by decide +kernel) fun t hf y => ?_
  have : t.val < 16 := t.isLt
  blk_simp
  rw [after0_6, out_rows]
  idx_vars y
  have e : (win0_6.blk t).view.emb (ix2 y0 y1) = ix2 (row t y0) y1 := by blk_ext [idx t, row]
  rw [show ((View.whole main_v7_0).slice (win0_6.rect t)).emb (ix2 y0 y1) = _ from e, sDx_apply, rows_apply,
    show iblk m c 5 t (ix2 y0 y1) = _ from d_blk m c t y0 y1]
  rw [show rowOf (iblk m c 3 t) y0 = rowOf (aX m c) (row t y0) from funext fun k => x_blk m c t y0 k]
  simp only [tile_apply]
  exact congrArg (fun u => aD m c (ix2 (row t y0) y1) + down (rowOf (aX m c) (row t y0)) u y1)
    (funext fun k => congrArg (proj m c (ix2 (row t y0) k) * ·) (g_blk m c t k))

/-- The gradient of the gain. -/
theorem arr7 : (dats m 0 c).arrAt 7 cfg0.N = sDg (aX m c) (proj m c) := by
  have step : ∀ (t : Fin cfg0.N) (X : FVec Ideal S1x1024 .f32) (j : Fin 1024),
      k0_pay4 (tile m c t) (iblk m c 3 t) (k0_pay7 (iblk m c 3 t)) X (ix2 0 j) =
        X (ix2 0 j) + ∑ r : Fin 512, hat (rowOf (aX m c) (row t r)) j * proj m c (ix2 (row t r) j) := fun t X j => by
    rw [gain_apply]
    refine congrArg (X (ix2 0 j) + ·) (Finset.sum_congr rfl fun r _ => ?_)
    rw [tile_apply, mul_comm, show rowOf (iblk m c 3 t) r = rowOf (aX m c) (row t r) from funext fun k => x_blk m c t r k]
  refine (dats m 0 c).arrAt_eq_of_covers 7 _ (by decide +kernel) fun t hf y => ?_
  have : t.val < 16 := t.isLt
  blk_simp
  rw [after0_7]
  idx_vars y
  obtain rfl : y0 = 0 := Subsingleton.elim _ _
  have e : (win0_7.blk t).view.emb (ix2 0 y1) = ix2 0 y1 := by blk_ext [idx t]
  rw [show ((View.whole main_v7_1).slice (win0_7.rect t)).emb (ix2 0 y1) = _ from e, sDg_apply]
  refine run_rows (fun n hn j => (outsAt0 m c n hn).2 (ix2 0 j)) (fun j n => hat (rowOf (aX m c) n) j * proj m c (ix2 n j))
    (fun t ht j => ?_) (fun t ht j => ?_) t ((flush0_7 t).mp hf) y1
  · exact (congrFun ((out_gain m c t).trans (congrArg (k0_pay4 _ _ _) (if_pos ht))) _).trans
      ((step t _ j).trans (congrArg (· + _) (gain_zero j)))
  · exact (congrFun ((out_gain m c t).trans (congrArg (k0_pay4 _ _ _) (if_neg ht))) _).trans (step t _ j)

end Cert.Norm.Up
end
-- ==== Proof.Norm.UpClaim.lean ====
module

public import proofs.«01_k».proof.Defs
public import proofs.«01_k».proof.Proof.Norm.Up
public import Idealize.ShloMosaic.Lib.Claim
public import Idealize.ShloMosaic.Adequacy
public import Idealize.ShloMosaic.Init

/-!
# The claims on the gradient of the up projection's input
-/

@[expose] public section

set_option maxRecDepth 16384

noncomputable section

namespace Cert.Norm.Up

open Idealize.ShloMosaic Idealize.ShloMosaic.TcCoe Idealize.SL.Sem

/-- The reference runs on the host alone and has no semaphores. -/
theorem frame_reference : Cert.quiescent_Reference2Ideal := fun m g _ =>
  (θ_run _ _ _).mono (fun r h => ⟨fun c => (h c).2.2, sem_eq_zero_of_no_sems (by decide) r.2⟩)
    (Cert.Reference2Ideal.Value.run m g)

section
variable (m : (ℓ : Loc Cert.Reference2Ideal.nD Cert.Reference2Ideal.τ Cert.Reference2Ideal.sig) → Buf (Elt Ideal) ℓ)
  (c : Dev Cert.Reference2Ideal.nD)

/-- The reference's arguments, at their types. -/
abbrev rX : FVec Ideal Cert.Reference2Ideal.S8192x1024 .f32 := m ((c.tc : Thread _ Cert.Reference2Ideal.τ).loc Cert.Reference2Ideal.main_arg0)
@[inherit_doc rX] abbrev rG : FVec Ideal Cert.Reference2Ideal.S1024 .f32 := m ((c.tc : Thread _ Cert.Reference2Ideal.τ).loc Cert.Reference2Ideal.main_arg1)
@[inherit_doc rX] abbrev rW : FVec Ideal Cert.Reference2Ideal.S1024x5632 .f32 := m ((c.tc : Thread _ Cert.Reference2Ideal.τ).loc Cert.Reference2Ideal.main_arg2)
@[inherit_doc rX] abbrev rD : FVec Ideal Cert.Reference2Ideal.S8192x1024 .f32 := m ((c.tc : Thread _ Cert.Reference2Ideal.τ).loc Cert.Reference2Ideal.main_arg3)
@[inherit_doc rX] abbrev rC : FVec Ideal Cert.Reference2Ideal.S8192x5632 .f32 := m ((c.tc : Thread _ Cert.Reference2Ideal.τ).loc Cert.Reference2Ideal.main_arg4)

/-- The product of the gradient coming in with the weight. -/
abbrev rProj : FVec Ideal Cert.Reference2Ideal.S8192x1024 .f32 :=
  Host.dotGeneral (F := Ideal) Cert.Reference2Ideal.dot_S8192x5632_S1024x5632_S8192x1024_1_1_0_0_n_n none (rC m c) (rW m c)

theorem rows_eq : Cert.Reference2Ideal.Value.res_out0 m c = sDx (rX m c) (rG m c) (rD m c) (rProj m c) := rfl

end

/-- Both runs end in the same arrays. -/
theorem algebraic : Cert.algebraic_Kernel2Ideal_Reference2Ideal := by
  intro m g m' g' _ hm
  refine ⟨_, _, Cert.Kernel2Ideal.Value.run_blocks m g,
    (θ_run _ _ _).mono (fun r h c => ?_) (Cert.Reference2Ideal.Value.run m' g')⟩
  obtain ⟨h0, h1, args⟩ := h c
  have e0 : rX m' c = aX m c := (hm c).1
  have e1 : rG m' c = aG m c := (hm c).2.1
  have e2 : rW m' c = aW m c := (hm c).2.2.1
  have e3 : rD m' c = aD m c := (hm c).2.2.2.1
  have e4 : rC m' c = aC m c := (hm c).2.2.2.2
  have ep : rProj m' c = proj m c := by rw [rProj, e2, e4]
  refine ⟨(h0.trans (rows_eq m' c)).trans ?_, (h1.trans (show _ = sDg (rX m' c) (rProj m' c) from rfl)).trans ?_, args⟩
  · rw [arr6, e0, e1, e3, ep]
  · rw [arr7, e0, ep]

end Cert.Norm.Up
end
-- ==== Proof.Norm.UpWgrad.lean ====
module

public import proofs.«01_k».proof.Proof.Gen.Kernel3Ideal.Value
public import proofs.«01_k».proof.Proof.Gen.Reference3Ideal.Run
public import proofs.«01_k».proof.Proof.Norm.Reference
public import proofs.«01_k».proof.Proof.Norm.Sums
public import Idealize.ShloMosaic.Lib.Pipeline.ValueKit
public import Idealize.ShloMosaic.Lib.Pipeline.ReadBack
public import Idealize.ShloMosaic.Lib.Claim

/-!
# The gradient of the up projection's weight

Four points in a row work on one chip's quarter of the columns, each on 2048 of the rows.
-/

@[expose] public section

set_option maxRecDepth 16384

noncomputable section

open Idealize.ShloMosaic Idealize.ShloMosaic.TcCoe Idealize.SL.Sem

namespace Cert.Norm.UpWgrad

open Cert.Kernel3Ideal Cert.Kernel3Ideal.Gen

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aC : FVec Ideal S8192x5632 .f32 := m ((c : Thread nD τ).loc main_arg3)

/-- `main_v13`: the normalised rows with their gain. -/
theorem V_n : V m c main_v13 = sNorm (aX m c) (aG m c) := by
  simp only [V, hostOps0, List.flatten_cons, List.flatten_nil, List.append_nil, List.cons_append, List.nil_append]
  entry_read
  rfl

/-- `main_v15`: the left half of the gradient coming in. -/
theorem V_lo : V m c main_v15 = extractStridedSlice S8192x2816 ![0, 0] (aC m c) slices_S8192x5632_S8192x2816_0_0 := by
  simp only [V, hostOps0, List.flatten_cons, List.flatten_nil, List.append_nil, List.cons_append, List.nil_append]
  entry_read
  rfl

/-- `main_v16`: its right half. -/
theorem V_hi : V m c main_v16 = extractStridedSlice S8192x2816 ![0, 2816] (aC m c) slices_S8192x5632_S8192x2816_0_2816 := by
  simp only [V, hostOps0, List.flatten_cons, List.flatten_nil, List.append_nil, List.cons_append, List.nil_append]
  entry_read
  rfl

/-- The block each window reads or writes at a point. -/
theorem idx : ∀ t : Fin cfg0.N,
    win0_0.index t = ![t.val % 4, 0] ∧
    win0_1.index t = ![if t.val / 4 ≤ 1 then t.val % 4 else 0, min (t.val / 4) 1] ∧
    win0_2.index t = ![if 2 ≤ t.val / 4 then t.val % 4 else 0, t.val / 4 - 2] ∧
    win0_3.index t = ![t.val / 4, 0, 0] ∧ win0_4.index t = ![t.val / 4, 0, 0] :=
  (by decide +kernel : ∀ t : Fin grid0.N, _)

/-- The array's row at row `r` of a point's tile, and its column at column `k` of a point's quarter. -/
def rowAt (t : Fin cfg0.N) (r : Fin 2048) : Fin 8192 := ⟨t.val % 4 * 2048 + r.val, by omega⟩
@[inherit_doc rowAt] def colAt (t : Fin cfg0.N) (k : Fin 1408) : Fin 5632 :=
  ⟨1408 * (t.val / 4) + k.val, by have : t.val < 16 := t.isLt; omega⟩

/-- The normalised rows. -/
theorem n_blk (t : Fin cfg0.N) (r : Fin 2048) (j : Fin 1024) :
    (show EReal from iblk m c 0 t (ix2 r j)) = sNorm (aX m c) (aG m c) (ix2 (rowAt t r) j) := by
  have : t.val < 16 := t.isLt
  blk_simp [iblk, idx t]
  have e : (win0_0.blk t).view.emb (ix2 r j) = ix2 (rowAt t r) j := by blk_ext [idx t, rowAt]
  rw [V_n, e]

/-- The gradient coming in, at a point of the first two chips. -/
theorem lo_blk (t : Fin cfg0.N) (ht : t.val < 8) (r : Fin 2048) (k : Fin 1408) :
    (show EReal from iblk m c 1 t (ix2 r k)) = aC m c (ix2 (rowAt t r) (colAt t k)) := by
  have hi : win0_1.index t = ![t.val % 4, t.val / 4] := by
    rw [(idx t).2.1, if_pos (by omega), min_eq_left (by omega)]
  blk_simp [iblk, hi]
  have e : (win0_1.blk t).view.emb (ix2 r k) = ix2 (rowAt t r) ⟨1408 * (t.val / 4) + k.val, by omega⟩ := by
    blk_ext [hi, rowAt]
  rw [V_lo, e]
  pointwise
  blk_ext [colAt]

/-- And at a point of the last two. -/
theorem hi_blk (t : Fin cfg0.N) (ht : ¬t.val < 8) (r : Fin 2048) (k : Fin 1408) :
    (show EReal from iblk m c 2 t (ix2 r k)) = aC m c (ix2 (rowAt t r) (colAt t k)) := by
  have : t.val < 16 := t.isLt
  have hi : win0_2.index t = ![t.val % 4, t.val / 4 - 2] := by rw [(idx t).2.2.1, if_pos (by omega)]
  blk_simp [iblk, hi]
  have e : (win0_2.blk t).view.emb (ix2 r k) = ix2 (rowAt t r) ⟨1408 * (t.val / 4 - 2) + k.val, by omega⟩ := by
    blk_ext [hi, rowAt]
  rw [V_hi, e]
  pointwise
  blk_ext [colAt]

/-- A point's tile of the gradient coming in. -/
def dy (t : Fin cfg0.N) : FVec Ideal S2048x1408 .bf16 := if t.val < 8 then iblk m c 1 t else iblk m c 2 t

theorem dy_apply (t : Fin cfg0.N) (r : Fin 2048) (k : Fin 1408) :
    dy m c t (ix2 r k) = aC m c (ix2 (rowAt t r) (colAt t k)) := by
  unfold dy
  split_ifs with h
  · exact lo_blk m c t h r k
  · exact hi_blk m c t h r k

/-- What a point leaves: zero at the first tile of its chip, else what the point before left, and the tile's product. -/
theorem out_sum (t : Fin cfg0.N) : (outsAt0 m c t.val t.isLt).1 = k0_pay2 (iblk m c 0 t)
    (if t.val % 4 = 0 then k0_pay1 (F := Ideal) else (outsAt0 m c (t.val - 1) (Nat.lt_of_le_of_lt (Nat.sub_le _ _) t.isLt)).1)
    (dy m c t) := by
  have : t.val < 16 := t.isLt
  by_cases h0 : t.val % 4 = 0
  · rw [if_pos h0]
    obtain h | h | h | h : t.val < 4 ∨ t.val / 4 % 4 = 1 ∨ t.val / 4 % 4 = 2 ∨ 12 ≤ t.val := by omega
    · rw [outsAt0_A m c t h0 h (by omega) (by omega) (by omega) (by omega), dy, if_pos (by omega)]; frame_out
    · rw [outsAt0_D m c t h0 (by omega) h (by omega) (by omega) (by omega), dy, if_pos (by omega)]; frame_out; rfl
    · rw [outsAt0_G m c t h0 (by omega) (by omega) h (by omega) (by omega), dy, if_neg (by omega)]; frame_out; rfl
    · rw [outsAt0_J m c t h0 (by omega) (by omega) (by omega) h (by omega), dy, if_neg (by omega)]; frame_out; rfl
  · rw [if_neg h0]
    by_cases h5 : t.val % 4 = 3
    · obtain h | h | h | h : t.val < 4 ∨ t.val / 4 % 4 = 1 ∨ t.val / 4 % 4 = 2 ∨ 12 ≤ t.val := by omega
      · rw [outsAt0_C m c t h0 h (by omega) (by omega) (by omega) h5, dy, if_pos (by omega)]; frame_out
      · rw [outsAt0_F m c t h0 (by omega) h (by omega) (by omega) h5, dy, if_pos (by omega)]; frame_out; rfl
      · rw [outsAt0_I m c t h0 (by omega) (by omega) h (by omega) h5, dy, if_neg (by omega)]; frame_out; rfl
      · rw [outsAt0_L m c t h0 (by omega) (by omega) (by omega) h h5, dy, if_neg (by omega)]; frame_out; rfl
    · obtain h | h | h | h : t.val < 4 ∨ t.val / 4 % 4 = 1 ∨ t.val / 4 % 4 = 2 ∨ 12 ≤ t.val := by omega
      · rw [outsAt0_B m c t h0 h (by omega) (by omega) (by omega) h5, dy, if_pos (by omega)]; frame_out
      · rw [outsAt0_E m c t h0 (by omega) h (by omega) (by omega) h5, dy, if_pos (by omega)]; frame_out; rfl
      · rw [outsAt0_H m c t h0 (by omega) (by omega) h (by omega) h5, dy, if_neg (by omega)]; frame_out; rfl
      · rw [outsAt0_K m c t h0 (by omega) (by omega) (by omega) h h5, dy, if_neg (by omega)]; frame_out; rfl

/-- The last tile of a chip leaves a copy of the sum as well. -/
theorem out_copy (t : Fin cfg0.N) (h5 : t.val % 4 = 3) :
    (outsAt0 m c t.val t.isLt).2 = k0_pay6 (outsAt0 m c t.val t.isLt).1 := by
  have : t.val < 16 := t.isLt
  have h0 : ¬t.val % 4 = 0 := by omega
  obtain h | h | h | h : t.val < 4 ∨ t.val / 4 % 4 = 1 ∨ t.val / 4 % 4 = 2 ∨ 12 ≤ t.val := by omega
  · rw [outsAt0_C m c t h0 h (by omega) (by omega) (by omega) h5]; frame_out
  · rw [outsAt0_F m c t h0 (by omega) h (by omega) (by omega) h5]; frame_out
  · rw [outsAt0_I m c t h0 (by omega) (by omega) h (by omega) h5]; frame_out
  · rw [outsAt0_L m c t h0 (by omega) (by omega) (by omega) h h5]; frame_out

theorem step_apply (a : FVec Ideal S2048x1024 .bf16) (X : FVec Ideal S1x1024x1408 .f32) (b : FVec Ideal S2048x1408 .bf16)
    (i : Fin 1024) (k : Fin 1408) :
    (show EReal from k0_pay2 (F := Ideal) a X b (ix3 0 i k)) = X (ix3 0 i k) + ∑ r : Fin 2048, a (ix2 r i) * b (ix2 r k) := by
  pointwise [k0_pay2]

theorem zero_apply (i : Fin 1024) (k : Fin 1408) : k0_pay1 (F := Ideal) (ix3 0 i k) = (0 : EReal) := by
  pointwise [k0_pay1]

theorem copy_apply (X : FVec Ideal S1x1024x1408 .f32) (i : Fin 1024) (k : Fin 1408) :
    (show EReal from k0_pay6 (F := Ideal) X (ix3 0 i k)) = X (ix3 0 i k) := by
  pointwise [k0_pay6]

/-- The weight's gradient, as the reference has it: the product, laid out by chips. -/
abbrev grad (x : FVec Ideal S8192x1024 .f32) (d : FVec Ideal S8192x5632 .f32) : FVec Ideal S4x1024x1408 .f32 :=
  transpose Cert.Reference3Ideal.S4x1024x1408 [1, 0, 2] (shapeCast Cert.Reference3Ideal.S1024x4x1408
    (transpose Cert.Reference3Ideal.S1024x5632 [1, 0] (Host.dotGeneral (F := Ideal)
      Cert.Reference3Ideal.dot_S8192x5632_S8192x1024_S5632x1024_0_0_1_1_n_n none d x)
      Cert.Reference3Ideal.Gen.transposes_S5632x1024_S1024x5632_1_0) Cert.Reference3Ideal.Gen.shapeCasts_S1024x5632_S1024x4x1408)
    Cert.Reference3Ideal.Gen.transposes_S1024x4x1408_S4x1024x1408_1_0_2

theorem grad_apply (x : FVec Ideal S8192x1024 .f32) (d : FVec Ideal S8192x5632 .f32) (p : Fin 4) (i : Fin 1024) (k : Fin 1408) :
    grad x d (ix3 p i k) = ∑ n : Fin 8192, x (ix2 n i) * d (ix2 n ⟨1408 * p.val + k.val, by omega⟩) := by
  pointwise [grad]
  refine Finset.sum_congr rfl fun n _ => (mul_comm _ _).trans (congrArg (x (ix2 n i) * ·) ?_)
  blk_ext []

/-- At the last tile of a chip the sum runs over all rows. -/
theorem sum_last (t : Fin cfg0.N) (ht : t.val % 4 = 3) (i : Fin 1024) (k : Fin 1408) :
    (show EReal from (outsAt0 m c t.val t.isLt).1 (ix3 0 i k)) =
      ∑ n : Fin 8192, sNorm (aX m c) (aG m c) (ix2 n i) * aC m c (ix2 n (colAt t k)) := by
  have step : ∀ (t : Fin cfg0.N) (X : FVec Ideal S1x1024x1408 .f32) (i : Fin 1024) (k : Fin 1408),
      (show EReal from k0_pay2 (iblk m c 0 t) X (dy m c t) (ix3 0 i k)) = X (ix3 0 i k) +
        ∑ r : Fin 2048, sNorm (aX m c) (aG m c) (ix2 (rowAt t r) i) * aC m c (ix2 (rowAt t r) (colAt t k)) :=
    fun t X i k => (step_apply _ _ _ i k).trans (congrArg (X (ix3 0 i k) + ·) (Finset.sum_congr rfl fun r _ =>
      congrArg₂ (· * · : EReal → EReal → EReal) (n_blk m c t r i) (dy_apply m c t r k)))
  refine run_tiles (N := cfg0.N) (L := 4) (R := 2048) (by norm_num)
    (fun n hn (j : Fin 1024 × Fin 1408) => (outsAt0 m c n hn).1 (ix3 0 j.1 j.2)) rowAt (fun _ _ => rfl)
    (fun t j n => sNorm (aX m c) (aG m c) (ix2 n j.1) * aC m c (ix2 n (colAt t j.2))) (fun t t' h => ?_)
    (fun t ht j => ?_) (fun t ht j => ?_) t ht (i, k)
  · simp only [colAt, h]
  · exact (congrFun ((out_sum m c t).trans (congrArg (k0_pay2 _ · _) (if_pos ht))) _).trans
      ((step t _ _ _).trans (congrArg (· + _) (zero_apply _ _)))
  · exact (congrFun ((out_sum m c t).trans (congrArg (k0_pay2 _ · _) (if_neg ht))) _).trans (step t _ _ _)

/-- The gradient the kernel leaves. -/
theorem arr3 : (dats m 0 c).arrAt 3 cfg0.N = grad (sNorm (aX m c) (aG m c)) (aC m c) := by
  refine (dats m 0 c).arrAt_eq_of_covers 3 _ (by decide +kernel) fun t hf y => ?_
  have : t.val < 16 := t.isLt
  blk_simp
  rw [after0_3]
  idx_vars y
  obtain rfl : y0 = 0 := Subsingleton.elim _ _
  have e : (win0_3.blk t).view.emb (ix3 0 y1 y2) = ix3 ⟨t.val / 4, by omega⟩ y1 y2 := by blk_ext [idx t]
  rw [show ((View.whole main_v17_0).slice (win0_3.rect t)).emb (ix3 0 y1 y2) = _ from e, grad_apply]
  exact sum_last m c t ((flush0_3 t).mp hf) y1 y2

/-- And its copy. -/
theorem arr4 : (dats m 0 c).arrAt 4 cfg0.N = grad (sNorm (aX m c) (aG m c)) (aC m c) := by
  refine (dats m 0 c).arrAt_eq_of_covers 4 _ (by decide +kernel) fun t hf y => ?_
  have : t.val < 16 := t.isLt
  blk_simp
  rw [after0_4, out_copy m c t ((flush0_4 t).mp hf)]
  idx_vars y
  obtain rfl : y0 = 0 := Subsingleton.elim _ _
  have e : (win0_4.blk t).view.emb (ix3 0 y1 y2) = ix3 ⟨t.val / 4, by omega⟩ y1 y2 := by blk_ext [idx t]
  rw [show ((View.whole main_v17_1).slice (win0_4.rect t)).emb (ix3 0 y1 y2) = _ from e, grad_apply]
  exact (copy_apply _ y1 y2).trans (sum_last m c t ((flush0_4 t).mp hf) y1 y2)

end Cert.Norm.UpWgrad
end
-- ==== Proof.Norm.UpWgradClaim.lean ====
module

public import proofs.«01_k».proof.Defs
public import proofs.«01_k».proof.Proof.Norm.UpWgrad
public import Idealize.ShloMosaic.Lib.Claim
public import Idealize.ShloMosaic.Adequacy
public import Idealize.ShloMosaic.Init

/-!
# The claims on the gradient of the up projection's weight
-/

@[expose] public section

set_option maxRecDepth 16384

noncomputable section

namespace Cert.Norm.UpWgrad

open Idealize.ShloMosaic Idealize.ShloMosaic.TcCoe Idealize.SL.Sem

/-- The reference runs on the host alone and has no semaphores. -/
theorem frame_reference : Cert.quiescent_Reference3Ideal := fun m g _ =>
  (θ_run _ _ _).mono (fun r h => ⟨fun c => (h c).2.2, sem_eq_zero_of_no_sems (by decide) r.2⟩)
    (Cert.Reference3Ideal.Value.run m g)

section
variable (m : (ℓ : Loc Cert.Reference3Ideal.nD Cert.Reference3Ideal.τ Cert.Reference3Ideal.sig) → Buf (Elt Ideal) ℓ)
  (c : Dev Cert.Reference3Ideal.nD)

/-- The reference's arguments, at their types. -/
abbrev rX : FVec Ideal Cert.Reference3Ideal.S8192x1024 .f32 := m ((c.tc : Thread _ Cert.Reference3Ideal.τ).loc Cert.Reference3Ideal.main_arg0)
@[inherit_doc rX] abbrev rG : FVec Ideal Cert.Reference3Ideal.S1024 .f32 := m ((c.tc : Thread _ Cert.Reference3Ideal.τ).loc Cert.Reference3Ideal.main_arg1)
@[inherit_doc rX] abbrev rC : FVec Ideal Cert.Reference3Ideal.S8192x5632 .f32 := m ((c.tc : Thread _ Cert.Reference3Ideal.τ).loc Cert.Reference3Ideal.main_arg3)

end

/-- Both runs end in the same arrays. -/
theorem algebraic : Cert.algebraic_Kernel3Ideal_Reference3Ideal := by
  intro m g m' g' _ hm
  refine ⟨_, _, Cert.Kernel3Ideal.Value.run_blocks m g,
    (θ_run _ _ _).mono (fun r h c => ?_) (Cert.Reference3Ideal.Value.run m' g')⟩
  obtain ⟨h0, h1, args⟩ := h c
  have e0 : rX m' c = aX m c := (hm c).1
  have e1 : rG m' c = aG m c := (hm c).2.1
  have e3 : rC m' c = aC m c := (hm c).2.2.2
  have eg : grad (sNorm (rX m' c) (rG m' c)) (rC m' c) = grad (sNorm (aX m c) (aG m c)) (aC m c) := by rw [e0, e1, e3]
  exact ⟨(h0.trans (show _ = grad (sNorm (rX m' c) (rG m' c)) (rC m' c) from rfl)).trans (eg.trans (arr3 m c).symm),
    (h1.trans (show _ = grad (sNorm (rX m' c) (rG m' c)) (rC m' c) from rfl)).trans (eg.trans (arr4 m c).symm), args⟩

end Cert.Norm.UpWgrad
end
-- ==== Proof.Norm.In.lean ====
module

public import proofs.«01_k».proof.Proof.Gen.Kernel4Ideal.Value
public import proofs.«01_k».proof.Proof.Gen.Reference4Ideal.Run
public import proofs.«01_k».proof.Proof.Norm.Block
public import proofs.«01_k».proof.Proof.Norm.Sums
public import Idealize.ShloMosaic.Lib.Pipeline.ValueKit
public import Idealize.ShloMosaic.Lib.Pipeline.ReadBack
public import Idealize.ShloMosaic.Lib.Claim

/-!
# The gradient of the input projection's input

Point `t` works on the rows `512 * t + r`. The projection's output comes in six slices, its weight in four slabs, one for
each chip, whose borders do not match: the product is a sum of nine pieces.
-/

@[expose] public section

set_option maxRecDepth 16384

noncomputable section

open Idealize.ShloMosaic Idealize.ShloMosaic.TcCoe Idealize.SL.Sem

namespace Cert.Norm.In

open Cert.Kernel4Ideal Cert.Kernel4Ideal.Gen

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aW : FVec Ideal S1024x4608 .f32 := m ((c : Thread nD τ).loc main_arg2)
@[inherit_doc aX] abbrev aD : FVec Ideal S8192x1024 .f32 := m ((c : Thread nD τ).loc main_arg3)
@[inherit_doc aX] abbrev aC : FVec Ideal S8192x4608 .f32 := m ((c : Thread nD τ).loc main_arg4)

/-- `main_v1` to `main_v6`: the slices of the gradient coming in. -/
theorem V_c0 : V m c main_v1 =
    extractStridedSlice S8192x512 ![0, 0] (aC m c) slices_S8192x4608_S8192x512_0_0 := by
  simp only [V, hostOps0, List.flatten_cons, List.flatten_nil, List.append_nil, List.cons_append, List.nil_append]
  entry_read
  rfl

@[inherit_doc V_c0] theorem V_c1 : V m c main_v2 =
    extractStridedSlice S8192x512 ![0, 512] (aC m c) slices_S8192x4608_S8192x512_0_512 := by
  simp only [V, hostOps0, List.flatten_cons, List.flatten_nil, List.append_nil, List.cons_append, List.nil_append]
  entry_read
  rfl

@[inherit_doc V_c0] theorem V_c2 : V m c main_v3 =
    extractStridedSlice S8192x512 ![0, 1024] (aC m c) slices_S8192x4608_S8192x512_0_1024 := by
  simp only [V, hostOps0, List.flatten_cons, List.flatten_nil, List.append_nil, List.cons_append, List.nil_append]
  entry_read
  rfl

@[inherit_doc V_c0] theorem V_c3 : V m c main_v4 =
    extractStridedSlice S8192x512 ![0, 1536] (aC m c) slices_S8192x4608_S8192x512_0_1536 := by
  simp only [V, hostOps0, List.flatten_cons, List.flatten_nil, List.append_nil, List.cons_append, List.nil_append]
  entry_read
  rfl

@[inherit_doc V_c0] theorem V_c4 : V m c main_v5 =
    extractStridedSlice S8192x512 ![0, 2048] (aC m c) slices_S8192x4608_S8192x512_0_2048 := by
  simp only [V, hostOps0, List.flatten_cons, List.flatten_nil, List.append_nil, List.cons_append, List.nil_append]
  entry_read
  rfl

@[inherit_doc V_c0] theorem V_c5 : V m c main_v6 =
    extractStridedSlice S8192x2048 ![0, 2560] (aC m c) slices_S8192x4608_S8192x2048_0_2560 := by
  simp only [V, hostOps0, List.flatten_cons, List.flatten_nil, List.append_nil, List.cons_append, List.nil_append]
  entry_read
  rfl

/-- `main_v9`: the weight, a quarter of its columns for each chip. -/
theorem V_w : V m c main_v9 = transpose S4x1024x1152 [1, 0, 2] (shapeCast S1024x4x1152 (aW m c) shapeCasts_S1024x4608_S1024x4x1152)
    transposes_S1024x4x1152_S4x1024x1152_1_0_2 := by
  simp only [V, hostOps0, List.flatten_cons, List.flatten_nil, List.append_nil, List.cons_append, List.nil_append]
  entry_read
  rfl

/-- `main_v10`: the gain, as a row. -/
theorem V_g : V m c main_v10 = shapeCast S1x1024 (aG m c) shapeCasts_S1024_S1x1024 := by
  simp only [V, hostOps0, List.flatten_cons, List.flatten_nil, List.append_nil, List.cons_append, List.nil_append]
  entry_read
  rfl

/-- The block each window reads or writes at a point. -/
theorem idx : ∀ t : Fin cfg0.N,
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![0, 0, 0] ∧ win0_7.index t = ![t.val, 0] ∧ win0_8.index t = ![0, 0] ∧
    win0_9.index t = ![t.val, 0] ∧ win0_10.index t = ![t.val, 0] ∧ win0_11.index t = ![0, 0] :=
  (by decide +kernel : ∀ t : Fin grid0.N, _)

/-- The rows of the residual stream. -/
theorem x_blk (t : Fin cfg0.N) (r : Fin 512) (j : Fin 1024) :
    (show EReal from iblk m c 7 t (ix2 r j)) = aX m c (ix2 (row t r) j) := by
  have : t.val < 16 := t.isLt
  blk_simp [iblk, idx t]
  blk_ext [V, idx t, row]

/-- The rows of its gradient coming in. -/
theorem d_blk (t : Fin cfg0.N) (r : Fin 512) (j : Fin 1024) :
    (show EReal from iblk m c 9 t (ix2 r j)) = aD m c (ix2 (row t r) j) := by
  have : t.val < 16 := t.isLt
  blk_simp [iblk, idx t]
  blk_ext [V, idx t, row]

/-- The gain. -/
theorem g_blk (t : Fin cfg0.N) (j : Fin 1024) : (show EReal from iblk m c 8 t (ix2 0 j)) = aG m c (ix1 j) := by
  have : t.val < 16 := t.isLt
  blk_simp [iblk, idx t]
  have e : (win0_8.blk t).view.emb (ix2 0 j) = ix2 0 j := by blk_ext [idx t]
  rw [V_g, e]
  pointwise

/-- The rows of the gradient of the projection's output, slice by slice. -/
theorem c0_blk (t : Fin cfg0.N) (r : Fin 512) (k : Fin 512) :
    (show EReal from iblk m c 0 t (ix2 r k)) = aC m c (ix2 (row t r) ⟨0 + k.val, by omega⟩) := by
  have : t.val < 16 := t.isLt
  blk_simp [iblk, idx t]
  have e : (win0_0.blk t).view.emb (ix2 r k) = ix2 (row t r) k := by blk_ext [idx t, row]
  rw [V_c0, e]
  pointwise
  blk_ext []

@[inherit_doc c0_blk] theorem c1_blk (t : Fin cfg0.N) (r : Fin 512) (k : Fin 512) :
    (show EReal from iblk m c 1 t (ix2 r k)) = aC m c (ix2 (row t r) ⟨512 + k.val, by omega⟩) := by
  have : t.val < 16 := t.isLt
  blk_simp [iblk, idx t]
  have e : (win0_1.blk t).view.emb (ix2 r k) = ix2 (row t r) k := by blk_ext [idx t, row]
  rw [V_c1, e]
  pointwise
  blk_ext []

@[inherit_doc c0_blk] theorem c2_blk (t : Fin cfg0.N) (r : Fin 512) (k : Fin 512) :
    (show EReal from iblk m c 2 t (ix2 r k)) = aC m c (ix2 (row t r) ⟨1024 + k.val, by omega⟩) := by
  have : t.val < 16 := t.isLt
  blk_simp [iblk, idx t]
  have e : (win0_2.blk t).view.emb (ix2 r k) = ix2 (row t r) k := by blk_ext [idx t, row]
  rw [V_c2, e]
  pointwise
  blk_ext []

@[inherit_doc c0_blk] theorem c3_blk (t : Fin cfg0.N) (r : Fin 512) (k : Fin 512) :
    (show EReal from iblk m c 3 t (ix2 r k)) = aC m c (ix2 (row t r) ⟨1536 + k.val, by omega⟩) := by
  have : t.val < 16 := t.isLt
  blk_simp [iblk, idx t]
  have e : (win0_3.blk t).view.emb (ix2 r k) = ix2 (row t r) k := by blk_ext [idx t, row]
  rw [V_c3, e]
  pointwise
  blk_ext []

@[inherit_doc c0_blk] theorem c4_blk (t : Fin cfg0.N) (r : Fin 512) (k : Fin 512) :
    (show EReal from iblk m c 4 t (ix2 r k)) = aC m c (ix2 (row t r) ⟨2048 + k.val, by omega⟩) := by
  have : t.val < 16 := t.isLt
  blk_simp [iblk, idx t]
  have e : (win0_4.blk t).view.emb (ix2 r k) = ix2 (row t r) k := by blk_ext [idx t, row]
  rw [V_c4, e]
  pointwise
  blk_ext []

@[inherit_doc c0_blk] theorem c5_blk (t : Fin cfg0.N) (r : Fin 512) (k : Fin 2048) :
    (show EReal from iblk m c 5 t (ix2 r k)) = aC m c (ix2 (row t r) ⟨2560 + k.val, by omega⟩) := by
  have : t.val < 16 := t.isLt
  blk_simp [iblk, idx t]
  have e : (win0_5.blk t).view.emb (ix2 r k) = ix2 (row t r) k := by blk_ext [idx t, row]
  rw [V_c5, e]
  pointwise
  blk_ext []

/-- The weight. -/
theorem w_blk (t : Fin cfg0.N) (p : Fin 4) (j : Fin 1024) (k : Fin 1152) :
    (show EReal from iblk m c 6 t (ix3 p j k)) = aW m c (ix2 j ⟨1152 * p.val + k.val, by omega⟩) := by
  have : t.val < 16 := t.isLt
  blk_simp [iblk, idx t]
  have e : (win0_6.blk t).view.emb (ix3 p j k) = ix3 p j k := by blk_ext [idx t]
  rw [V_w, e]
  pointwise
  blk_ext []

/-- The product of a point's rows with the weight. -/
def tile (t : Fin cfg0.N) : FVec Ideal S512x1024 .f32 :=
  k0_pay8
    (k0_pay6 (iblk m c 0 t)
      (View.ld (iblk m c 6 t) (Rect.unit ![0, 0, 0] ![1, 1024, 512] inb_S4x1024x1152_S1x1024x512_0_0_0))
      (iblk m c 1 t)
      (View.ld (iblk m c 6 t) (Rect.unit ![0, 0, 512] ![1, 1024, 512] inb_S4x1024x1152_S1x1024x512_0_0_512))
      (View.ld (iblk m c 2 t) (Rect.unit ![0, 0] ![512, 128] inb_S512x512_S512x128_0_0))
      (View.ld (iblk m c 6 t) (Rect.unit ![0, 0, 1024] ![1, 1024, 128] inb_S4x1024x1152_S1x1024x128_0_0_1024))
      (View.ld (iblk m c 2 t) (Rect.unit ![0, 128] ![512, 384] inb_S512x512_S512x384_0_128))
      (View.ld (iblk m c 6 t) (Rect.unit ![1, 0, 0] ![1, 1024, 384] inb_S4x1024x1152_S1x1024x384_1_0_0)))
    (k0_pay7 (iblk m c 3 t))
    (View.ld (iblk m c 6 t) (Rect.unit ![1, 0, 384] ![1, 1024, 512] inb_S4x1024x1152_S1x1024x512_1_0_384))
    (View.ld (iblk m c 4 t) (Rect.unit ![0, 0] ![512, 256] inb_S512x512_S512x256_0_0))
    (View.ld (iblk m c 6 t) (Rect.unit ![1, 0, 896] ![1, 1024, 256] inb_S4x1024x1152_S1x1024x256_1_0_896))
    (View.ld (iblk m c 4 t) (Rect.unit ![0, 256] ![512, 256] inb_S512x512_S512x256_0_256))
    (View.ld (iblk m c 6 t) (Rect.unit ![2, 0, 0] ![1, 1024, 256] inb_S4x1024x1152_S1x1024x256_2_0_0))
    (View.ld (iblk m c 5 t) (Rect.unit ![0, 0] ![512, 896] inb_S512x2048_S512x896_0_0))
    (View.ld (iblk m c 6 t) (Rect.unit ![2, 0, 256] ![1, 1024, 896] inb_S4x1024x1152_S1x1024x896_2_0_256))
    (View.ld (iblk m c 5 t) (Rect.unit ![0, 896] ![512, 1152] inb_S512x2048_S512x1152_0_896))
    (View.ld (iblk m c 6 t) (Rect.unit ![3, 0, 0] ![1, 1024, 1152] inb_S4x1024x1152_S1x1024x1152_3_0_0))

/-- The term of column `k` in the product of row `n` of the gradient with row `j` of the weight. -/
abbrev term (n : Fin 8192) (j : Fin 1024) (k : Fin 4608) : EReal := aC m c (ix2 n k) * aW m c (ix2 j k)

/-- The columns `o + k` of a slice that starts at column `b`. -/
theorem cols (t : Fin cfg0.N) {w n : ℕ} (B : FVec Ideal ⟨2, ![512, w]⟩ .bf16) (b : ℕ) (hw : b + w ≤ 4608)
    (hB : ∀ r k, B (ix2 r k) = aC m c (ix2 (row t r) ⟨b + k.val, by omega⟩)) (o : ℕ)
    (inb : ∀ a, (![0, o] : Fin 2 → ℕ) a + (![512, n] : Fin 2 → ℕ) a ≤ (![512, w] : Fin 2 → ℕ) a) (hn : o + n ≤ w)
    (r : Fin 512) (k : Fin n) :
    (show EReal from View.ld (Val := Elt Ideal) (e' := .bf16) B (Rect.unit (s := ⟨2, ![512, w]⟩) ![0, o] ![512, n] inb) (ix2 r k)) =
      aC m c (ix2 (row t r) ⟨b + o + k.val, by omega⟩) := by
  have e : (Rect.unit (s := ⟨2, ![512, w]⟩) ![0, o] ![512, n] inb).emb (ix2 r k) = ix2 r ⟨o + k.val, by omega⟩ := by
    blk_ext []
  refine (congrArg B e).trans ((hB r _).trans (congrArg (fun i => aC m c (ix2 _ i)) (Fin.ext ?_)))
  show b + (o + k.val) = b + o + k.val
  omega

/-- The columns `o + k` of chip `p`'s weight are the weight's columns from `b` on. -/
theorem slab (t : Fin cfg0.N) {n : ℕ} (b o p : ℕ) (hb : b + n ≤ 4608)
    (inb : ∀ a, (![p, 0, o] : Fin 3 → ℕ) a + (![1, 1024, n] : Fin 3 → ℕ) a ≤ S4x1024x1152.size a) (h : 1152 * p + o = b)
    (hp : p < 4) (ho : o + n ≤ 1152) (j : Fin 1024) (k : Fin n) :
    (show EReal from View.ld (iblk m c 6 t) (Rect.unit ![p, 0, o] ![1, 1024, n] inb) (ix3 0 j k)) =
      aW m c (ix2 j ⟨b + k.val, by omega⟩) := by
  have e : (Rect.unit (s := S4x1024x1152) ![p, 0, o] ![1, 1024, n] inb).emb (ix3 0 j k) = ix3 ⟨p, by omega⟩ j ⟨o + k.val, by omega⟩ := by
    blk_ext []
  refine (congrArg (iblk m c 6 t) e).trans ((w_blk m c t _ j _).trans (congrArg (fun i => aW m c (ix2 j i)) (Fin.ext ?_)))
  show 1152 * p + (o + k.val) = b + k.val
  omega

/-- A run of the gradient's columns, from column `b` on, times the same run of a chip's weight. -/
theorem part (t : Fin cfg0.N) {n : ℕ} (A : FVec Ideal ⟨2, ![512, n]⟩ .bf16) (W : FVec Ideal ⟨3, ![1, 1024, n]⟩ .bf16)
    (b : ℕ) (hb : b + n ≤ 4608) (hA : ∀ r k, A (ix2 r k) = aC m c (ix2 (row t r) ⟨b + k.val, by omega⟩))
    (hW : ∀ j k, W (ix3 0 j k) = aW m c (ix2 j ⟨b + k.val, by omega⟩)) (r : Fin 512) (j : Fin 1024) :
    ∑ k : Fin n, A (ix2 r k) * W (ix3 0 j k) = seg (term m c (row t r) j) b n hb :=
  Finset.sum_congr rfl fun k _ => congrArg₂ (· * · : EReal → EReal → EReal) (hA r k) (hW j k)

/-- The product of the gradient with the weight, as the reference has it. -/
abbrev proj : FVec Ideal S8192x1024 .f32 :=
  Host.dotGeneral (F := Ideal) Cert.Reference4Ideal.dot_S8192x4608_S1024x4608_S8192x1024_1_1_0_0_n_n none (aC m c) (aW m c)

theorem proj_apply (n : Fin 8192) (j : Fin 1024) : proj m c (ix2 n j) = ∑ k, term m c n j k := by
  pointwise [proj]

set_option maxHeartbeats 1000000 in
/-- A tile's element, of the slices of the gradient's rows and of the weight. -/
theorem tile_sum
    (a0 : FVec Ideal S512x512 .bf16) (w0 : FVec Ideal S1x1024x512 .bf16)
    (a1 : FVec Ideal S512x512 .bf16) (w1 : FVec Ideal S1x1024x512 .bf16)
    (a2 : FVec Ideal S512x128 .bf16) (w2 : FVec Ideal S1x1024x128 .bf16)
    (a3 : FVec Ideal S512x384 .bf16) (w3 : FVec Ideal S1x1024x384 .bf16)
    (a4 : FVec Ideal S512x512 .bf16) (w4 : FVec Ideal S1x1024x512 .bf16)
    (a5 : FVec Ideal S512x256 .bf16) (w5 : FVec Ideal S1x1024x256 .bf16)
    (a6 : FVec Ideal S512x256 .bf16) (w6 : FVec Ideal S1x1024x256 .bf16)
    (a7 : FVec Ideal S512x896 .bf16) (w7 : FVec Ideal S1x1024x896 .bf16)
    (a8 : FVec Ideal S512x1152 .bf16) (w8 : FVec Ideal S1x1024x1152 .bf16) (r : Fin 512) (j : Fin 1024) :
    (show EReal from k0_pay8 (F := Ideal) (k0_pay6 a0 w0 a1 w1 a2 w2 a3 w3) (k0_pay7 a4) w4 a5 w5 a6 w6 a7 w7 a8 w8 (ix2 r j)) =
      ((((((((∑ k, a0 (ix2 r k) * w0 (ix3 0 j k)) + ∑ k, a1 (ix2 r k) * w1 (ix3 0 j k)) + ∑ k, a2 (ix2 r k) * w2 (ix3 0 j k)) +
        ∑ k, a3 (ix2 r k) * w3 (ix3 0 j k)) + ∑ k, a4 (ix2 r k) * w4 (ix3 0 j k)) + ∑ k, a5 (ix2 r k) * w5 (ix3 0 j k)) +
        ∑ k, a6 (ix2 r k) * w6 (ix3 0 j k)) + ∑ k, a7 (ix2 r k) * w7 (ix3 0 j k)) + ∑ k, a8 (ix2 r k) * w8 (ix3 0 j k) := by
  pointwise [k0_pay8, k0_pay7, k0_pay6]

/-- The nine pieces are the product's row. -/
theorem tile_row (t : Fin cfg0.N)
    (a0 : FVec Ideal S512x512 .bf16) (w0 : FVec Ideal S1x1024x512 .bf16)
    (a1 : FVec Ideal S512x512 .bf16) (w1 : FVec Ideal S1x1024x512 .bf16)
    (a2 : FVec Ideal S512x128 .bf16) (w2 : FVec Ideal S1x1024x128 .bf16)
    (a3 : FVec Ideal S512x384 .bf16) (w3 : FVec Ideal S1x1024x384 .bf16)
    (a4 : FVec Ideal S512x512 .bf16) (w4 : FVec Ideal S1x1024x512 .bf16)
    (a5 : FVec Ideal S512x256 .bf16) (w5 : FVec Ideal S1x1024x256 .bf16)
    (a6 : FVec Ideal S512x256 .bf16) (w6 : FVec Ideal S1x1024x256 .bf16)
    (a7 : FVec Ideal S512x896 .bf16) (w7 : FVec Ideal S1x1024x896 .bf16)
    (a8 : FVec Ideal S512x1152 .bf16) (w8 : FVec Ideal S1x1024x1152 .bf16)
    (ha0 : ∀ r k, a0 (ix2 r k) = aC m c (ix2 (row t r) ⟨0 + k.val, by omega⟩)) (hw0 : ∀ j k, w0 (ix3 0 j k) = aW m c (ix2 j ⟨0 + k.val, by omega⟩))
    (ha1 : ∀ r k, a1 (ix2 r k) = aC m c (ix2 (row t r) ⟨512 + k.val, by omega⟩)) (hw1 : ∀ j k, w1 (ix3 0 j k) = aW m c (ix2 j ⟨512 + k.val, by omega⟩))
    (ha2 : ∀ r k, a2 (ix2 r k) = aC m c (ix2 (row t r) ⟨1024 + k.val, by omega⟩)) (hw2 : ∀ j k, w2 (ix3 0 j k) = aW m c (ix2 j ⟨1024 + k.val, by omega⟩))
    (ha3 : ∀ r k, a3 (ix2 r k) = aC m c (ix2 (row t r) ⟨1152 + k.val, by omega⟩)) (hw3 : ∀ j k, w3 (ix3 0 j k) = aW m c (ix2 j ⟨1152 + k.val, by omega⟩))
    (ha4 : ∀ r k, a4 (ix2 r k) = aC m c (ix2 (row t r) ⟨1536 + k.val, by omega⟩)) (hw4 : ∀ j k, w4 (ix3 0 j k) = aW m c (ix2 j ⟨1536 + k.val, by omega⟩))
    (ha5 : ∀ r k, a5 (ix2 r k) = aC m c (ix2 (row t r) ⟨2048 + k.val, by omega⟩)) (hw5 : ∀ j k, w5 (ix3 0 j k) = aW m c (ix2 j ⟨2048 + k.val, by omega⟩))
    (ha6 : ∀ r k, a6 (ix2 r k) = aC m c (ix2 (row t r) ⟨2304 + k.val, by omega⟩)) (hw6 : ∀ j k, w6 (ix3 0 j k) = aW m c (ix2 j ⟨2304 + k.val, by omega⟩))
    (ha7 : ∀ r k, a7 (ix2 r k) = aC m c (ix2 (row t r) ⟨2560 + k.val, by omega⟩)) (hw7 : ∀ j k, w7 (ix3 0 j k) = aW m c (ix2 j ⟨2560 + k.val, by omega⟩))
    (ha8 : ∀ r k, a8 (ix2 r k) = aC m c (ix2 (row t r) ⟨3456 + k.val, by omega⟩)) (hw8 : ∀ j k, w8 (ix3 0 j k) = aW m c (ix2 j ⟨3456 + k.val, by omega⟩)) (r : Fin 512) (j : Fin 1024) :
    (show EReal from k0_pay8 (F := Ideal) (k0_pay6 a0 w0 a1 w1 a2 w2 a3 w3) (k0_pay7 a4) w4 a5 w5 a6 w6 a7 w7 a8 w8 (ix2 r j)) =
      ∑ k, term m c (row t r) j k := by
  refine (tile_sum _ _ _ _ _ _ _ _ _ _ _ _ _ _ _ _ _ _ r j).trans ?_
  rw [part m c t a0 w0 0 (by decide) ha0 hw0,
    part m c t a1 w1 512 (by decide) ha1 hw1,
    part m c t a2 w2 1024 (by decide) ha2 hw2,
    part m c t a3 w3 1152 (by decide) ha3 hw3,
    part m c t a4 w4 1536 (by decide) ha4 hw4,
    part m c t a5 w5 2048 (by decide) ha5 hw5,
    part m c t a6 w6 2304 (by decide) ha6 hw6,
    part m c t a7 w7 2560 (by decide) ha7 hw7,
    part m c t a8 w8 3456 (by decide) ha8 hw8,
    seg_add _ 0 512 512, seg_add _ 0 1024 128, seg_add _ 0 1152 384, seg_add _ 0 1536 512, seg_add _ 0 2048 256,
    seg_add _ 0 2304 256, seg_add _ 0 2560 896, seg_add _ 0 3456 1152]
  exact seg_all _

/-- A point's tile holds the product's rows. -/
theorem tile_apply (t : Fin cfg0.N) (r : Fin 512) (j : Fin 1024) : tile m c t (ix2 r j) = proj m c (ix2 (row t r) j) := by
  rw [proj_apply]
  have w0 := fun j k => slab m c t 0 0 0 (by decide) inb_S4x1024x1152_S1x1024x512_0_0_0 rfl (by decide) (by decide) j k
  have w1 := fun j k => slab m c t 512 512 0 (by decide) inb_S4x1024x1152_S1x1024x512_0_0_512 rfl (by decide) (by decide) j k
  have w2 := fun j k => slab m c t 1024 1024 0 (by decide) inb_S4x1024x1152_S1x1024x128_0_0_1024 rfl (by decide) (by decide) j k
  have w3 := fun j k => slab m c t 1152 0 1 (by decide) inb_S4x1024x1152_S1x1024x384_1_0_0 rfl (by decide) (by decide) j k
  have w4 := fun j k => slab m c t 1536 384 1 (by decide) inb_S4x1024x1152_S1x1024x512_1_0_384 rfl (by decide) (by decide) j k
  have w5 := fun j k => slab m c t 2048 896 1 (by decide) inb_S4x1024x1152_S1x1024x256_1_0_896 rfl (by decide) (by decide) j k
  have w6 := fun j k => slab m c t 2304 0 2 (by decide) inb_S4x1024x1152_S1x1024x256_2_0_0 rfl (by decide) (by decide) j k
  have w7 := fun j k => slab m c t 2560 256 2 (by decide) inb_S4x1024x1152_S1x1024x896_2_0_256 rfl (by decide) (by decide) j k
  have w8 := fun j k => slab m c t 3456 0 3 (by decide) inb_S4x1024x1152_S1x1024x1152_3_0_0 rfl (by decide) (by decide) j k
  exact tile_row m c t _ _ _ _ _ _ _ _ _ _ _ _ _ _ _ _ _ _
    (c0_blk m c t) w0
    (c1_blk m c t) w1
    (cols m c t _ 1024 (by decide) (c2_blk m c t) 0 inb_S512x512_S512x128_0_0 (by decide)) w2
    (cols m c t _ 1024 (by decide) (c2_blk m c t) 128 inb_S512x512_S512x384_0_128 (by decide)) w3
    (c3_blk m c t) w4
    (cols m c t _ 2048 (by decide) (c4_blk m c t) 0 inb_S512x512_S512x256_0_0 (by decide)) w5
    (cols m c t _ 2048 (by decide) (c4_blk m c t) 256 inb_S512x512_S512x256_0_256 (by decide)) w6
    (cols m c t _ 2560 (by decide) (c5_blk m c t) 0 inb_S512x2048_S512x896_0_0 (by decide)) w7
    (cols m c t _ 2560 (by decide) (c5_blk m c t) 896 inb_S512x2048_S512x1152_0_896 (by decide)) w8 r j

/-- What a point leaves of its rows. -/
theorem out_rows (t : Fin cfg0.N) : (outsAt0 m c t.val t.isLt).1 =
    k0_pay3 (tile m c t) (iblk m c 7 t) (k0_pay9 (iblk m c 7 t)) (iblk m c 8 t) (iblk m c 9 t) := by
  by_cases h0 : t.val % 16 = 0
  · rw [outsAt0_A m c t h0]; frame_out; rfl
  · rw [outsAt0_B m c t h0]; frame_out; rfl

/-- The gain's gradient starts from zero and is added to at every point. -/
theorem out_gain (t : Fin cfg0.N) : (outsAt0 m c t.val t.isLt).2 =
    k0_pay4 (tile m c t) (iblk m c 7 t) (k0_pay9 (iblk m c 7 t))
      (if t.val % 16 = 0 then k0_pay5 (F := Ideal) else (outsAt0 m c (t.val - 1) (Nat.lt_of_le_of_lt (Nat.sub_le _ _) t.isLt)).2) := by
  by_cases h0 : t.val % 16 = 0
  · rw [outsAt0_A m c t h0, if_pos h0]; frame_out; rfl
  · rw [outsAt0_B m c t h0, if_neg h0]; frame_out; rfl

/-- From the product on, a point does what it does for the up projection. -/
theorem same_rows (q x : FVec Ideal S512x1024 .f32) (g : FVec Ideal S1x1024 .f32) (d : FVec Ideal S512x1024 .f32) :
    k0_pay3 q x (k0_pay9 x) g d = Cert.Kernel2Ideal.Gen.k0_pay3 q x (Cert.Kernel2Ideal.Gen.k0_pay7 x) g d := rfl

@[inherit_doc same_rows] theorem same_gain (q x : FVec Ideal S512x1024 .f32) (acc : FVec Ideal S1x1024 .f32) :
    k0_pay4 q x (k0_pay9 x) acc = Cert.Kernel2Ideal.Gen.k0_pay4 q x (Cert.Kernel2Ideal.Gen.k0_pay7 x) acc := rfl

open Cert.Norm in
/-- What a point leaves of its rows is the reference's. -/
theorem arr10 : (dats m 0 c).arrAt 10 cfg0.N = sDx (aX m c) (aG m c) (aD m c) (proj m c) := by
  refine (dats m 0 c).arrAt_eq_of_covers 10 _ (by decide +kernel) fun t hf y => ?_
  have : t.val < 16 := t.isLt
  blk_simp
  rw [after0_10, out_rows]
  idx_vars y
  have e : (win0_10.blk t).view.emb (ix2 y0 y1) = ix2 (row t y0) y1 := by blk_ext [idx t, row]
  rw [show ((View.whole main_v11_0).slice (win0_10.rect t)).emb (ix2 y0 y1) = _ from e, sDx_apply, same_rows, rows_apply,
    show iblk m c 9 t (ix2 y0 y1) = _ from d_blk m c t y0 y1]
  rw [show rowOf (iblk m c 7 t) y0 = rowOf (aX m c) (row t y0) from funext fun k => x_blk m c t y0 k]
  simp only [tile_apply]
  exact congrArg (fun u => aD m c (ix2 (row t y0) y1) + down (rowOf (aX m c) (row t y0)) u y1)
    (funext fun k => congrArg (proj m c (ix2 (row t y0) k) * ·) (g_blk m c t k))

/-- The gradient of the gain. -/
theorem arr11 : (dats m 0 c).arrAt 11 cfg0.N = sDg (aX m c) (proj m c) := by
  have step : ∀ (t : Fin cfg0.N) (X : FVec Ideal S1x1024 .f32) (j : Fin 1024),
      k0_pay4 (tile m c t) (iblk m c 7 t) (k0_pay9 (iblk m c 7 t)) X (ix2 0 j) =
        X (ix2 0 j) + ∑ r : Fin 512, hat (rowOf (aX m c) (row t r)) j * proj m c (ix2 (row t r) j) := fun t X j => by
    rw [same_gain, gain_apply]
    refine congrArg (X (ix2 0 j) + ·) (Finset.sum_congr rfl fun r _ => ?_)
    rw [tile_apply, mul_comm, show rowOf (iblk m c 7 t) r = rowOf (aX m c) (row t r) from funext fun k => x_blk m c t r k]
  refine (dats m 0 c).arrAt_eq_of_covers 11 _ (by decide +kernel) fun t hf y => ?_
  have : t.val < 16 := t.isLt
  blk_simp
  rw [after0_11]
  idx_vars y
  obtain rfl : y0 = 0 := Subsingleton.elim _ _
  have e : (win0_11.blk t).view.emb (ix2 0 y1) = ix2 0 y1 := by blk_ext [idx t]
  rw [show ((View.whole main_v11_1).slice (win0_11.rect t)).emb (ix2 0 y1) = _ from e, sDg_apply]
  refine run_rows (fun n hn j => (outsAt0 m c n hn).2 (ix2 0 j)) (fun j n => hat (rowOf (aX m c) n) j * proj m c (ix2 n j))
    (fun t ht j => ?_) (fun t ht j => ?_) t ((flush0_11 t).mp hf) y1
  · exact (congrFun ((out_gain m c t).trans (congrArg (k0_pay4 _ _ _) (if_pos ht))) _).trans
      ((step t _ j).trans (congrArg (· + _) (gain_zero j)))
  · exact (congrFun ((out_gain m c t).trans (congrArg (k0_pay4 _ _ _) (if_neg ht))) _).trans (step t _ j)

end Cert.Norm.In
end
-- ==== Proof.Norm.InClaim.lean ====
module

public import proofs.«01_k».proof.Defs
public import proofs.«01_k».proof.Proof.Norm.In
public import Idealize.ShloMosaic.Lib.Claim
public import Idealize.ShloMosaic.Adequacy
public import Idealize.ShloMosaic.Init

/-!
# The claims on the gradient of the input projection's input
-/

@[expose] public section

set_option maxRecDepth 16384

noncomputable section

namespace Cert.Norm.In

open Idealize.ShloMosaic Idealize.ShloMosaic.TcCoe Idealize.SL.Sem

/-- The reference runs on the host alone and has no semaphores. -/
theorem frame_reference : Cert.quiescent_Reference4Ideal := fun m g _ =>
  (θ_run _ _ _).mono (fun r h => ⟨fun c => (h c).2.2, sem_eq_zero_of_no_sems (by decide) r.2⟩)
    (Cert.Reference4Ideal.Value.run m g)

section
variable (m : (ℓ : Loc Cert.Reference4Ideal.nD Cert.Reference4Ideal.τ Cert.Reference4Ideal.sig) → Buf (Elt Ideal) ℓ)
  (c : Dev Cert.Reference4Ideal.nD)

/-- The reference's arguments, at their types. -/
abbrev rX : FVec Ideal Cert.Reference4Ideal.S8192x1024 .f32 := m ((c.tc : Thread _ Cert.Reference4Ideal.τ).loc Cert.Reference4Ideal.main_arg0)
@[inherit_doc rX] abbrev rG : FVec Ideal Cert.Reference4Ideal.S1024 .f32 := m ((c.tc : Thread _ Cert.Reference4Ideal.τ).loc Cert.Reference4Ideal.main_arg1)
@[inherit_doc rX] abbrev rW : FVec Ideal Cert.Reference4Ideal.S1024x4608 .f32 := m ((c.tc : Thread _ Cert.Reference4Ideal.τ).loc Cert.Reference4Ideal.main_arg2)
@[inherit_doc rX] abbrev rD : FVec Ideal Cert.Reference4Ideal.S8192x1024 .f32 := m ((c.tc : Thread _ Cert.Reference4Ideal.τ).loc Cert.Reference4Ideal.main_arg3)
@[inherit_doc rX] abbrev rC : FVec Ideal Cert.Reference4Ideal.S8192x4608 .f32 := m ((c.tc : Thread _ Cert.Reference4Ideal.τ).loc Cert.Reference4Ideal.main_arg4)

/-- The product of the gradient coming in with the weight. -/
abbrev rProj : FVec Ideal Cert.Reference4Ideal.S8192x1024 .f32 :=
  Host.dotGeneral (F := Ideal) Cert.Reference4Ideal.dot_S8192x4608_S1024x4608_S8192x1024_1_1_0_0_n_n none (rC m c) (rW m c)

theorem rows_eq : Cert.Reference4Ideal.Value.res_out0 m c = sDx (rX m c) (rG m c) (rD m c) (rProj m c) := rfl

end

/-- Both runs end in the same arrays. -/
theorem algebraic : Cert.algebraic_Kernel4Ideal_Reference4Ideal := by
  intro m g m' g' _ hm
  refine ⟨_, _, Cert.Kernel4Ideal.Value.run_blocks m g,
    (θ_run _ _ _).mono (fun r h c => ?_) (Cert.Reference4Ideal.Value.run m' g')⟩
  obtain ⟨h0, h1, args⟩ := h c
  have e0 : rX m' c = aX m c := (hm c).1
  have e1 : rG m' c = aG m c := (hm c).2.1
  have e2 : rW m' c = aW m c := (hm c).2.2.1
  have e3 : rD m' c = aD m c := (hm c).2.2.2.1
  have e4 : rC m' c = aC m c := (hm c).2.2.2.2
  have ep : rProj m' c = proj m c := by rw [rProj, e2, e4]
  refine ⟨(h0.trans (rows_eq m' c)).trans ?_, (h1.trans (show _ = sDg (rX m' c) (rProj m' c) from rfl)).trans ?_, args⟩
  · rw [arr10, e0, e1, e3, ep]
  · rw [arr11, e0, ep]

end Cert.Norm.In
end
-- ==== Proof.Norm.InWgradBlock.lean ====
module

public import proofs.«01_k».proof.Proof.Gen.Kernel5Ideal.Value
public import proofs.«01_k».proof.Proof.Norm.Reference
public import proofs.«01_k».proof.Proof.Norm.Sums
public import Idealize.ShloMosaic.Lib.Pipeline.ValueKit
public import Idealize.ShloMosaic.Lib.Pipeline.ReadBack
public import Idealize.ShloMosaic.Lib.Claim

/-!
# What a point of the input projection's weight gradient works on

Eight points in a row work on one chip's quarter of the columns, each on 1024 of the rows. The gradient coming in is in
six pieces by columns, and a chip's quarter takes in up to three of them.
-/

@[expose] public section

set_option maxRecDepth 16384

noncomputable section

open Idealize.ShloMosaic Idealize.ShloMosaic.TcCoe Idealize.SL.Sem

namespace Cert.Norm.InWgrad

open Cert.Kernel5Ideal Cert.Kernel5Ideal.Gen

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aC : FVec Ideal S8192x4608 .f32 := m ((c : Thread nD τ).loc main_arg3)

/-- `main_v13`: the normalised rows with their gain. -/
theorem V_n : V m c main_v13 = sNorm (aX m c) (aG m c) := by
  simp only [V, hostOps0, List.flatten_cons, List.flatten_nil, List.append_nil, List.cons_append, List.nil_append]
  entry_read
  rfl

/-- `main_v15` to `main_v20`: the pieces of the gradient coming in. -/
theorem V_d :
    V m c main_v15 = extractStridedSlice S8192x512 ![0, 0] (aC m c) slices_S8192x4608_S8192x512_0_0 ∧
    V m c main_v16 = extractStridedSlice S8192x512 ![0, 512] (aC m c) slices_S8192x4608_S8192x512_0_512 ∧
    V m c main_v17 = extractStridedSlice S8192x512 ![0, 1024] (aC m c) slices_S8192x4608_S8192x512_0_1024 ∧
    V m c main_v18 = extractStridedSlice S8192x512 ![0, 1536] (aC m c) slices_S8192x4608_S8192x512_0_1536 ∧
    V m c main_v19 = extractStridedSlice S8192x512 ![0, 2048] (aC m c) slices_S8192x4608_S8192x512_0_2048 ∧
    V m c main_v20 = extractStridedSlice S8192x2048 ![0, 2560] (aC m c) slices_S8192x4608_S8192x2048_0_2560 := by
  refine ⟨?_, ?_, ?_, ?_, ?_, ?_⟩ <;>
  · simp only [V, hostOps0, List.flatten_cons, List.flatten_nil, List.append_nil, List.cons_append, List.nil_append]
    entry_read
    rfl

/-- The block each window reads or writes at a point. -/
theorem idx : ∀ t : Fin cfg0.N,
    win0_0.index t = ![t.val % 8, 0] ∧
    win0_1.index t = ![if t.val / 8 ≤ 0 then t.val % 8 else 0, 0] ∧
    win0_2.index t = ![if t.val / 8 ≤ 0 then t.val % 8 else 0, 0] ∧
    win0_3.index t = ![if t.val / 8 ≤ 1 then t.val % 8 else 0, 0] ∧
    win0_4.index t = ![if t.val / 8 = 1 then t.val % 8 else 0, 0] ∧
    win0_5.index t = ![if t.val / 8 = 1 ∨ t.val / 8 = 2 then t.val % 8 else 0, 0] ∧
    win0_6.index t = ![if 2 ≤ t.val / 8 then t.val % 8 else 0, 0] ∧
    win0_7.index t = ![t.val / 8, 0, 0] ∧ win0_8.index t = ![t.val / 8, 0, 0] :=
  (by decide +kernel : ∀ t : Fin grid0.N, _)

/-- The array's row at row `r` of a point's tile, and its column at column `k` of a point's quarter. -/
def rowAt (t : Fin cfg0.N) (r : Fin 1024) : Fin 8192 := ⟨t.val % 8 * 1024 + r.val, by omega⟩
@[inherit_doc rowAt] def colAt (t : Fin cfg0.N) (k : Fin 1152) : Fin 4608 :=
  ⟨1152 * (t.val / 8) + k.val, by have : t.val < 32 := t.isLt; omega⟩

/-- The normalised rows. -/
theorem n_blk (t : Fin cfg0.N) (r : Fin 1024) (j : Fin 1024) :
    (show EReal from iblk m c 0 t (ix2 r j)) = sNorm (aX m c) (aG m c) (ix2 (rowAt t r) j) := by
  have : t.val < 32 := t.isLt
  blk_simp [iblk, idx t]
  have e : (win0_0.blk t).view.emb (ix2 r j) = ix2 (rowAt t r) j := by blk_ext [idx t, rowAt]
  rw [V_n, e]

/-- The pieces of the gradient coming in, each at the chips that use it. -/
theorem d1_blk (t : Fin cfg0.N) (ht : t.val / 8 = 0) (r : Fin 1024) (k : Fin 512) :
    (show EReal from iblk m c 1 t (ix2 r k)) = aC m c (ix2 (rowAt t r) ⟨k.val, by omega⟩) := by
  have hi : win0_1.index t = ![t.val % 8, 0] := by rw [(idx t).2.1, if_pos (by omega)]
  blk_simp [iblk, hi]
  have e : (win0_1.blk t).view.emb (ix2 r k) = ix2 (rowAt t r) k := by blk_ext [hi, rowAt]
  rw [(V_d m c).1, e]
  pointwise
  blk_ext []
@[inherit_doc d1_blk] theorem d2_blk (t : Fin cfg0.N) (ht : t.val / 8 = 0) (r : Fin 1024) (k : Fin 512) :
    (show EReal from iblk m c 2 t (ix2 r k)) = aC m c (ix2 (rowAt t r) ⟨512 + k.val, by omega⟩) := by
  have hi : win0_2.index t = ![t.val % 8, 0] := by rw [(idx t).2.2.1, if_pos (by omega)]
  blk_simp [iblk, hi]
  have e : (win0_2.blk t).view.emb (ix2 r k) = ix2 (rowAt t r) k := by blk_ext [hi, rowAt]
  rw [(V_d m c).2.1, e]
  pointwise
  blk_ext []
@[inherit_doc d1_blk] theorem d3_blk (t : Fin cfg0.N) (ht : t.val / 8 = 0 ∨ t.val / 8 = 1) (r : Fin 1024) (k : Fin 512) :
    (show EReal from iblk m c 3 t (ix2 r k)) = aC m c (ix2 (rowAt t r) ⟨1024 + k.val, by omega⟩) := by
  have hi : win0_3.index t = ![t.val % 8, 0] := by rw [(idx t).2.2.2.1, if_pos (by omega)]
  blk_simp [iblk, hi]
  have e : (win0_3.blk t).view.emb (ix2 r k) = ix2 (rowAt t r) k := by blk_ext [hi, rowAt]
  rw [(V_d m c).2.2.1, e]
  pointwise
  blk_ext []
@[inherit_doc d1_blk] theorem d4_blk (t : Fin cfg0.N) (ht : t.val / 8 = 1) (r : Fin 1024) (k : Fin 512) :
    (show EReal from iblk m c 4 t (ix2 r k)) = aC m c (ix2 (rowAt t r) ⟨1536 + k.val, by omega⟩) := by
  have hi : win0_4.index t = ![t.val % 8, 0] := by rw [(idx t).2.2.2.2.1, if_pos (by omega)]
  blk_simp [iblk, hi]
  have e : (win0_4.blk t).view.emb (ix2 r k) = ix2 (rowAt t r) k := by blk_ext [hi, rowAt]
  rw [(V_d m c).2.2.2.1, e]
  pointwise
  blk_ext []
@[inherit_doc d1_blk] theorem d5_blk (t : Fin cfg0.N) (ht : t.val / 8 = 1 ∨ t.val / 8 = 2) (r : Fin 1024) (k : Fin 512) :
    (show EReal from iblk m c 5 t (ix2 r k)) = aC m c (ix2 (rowAt t r) ⟨2048 + k.val, by omega⟩) := by
  have hi : win0_5.index t = ![t.val % 8, 0] := by rw [(idx t).2.2.2.2.2.1, if_pos (by omega)]
  blk_simp [iblk, hi]
  have e : (win0_5.blk t).view.emb (ix2 r k) = ix2 (rowAt t r) k := by blk_ext [hi, rowAt]
  rw [(V_d m c).2.2.2.2.1, e]
  pointwise
  blk_ext []
@[inherit_doc d1_blk] theorem d6_blk (t : Fin cfg0.N) (ht : t.val / 8 = 2 ∨ t.val / 8 = 3) (r : Fin 1024) (k : Fin 2048) :
    (show EReal from iblk m c 6 t (ix2 r k)) = aC m c (ix2 (rowAt t r) ⟨2560 + k.val, by omega⟩) := by
  have hi : win0_6.index t = ![t.val % 8, 0] := by rw [(idx t).2.2.2.2.2.2.1, if_pos (by omega)]
  blk_simp [iblk, hi]
  have e : (win0_6.blk t).view.emb (ix2 r k) = ix2 (rowAt t r) k := by blk_ext [hi, rowAt]
  rw [(V_d m c).2.2.2.2.2, e]
  pointwise
  blk_ext []

end Cert.Norm.InWgrad
end
-- ==== Proof.Norm.InWgradStep.lean ====
module

public import proofs.«01_k».proof.Proof.Norm.InWgradBlock

/-!
# What a point of the input projection's weight gradient leaves

The columns of a chip's quarter that come from one piece of the gradient are loaded, added to and stored together.
-/

@[expose] public section

set_option maxRecDepth 16384

noncomputable section

open Idealize.ShloMosaic Idealize.ShloMosaic.TcCoe Idealize.SL.Sem

namespace Cert.Norm.InWgrad

open Cert.Kernel5Ideal Cert.Kernel5Ideal.Gen

/-- A block with the product of `a` and `b` added, at row `i` and column `k`. -/
abbrev plus {w : ℕ} (a : FVec Ideal S1024x1024 .bf16) (X : FVec Ideal ⟨3, ![1, 1024, w]⟩ .f32)
    (b : FVec Ideal ⟨2, ![1024, w]⟩ .bf16) (i : Fin 1024) (k : Fin w) : EReal :=
  X (ix3 0 i k) + ∑ r : Fin 1024, a (ix2 r i) * b (ix2 r k)

section
variable (a : FVec Ideal S1024x1024 .bf16) (i : Fin 1024)

theorem pay3_apply (X : FVec Ideal S1x1024x256 .f32) (b : FVec Ideal S1024x256 .bf16) (k : Fin 256) :
    (show EReal from k0_pay3 (F := Ideal) a X b (ix3 0 i k)) = plus a X b i k := by pointwise [k0_pay3, k0_pay2]
theorem pay4_apply (X : FVec Ideal S1x1024x896 .f32) (b : FVec Ideal S1024x896 .bf16) (k : Fin 896) :
    (show EReal from k0_pay4 (F := Ideal) a X b (ix3 0 i k)) = plus a X b i k := by pointwise [k0_pay4, k0_pay2]
theorem pay5_apply (X : FVec Ideal S1x1024x1152 .f32) (b : FVec Ideal S1024x1152 .bf16) (k : Fin 1152) :
    (show EReal from k0_pay5 (F := Ideal) a X b (ix3 0 i k)) = plus a X b i k := by pointwise [k0_pay5]
theorem pay8_apply (X : FVec Ideal S1x1024x512 .f32) (b : FVec Ideal S1024x512 .bf16) (k : Fin 512) :
    (show EReal from k0_pay8 (F := Ideal) a X b (ix3 0 i k)) = plus a X b i k := by pointwise [k0_pay8, k0_pay7]
theorem pay9_apply (X : FVec Ideal S1x1024x512 .f32) (b : FVec Ideal S1024x512 .bf16) (k : Fin 512) :
    (show EReal from k0_pay9 (F := Ideal) a X b (ix3 0 i k)) = plus a X b i k := by pointwise [k0_pay9, k0_pay7]
theorem pay10_apply (X : FVec Ideal S1x1024x128 .f32) (b : FVec Ideal S1024x128 .bf16) (k : Fin 128) :
    (show EReal from k0_pay10 (F := Ideal) a X b (ix3 0 i k)) = plus a X b i k := by pointwise [k0_pay10, k0_pay7]
theorem pay12_apply (X : FVec Ideal S1x1024x384 .f32) (b : FVec Ideal S1024x384 .bf16) (k : Fin 384) :
    (show EReal from k0_pay12 (F := Ideal) a X b (ix3 0 i k)) = plus a X b i k := by pointwise [k0_pay12, k0_pay11]
theorem pay13_apply (X : FVec Ideal S1x1024x512 .f32) (b : FVec Ideal S1024x512 .bf16) (k : Fin 512) :
    (show EReal from k0_pay13 (F := Ideal) a X b (ix3 0 i k)) = plus a X b i k := by pointwise [k0_pay13, k0_pay11]
theorem pay14_apply (X : FVec Ideal S1x1024x256 .f32) (b : FVec Ideal S1024x256 .bf16) (k : Fin 256) :
    (show EReal from k0_pay14 (F := Ideal) a X b (ix3 0 i k)) = plus a X b i k := by pointwise [k0_pay14, k0_pay11]

theorem zero_apply (k : Fin 1152) : k0_pay1 (F := Ideal) (ix3 0 i k) = (0 : EReal) := by pointwise [k0_pay1]

theorem copy_apply (X : FVec Ideal S1x1024x1152 .f32) (k : Fin 1152) :
    (show EReal from k0_pay6 (F := Ideal) X (ix3 0 i k)) = X (ix3 0 i k) := by pointwise [k0_pay6]

end

variable (m : (ℓ : Loc nD τ sig) → Buf (Elt Ideal) ℓ) (c : Dev nD)

/-- A chip's block after a tile: the product of the tile's rows is added. -/
def acc (t : Fin cfg0.N) (X : FVec Ideal S1x1024x1152 .f32) : FVec Ideal S1x1024x1152 .f32 := fun y =>
  X y + ∑ r : Fin 1024, sNorm (aX m c) (aG m c) (ix2 (rowAt t r) (y 1)) * aC m c (ix2 (rowAt t r) (colAt t (y 2)))

/-- The block's rectangle of `w` columns from column `o` on. -/
abbrev cols (o w : ℕ) (inb : ∀ a, (![0, 0, o] : Fin 3 → ℕ) a + (![1, 1024, w] : Fin 3 → ℕ) a ≤ S1x1024x1152.size a) :
    Rect S1x1024x1152 := Rect.unit ![0, 0, o] ![1, 1024, w] inb

/-- A store of `w` columns is the new block's, when what it adds is the product with the columns of the gradient there. -/
theorem store_eq (t : Fin cfg0.N) (o w : ℕ) (inb) (X : FVec Ideal S1x1024x1152 .f32) (how : o + w ≤ 1152)
    (P : FVec Ideal ⟨3, ![1, 1024, w]⟩ .f32) (b : FVec Ideal ⟨2, ![1024, w]⟩ .bf16)
    (hP : ∀ i k, P (ix3 0 i k) = plus (iblk m c 0 t) (View.ld (Val := Elt Ideal) (e' := .f32) X (cols o w inb)) b i k)
    (hb : ∀ r k, b (ix2 r k) = aC m c (ix2 (rowAt t r) (colAt t ⟨o + k.val, by omega⟩)))
    (x : (⟨3, ![1, 1024, w]⟩ : Shape).Idx) : P x = acc m c t X ((cols o w inb).emb x) := by
  obtain ⟨x1, x2, rfl⟩ : ∃ (x1 : Fin 1024) (x2 : Fin w), x = ix3 0 x1 x2 := ⟨x 1, x 2, funext fun a =>
    match a with | ⟨0, _⟩ => Subsingleton.elim (α := Fin 1) _ _ | ⟨1, _⟩ => rfl | ⟨2, _⟩ => rfl⟩
  have e : (cols o w inb).emb (ix3 0 x1 x2) = (ix3 0 x1 ⟨o + x2.val, by omega⟩ : S1x1024x1152.Idx) := by blk_ext []
  refine (hP x1 x2).trans (Eq.trans ?_ (congrArg (acc m c t X) e.symm))
  exact congrArg₂ (· + · : EReal → EReal → EReal) (congrArg X e) (Finset.sum_congr rfl fun r _ =>
    congrArg₂ (· * · : EReal → EReal → EReal) (n_blk m c t r x1) (hb r x2))

/-- A column of the block is in the rectangle that has it. -/
theorem mem_cols (o w : ℕ) (inb) (y : S1x1024x1152.Idx) (h : o ≤ (y 2).val) (h' : (y 2).val < o + w) :
    y ∈ (cols o w inb).set := by
  have h0 : (y 0).val < 1 := (y 0).isLt
  have h1 : (y 1).val < 1024 := (y 1).isLt
  rw [Rect.mem_set_unit]
  intro a
  fin_cases a
  · exact ⟨Nat.zero_le _, by show (y 0).val < 0 + 1; omega⟩
  · exact ⟨Nat.zero_le _, by show (y 1).val < 0 + 1024; omega⟩
  · exact ⟨h, h'⟩

/-- A load of some columns of a piece of the gradient. -/
theorem ld_apply {n : ℕ} (b : FVec Ideal ⟨2, ![1024, n]⟩ .bf16) (o w : ℕ) (how : o + w ≤ n)
    (inb : ∀ a, (![0, o] : Fin 2 → ℕ) a + (![1024, w] : Fin 2 → ℕ) a ≤ (⟨2, ![1024, n]⟩ : Shape).size a)
    (r : Fin 1024) (k : Fin w) :
    View.ld (Val := Elt Ideal) (e' := .bf16) b (Rect.unit (s := ⟨2, ![1024, n]⟩) ![0, o] ![1024, w] inb) (ix2 r k) =
      b (ix2 r ⟨o + k.val, by omega⟩) := by
  have e : (Rect.unit (s := ⟨2, ![1024, n]⟩) ![0, o] ![1024, w] inb).emb (ix2 r k) =
      (ix2 r ⟨o + k.val, by omega⟩ : (⟨2, ![1024, n]⟩ : Shape).Idx) := by blk_ext []
  exact congrArg b e

/-- Two columns of the gradient are one when their places are. -/
theorem col_eq (t : Fin cfg0.N) (r : Fin 1024) (p : ℕ) (hp : p < 4608) (k : Fin 1152) (h : p = 1152 * (t.val / 8) + k.val) :
    aC m c (ix2 (rowAt t r) ⟨p, hp⟩) = aC m c (ix2 (rowAt t r) (colAt t k)) :=
  congrArg (fun i => aC m c (ix2 (rowAt t r) i)) (Fin.ext h)

/-- The three stores of the first chip, over whatever was stored before. -/
theorem chip0 (t : Fin cfg0.N) (ht : t.val / 8 = 0) (X : FVec Ideal S1x1024x1152 .f32)
    (L : List (View.Piece (Elt Ideal) S1x1024x1152 .f32)) :
    View.canon ([⟨cols 1024 128 inb_S1x1024x1152_S1x1024x128_0_0_1024, k0_pay10 (iblk m c 0 t)
          (View.ld (Val := Elt Ideal) (e' := .f32) X (cols 1024 128 inb_S1x1024x1152_S1x1024x128_0_0_1024))
          (View.ld (iblk m c 3 t) (Rect.unit ![0, 0] ![1024, 128] inb_S1024x512_S1024x128_0_0))⟩,
        ⟨cols 512 512 inb_S1x1024x1152_S1x1024x512_0_0_512, k0_pay9 (iblk m c 0 t)
          (View.ld (Val := Elt Ideal) (e' := .f32) X (cols 512 512 inb_S1x1024x1152_S1x1024x512_0_0_512)) (iblk m c 2 t)⟩,
        ⟨cols 0 512 inb_S1x1024x1152_S1x1024x512_0_0_0, k0_pay8 (iblk m c 0 t)
          (View.ld (Val := Elt Ideal) (e' := .f32) X (cols 0 512 inb_S1x1024x1152_S1x1024x512_0_0_0)) (iblk m c 1 t)⟩] ++ L)
      = acc m c t X := by
  funext y
  refine View.canon_append_of_piecesOf (acc m c t X) L [_, _, _] ⟨?_, ?_, ?_, trivial⟩ y ?_
  · exact store_eq m c t 1024 128 _ X (by norm_num) _ _ (fun i k => pay10_apply _ i _ _ k) fun r k =>
      (ld_apply _ 0 128 (by norm_num) _ r k).trans ((d3_blk m c t (by omega) r _).trans
        (col_eq m c t r _ _ _ (by show 1024 + (0 + k.val) = 1152 * (t.val / 8) + (1024 + k.val); omega)))
  · exact store_eq m c t 512 512 _ X (by norm_num) _ _ (fun i k => pay9_apply _ i _ _ k) fun r k =>
      (d2_blk m c t ht r _).trans
        (col_eq m c t r _ _ _ (by show 512 + k.val = 1152 * (t.val / 8) + (512 + k.val); omega))
  · exact store_eq m c t 0 512 _ X (by norm_num) _ _ (fun i k => pay8_apply _ i _ _ k) fun r k =>
      (d1_blk m c t ht r _).trans
        (col_eq m c t r _ _ _ (by show k.val = 1152 * (t.val / 8) + (0 + k.val); omega))
  · have h2 : (y 2).val < 1152 := (y 2).isLt
    obtain hy | hy | hy : 1024 ≤ (y 2).val ∨ (512 ≤ (y 2).val ∧ (y 2).val < 1024) ∨ (y 2).val < 512 := by omega
    · exact ⟨_, .head _, mem_cols 1024 128 inb_S1x1024x1152_S1x1024x128_0_0_1024 y hy (by omega)⟩
    · exact ⟨_, .tail _ (.head _), mem_cols 512 512 inb_S1x1024x1152_S1x1024x512_0_0_512 y hy.1 (by omega)⟩
    · exact ⟨_, .tail _ (.tail _ (.head _)), mem_cols 0 512 inb_S1x1024x1152_S1x1024x512_0_0_0 y (by omega) (by omega)⟩

/-- The three stores of the second chip. -/
theorem chip1 (t : Fin cfg0.N) (ht : t.val / 8 = 1) (X : FVec Ideal S1x1024x1152 .f32)
    (L : List (View.Piece (Elt Ideal) S1x1024x1152 .f32)) :
    View.canon ([⟨cols 896 256 inb_S1x1024x1152_S1x1024x256_0_0_896, k0_pay14 (iblk m c 0 t)
          (View.ld (Val := Elt Ideal) (e' := .f32) X (cols 896 256 inb_S1x1024x1152_S1x1024x256_0_0_896))
          (View.ld (iblk m c 5 t) (Rect.unit ![0, 0] ![1024, 256] inb_S1024x512_S1024x256_0_0))⟩,
        ⟨cols 384 512 inb_S1x1024x1152_S1x1024x512_0_0_384, k0_pay13 (iblk m c 0 t)
          (View.ld (Val := Elt Ideal) (e' := .f32) X (cols 384 512 inb_S1x1024x1152_S1x1024x512_0_0_384)) (iblk m c 4 t)⟩,
        ⟨cols 0 384 inb_S1x1024x1152_S1x1024x384_0_0_0, k0_pay12 (iblk m c 0 t)
          (View.ld (Val := Elt Ideal) (e' := .f32) X (cols 0 384 inb_S1x1024x1152_S1x1024x384_0_0_0))
          (View.ld (iblk m c 3 t) (Rect.unit ![0, 128] ![1024, 384] inb_S1024x512_S1024x384_0_128))⟩] ++ L)
      = acc m c t X := by
  funext y
  refine View.canon_append_of_piecesOf (acc m c t X) L [_, _, _] ⟨?_, ?_, ?_, trivial⟩ y ?_
  · exact store_eq m c t 896 256 _ X (by norm_num) _ _ (fun i k => pay14_apply _ i _ _ k) fun r k =>
      (ld_apply _ 0 256 (by norm_num) _ r k).trans ((d5_blk m c t (by omega) r _).trans
        (col_eq m c t r _ _ _ (by show 2048 + (0 + k.val) = 1152 * (t.val / 8) + (896 + k.val); omega)))
  · exact store_eq m c t 384 512 _ X (by norm_num) _ _ (fun i k => pay13_apply _ i _ _ k) fun r k =>
      (d4_blk m c t ht r _).trans
        (col_eq m c t r _ _ _ (by show 1536 + k.val = 1152 * (t.val / 8) + (384 + k.val); omega))
  · exact store_eq m c t 0 384 _ X (by norm_num) _ _ (fun i k => pay12_apply _ i _ _ k) fun r k =>
      (ld_apply _ 128 384 (by norm_num) _ r k).trans ((d3_blk m c t (by omega) r _).trans
        (col_eq m c t r _ _ _ (by show 1024 + (128 + k.val) = 1152 * (t.val / 8) + (0 + k.val); omega)))
  · have h2 : (y 2).val < 1152 := (y 2).isLt
    obtain hy | hy | hy : 896 ≤ (y 2).val ∨ (384 ≤ (y 2).val ∧ (y 2).val < 896) ∨ (y 2).val < 384 := by omega
    · exact ⟨_, .head _, mem_cols 896 256 inb_S1x1024x1152_S1x1024x256_0_0_896 y hy (by omega)⟩
    · exact ⟨_, .tail _ (.head _), mem_cols 384 512 inb_S1x1024x1152_S1x1024x512_0_0_384 y hy.1 (by omega)⟩
    · exact ⟨_, .tail _ (.tail _ (.head _)), mem_cols 0 384 inb_S1x1024x1152_S1x1024x384_0_0_0 y (by omega) (by omega)⟩

/-- The two stores of the third chip. -/
theorem chip2 (t : Fin cfg0.N) (ht : t.val / 8 = 2) (X : FVec Ideal S1x1024x1152 .f32)
    (L : List (View.Piece (Elt Ideal) S1x1024x1152 .f32)) :
    View.canon ([⟨cols 256 896 inb_S1x1024x1152_S1x1024x896_0_0_256, k0_pay4 (iblk m c 0 t)
          (View.ld (Val := Elt Ideal) (e' := .f32) X (cols 256 896 inb_S1x1024x1152_S1x1024x896_0_0_256))
          (View.ld (iblk m c 6 t) (Rect.unit ![0, 0] ![1024, 896] inb_S1024x2048_S1024x896_0_0))⟩,
        ⟨cols 0 256 inb_S1x1024x1152_S1x1024x256_0_0_0, k0_pay3 (iblk m c 0 t)
          (View.ld (Val := Elt Ideal) (e' := .f32) X (cols 0 256 inb_S1x1024x1152_S1x1024x256_0_0_0))
          (View.ld (iblk m c 5 t) (Rect.unit ![0, 256] ![1024, 256] inb_S1024x512_S1024x256_0_256))⟩] ++ L)
      = acc m c t X := by
  funext y
  refine View.canon_append_of_piecesOf (acc m c t X) L [_, _] ⟨?_, ?_, trivial⟩ y ?_
  · exact store_eq m c t 256 896 _ X (by norm_num) _ _ (fun i k => pay4_apply _ i _ _ k) fun r k =>
      (ld_apply _ 0 896 (by norm_num) _ r k).trans ((d6_blk m c t (by omega) r _).trans
        (col_eq m c t r _ _ _ (by show 2560 + (0 + k.val) = 1152 * (t.val / 8) + (256 + k.val); omega)))
  · exact store_eq m c t 0 256 _ X (by norm_num) _ _ (fun i k => pay3_apply _ i _ _ k) fun r k =>
      (ld_apply _ 256 256 (by norm_num) _ r k).trans ((d5_blk m c t (by omega) r _).trans
        (col_eq m c t r _ _ _ (by show 2048 + (256 + k.val) = 1152 * (t.val / 8) + (0 + k.val); omega)))
  · have h2 : (y 2).val < 1152 := (y 2).isLt
    obtain hy | hy : 256 ≤ (y 2).val ∨ (y 2).val < 256 := by omega
    · exact ⟨_, .head _, mem_cols 256 896 inb_S1x1024x1152_S1x1024x896_0_0_256 y hy (by omega)⟩
    · exact ⟨_, .tail _ (.head _), mem_cols 0 256 inb_S1x1024x1152_S1x1024x256_0_0_0 y (by omega) (by omega)⟩

/-- The last chip's block is stored at once. -/
theorem chip3 (t : Fin cfg0.N) (ht : t.val / 8 = 3) (X : FVec Ideal S1x1024x1152 .f32) :
    k0_pay5 (iblk m c 0 t) X (View.ld (iblk m c 6 t) (Rect.unit ![0, 896] ![1024, 1152] inb_S1024x2048_S1024x1152_0_896))
      = acc m c t X := by
  funext y
  idx_vars y
  obtain rfl : y0 = 0 := Subsingleton.elim _ _
  refine (pay5_apply _ _ _ _ _).trans (congrArg (X (ix3 0 y1 y2) + ·) (Finset.sum_congr rfl fun r _ =>
    congrArg₂ (· * · : EReal → EReal → EReal) (n_blk m c t r y1) ?_))
  exact (ld_apply _ 896 1152 (by norm_num) _ r y2).trans ((d6_blk m c t (by omega) r _).trans
    (col_eq m c t r _ _ y2 (by show 2560 + (896 + y2.val) = 1152 * (t.val / 8) + y2.val; omega)))

/-- What a point leaves: zero at the first tile of its chip, else what the point before left, and the tile's product. -/
theorem out_sum (t : Fin cfg0.N) : (outsAt0 m c t.val t.isLt).1 = acc m c t
    (if t.val % 8 = 0 then k0_pay1 (F := Ideal) else (outsAt0 m c (t.val - 1) (Nat.lt_of_le_of_lt (Nat.sub_le _ _) t.isLt)).1) := by
  have : t.val < 32 := t.isLt
  by_cases h0 : t.val % 8 = 0
  · rw [if_pos h0]
    obtain h | h | h | h : t.val < 8 ∨ t.val / 8 % 4 = 1 ∨ t.val / 8 % 4 = 2 ∨ 24 ≤ t.val := by omega
    · rw [outsAt0_A m c t h0 h (by omega) (by omega) (by omega) (by omega)]; frame_out
      simp (disch := decide) only [↓ View.readCov_skip, ↓ View.readCov_cons_toLoadRect, ↓ View.readCov_fill]
      exact chip0 m c t (by omega) _ [_]
    · rw [outsAt0_D m c t h0 (by omega) h (by omega) (by omega) (by omega)]; frame_out
      simp (disch := decide) only [↓ View.readCov_skip, ↓ View.readCov_cons_toLoadRect, ↓ View.readCov_fill]
      exact chip1 m c t (by omega) _ [_]
    · rw [outsAt0_G m c t h0 (by omega) (by omega) h (by omega) (by omega)]; frame_out
      simp (disch := decide) only [↓ View.readCov_skip, ↓ View.readCov_cons_toLoadRect, ↓ View.readCov_fill]
      exact chip2 m c t (by omega) _ [_]
    · rw [outsAt0_J m c t h0 (by omega) (by omega) (by omega) h (by omega)]; frame_out
      exact chip3 m c t (by omega) _
  · rw [if_neg h0]
    by_cases h5 : t.val % 8 = 7
    · obtain h | h | h | h : t.val < 8 ∨ t.val / 8 % 4 = 1 ∨ t.val / 8 % 4 = 2 ∨ 24 ≤ t.val := by omega
      · rw [outsAt0_C m c t h0 h (by omega) (by omega) (by omega) h5]; frame_out
        exact chip0 m c t (by omega) _ []
      · rw [outsAt0_F m c t h0 (by omega) h (by omega) (by omega) h5]; frame_out
        exact chip1 m c t (by omega) _ []
      · rw [outsAt0_I m c t h0 (by omega) (by omega) h (by omega) h5]; frame_out
        exact chip2 m c t (by omega) _ []
      · rw [outsAt0_L m c t h0 (by omega) (by omega) (by omega) h h5]; frame_out
        exact chip3 m c t (by omega) _
    · obtain h | h | h | h : t.val < 8 ∨ t.val / 8 % 4 = 1 ∨ t.val / 8 % 4 = 2 ∨ 24 ≤ t.val := by omega
      · rw [outsAt0_B m c t h0 h (by omega) (by omega) (by omega) h5]; frame_out
        exact chip0 m c t (by omega) _ []
      · rw [outsAt0_E m c t h0 (by omega) h (by omega) (by omega) h5]; frame_out
        exact chip1 m c t (by omega) _ []
      · rw [outsAt0_H m c t h0 (by omega) (by omega) h (by omega) h5]; frame_out
        exact chip2 m c t (by omega) _ []
      · rw [outsAt0_K m c t h0 (by omega) (by omega) (by omega) h h5]; frame_out
        exact chip3 m c t (by omega) _

/-- A load of the whole block reads what the stores left. -/
theorem load_whole (v : View sig .tc .vmem S1x1024x1152 .f32) (L : List (View.Piece (Elt Ideal) S1x1024x1152 .f32)) (inb) :
    v.readCov L (cols 0 1152 inb).toLoadRect = View.canon L := by
  rw [View.readCov_eq_canon']
  funext y
  refine congrArg (View.canon L) ?_
  show (cols 0 1152 inb).emb y = y
  idx_vars y
  blk_ext []

/-- The last tile of a chip leaves a copy of the sum as well. -/
theorem out_copy (t : Fin cfg0.N) (h5 : t.val % 8 = 7) :
    (outsAt0 m c t.val t.isLt).2 = k0_pay6 (outsAt0 m c t.val t.isLt).1 := by
  have : t.val < 32 := t.isLt
  have h0 : ¬t.val % 8 = 0 := by omega
  obtain h | h | h | h : t.val < 8 ∨ t.val / 8 % 4 = 1 ∨ t.val / 8 % 4 = 2 ∨ 24 ≤ t.val := by omega
  · rw [outsAt0_C m c t h0 h (by omega) (by omega) (by omega) h5]; frame_out
    exact congrArg k0_pay6 (load_whole _ _ _)
  · rw [outsAt0_F m c t h0 (by omega) h (by omega) (by omega) h5]; frame_out
    exact congrArg k0_pay6 (load_whole _ _ _)
  · rw [outsAt0_I m c t h0 (by omega) (by omega) h (by omega) h5]; frame_out
    exact congrArg k0_pay6 (load_whole _ _ _)
  · rw [outsAt0_L m c t h0 (by omega) (by omega) (by omega) h h5]; frame_out

end Cert.Norm.InWgrad
end
-- ==== Proof.Norm.InWgrad.lean ====
module

public import proofs.«01_k».proof.Proof.Gen.Reference5Ideal.Run
public import proofs.«01_k».proof.Proof.Norm.InWgradStep

/-!
# The gradient of the input projection's weight
-/

@[expose] public section

set_option maxRecDepth 16384

noncomputable section

open Idealize.ShloMosaic Idealize.ShloMosaic.TcCoe Idealize.SL.Sem

namespace Cert.Norm.InWgrad

open Cert.Kernel5Ideal Cert.Kernel5Ideal.Gen

variable (m : (ℓ : Loc nD τ sig) → Buf (Elt Ideal) ℓ) (c : Dev nD)

/-- The weight's gradient, as the reference has it: the product, laid out by chips. -/
abbrev grad (x : FVec Ideal S8192x1024 .f32) (d : FVec Ideal S8192x4608 .f32) : FVec Ideal S4x1024x1152 .f32 :=
  transpose Cert.Reference5Ideal.S4x1024x1152 [1, 0, 2] (shapeCast Cert.Reference5Ideal.S1024x4x1152
    (transpose Cert.Reference5Ideal.S1024x4608 [1, 0] (Host.dotGeneral (F := Ideal)
      Cert.Reference5Ideal.dot_S8192x4608_S8192x1024_S4608x1024_0_0_1_1_n_n none d x)
      Cert.Reference5Ideal.Gen.transposes_S4608x1024_S1024x4608_1_0) Cert.Reference5Ideal.Gen.shapeCasts_S1024x4608_S1024x4x1152)
    Cert.Reference5Ideal.Gen.transposes_S1024x4x1152_S4x1024x1152_1_0_2

theorem grad_apply (x : FVec Ideal S8192x1024 .f32) (d : FVec Ideal S8192x4608 .f32) (p : Fin 4) (i : Fin 1024) (k : Fin 1152) :
    grad x d (ix3 p i k) = ∑ n : Fin 8192, x (ix2 n i) * d (ix2 n ⟨1152 * p.val + k.val, by omega⟩) := by
  pointwise [grad]
  refine Finset.sum_congr rfl fun n _ => (mul_comm _ _).trans (congrArg (x (ix2 n i) * ·) ?_)
  blk_ext []

/-- At the last tile of a chip the sum runs over all rows. -/
theorem sum_last (t : Fin cfg0.N) (ht : t.val % 8 = 7) (i : Fin 1024) (k : Fin 1152) :
    (show EReal from (outsAt0 m c t.val t.isLt).1 (ix3 0 i k)) =
      ∑ n : Fin 8192, sNorm (aX m c) (aG m c) (ix2 n i) * aC m c (ix2 n (colAt t k)) := by
  refine run_tiles (N := cfg0.N) (L := 8) (R := 1024) (by norm_num)
    (fun n hn (j : Fin 1024 × Fin 1152) => (outsAt0 m c n hn).1 (ix3 0 j.1 j.2)) rowAt (fun _ _ => rfl)
    (fun t j n => sNorm (aX m c) (aG m c) (ix2 n j.1) * aC m c (ix2 n (colAt t j.2))) (fun t t' h => ?_)
    (fun t ht j => ?_) (fun t ht j => ?_) t ht (i, k)
  · simp only [colAt, h]
  · exact (congrFun ((out_sum m c t).trans (congrArg (acc m c t) (if_pos ht))) _).trans
      (congrArg (· + _) (zero_apply _ _))
  · exact congrFun ((out_sum m c t).trans (congrArg (acc m c t) (if_neg ht))) _

/-- The gradient the kernel leaves. -/
theorem arr7 : (dats m 0 c).arrAt 7 cfg0.N = grad (sNorm (aX m c) (aG m c)) (aC m c) := by
  refine (dats m 0 c).arrAt_eq_of_covers 7 _ (by decide +kernel) fun t hf y => ?_
  have : t.val < 32 := t.isLt
  blk_simp
  rw [after0_7]
  idx_vars y
  obtain rfl : y0 = 0 := Subsingleton.elim _ _
  have e : (win0_7.blk t).view.emb (ix3 0 y1 y2) = ix3 ⟨t.val / 8, by omega⟩ y1 y2 := by blk_ext [idx t]
  rw [show ((View.whole main_v21_0).slice (win0_7.rect t)).emb (ix3 0 y1 y2) = _ from e, grad_apply]
  exact sum_last m c t ((flush0_7 t).mp hf) y1 y2

/-- And its copy. -/
theorem arr8 : (dats m 0 c).arrAt 8 cfg0.N = grad (sNorm (aX m c) (aG m c)) (aC m c) := by
  refine (dats m 0 c).arrAt_eq_of_covers 8 _ (by decide +kernel) fun t hf y => ?_
  have : t.val < 32 := t.isLt
  blk_simp
  rw [after0_8, out_copy m c t ((flush0_8 t).mp hf)]
  idx_vars y
  obtain rfl : y0 = 0 := Subsingleton.elim _ _
  have e : (win0_8.blk t).view.emb (ix3 0 y1 y2) = ix3 ⟨t.val / 8, by omega⟩ y1 y2 := by blk_ext [idx t]
  rw [show ((View.whole main_v21_1).slice (win0_8.rect t)).emb (ix3 0 y1 y2) = _ from e, grad_apply]
  exact (copy_apply y1 _ y2).trans (sum_last m c t ((flush0_8 t).mp hf) y1 y2)

end Cert.Norm.InWgrad
end
-- ==== Proof.Norm.InWgradClaim.lean ====
module

public import proofs.«01_k».proof.Defs
public import proofs.«01_k».proof.Proof.Norm.InWgrad
public import Idealize.ShloMosaic.Lib.Claim
public import Idealize.ShloMosaic.Adequacy
public import Idealize.ShloMosaic.Init

/-!
# The claims on the gradient of the input projection's weight
-/

@[expose] public section

set_option maxRecDepth 16384

noncomputable section

namespace Cert.Norm.InWgrad

open Idealize.ShloMosaic Idealize.ShloMosaic.TcCoe Idealize.SL.Sem

/-- The reference runs on the host alone and has no semaphores. -/
theorem frame_reference : Cert.quiescent_Reference5Ideal := fun m g _ =>
  (θ_run _ _ _).mono (fun r h => ⟨fun c => (h c).2.2, sem_eq_zero_of_no_sems (by decide) r.2⟩)
    (Cert.Reference5Ideal.Value.run m g)

section
variable (m : (ℓ : Loc Cert.Reference5Ideal.nD Cert.Reference5Ideal.τ Cert.Reference5Ideal.sig) → Buf (Elt Ideal) ℓ)
  (c : Dev Cert.Reference5Ideal.nD)

/-- The reference's arguments, at their types. -/
abbrev rX : FVec Ideal Cert.Reference5Ideal.S8192x1024 .f32 := m ((c.tc : Thread _ Cert.Reference5Ideal.τ).loc Cert.Reference5Ideal.main_arg0)
@[inherit_doc rX] abbrev rG : FVec Ideal Cert.Reference5Ideal.S1024 .f32 := m ((c.tc : Thread _ Cert.Reference5Ideal.τ).loc Cert.Reference5Ideal.main_arg1)
@[inherit_doc rX] abbrev rC : FVec Ideal Cert.Reference5Ideal.S8192x4608 .f32 := m ((c.tc : Thread _ Cert.Reference5Ideal.τ).loc Cert.Reference5Ideal.main_arg3)

end

/-- Both runs end in the same arrays. -/
theorem algebraic : Cert.algebraic_Kernel5Ideal_Reference5Ideal := by
  intro m g m' g' _ hm
  refine ⟨_, _, Cert.Kernel5Ideal.Value.run_blocks m g,
    (θ_run _ _ _).mono (fun r h c => ?_) (Cert.Reference5Ideal.Value.run m' g')⟩
  obtain ⟨h0, h1, args⟩ := h c
  have e0 : rX m' c = aX m c := (hm c).1
  have e1 : rG m' c = aG m c := (hm c).2.1
  have e3 : rC m' c = aC m c := (hm c).2.2.2
  have eg : grad (sNorm (rX m' c) (rG m' c)) (rC m' c) = grad (sNorm (aX m c) (aG m c)) (aC m c) := by rw [e0, e1, e3]
  exact ⟨(h0.trans (show _ = grad (sNorm (rX m' c) (rG m' c)) (rC m' c) from rfl)).trans (eg.trans (arr7 m c).symm),
    (h1.trans (show _ = grad (sNorm (rX m' c) (rG m' c)) (rC m' c) from rfl)).trans (eg.trans (arr8 m c).symm), args⟩

end Cert.Norm.InWgrad
end
-- ==== Proof.Fwd.InProj.lean ====
module

public import proofs.«01_k».proof.Proof.Gen.Kernel6Ideal.Value
public import proofs.«01_k».proof.Proof.Gen.Reference6Ideal.Run
public import proofs.«01_k».proof.Proof.Norm.Reference
public import Idealize.ShloMosaic.Lib.Pipeline.ValueKit
public import Idealize.ShloMosaic.Lib.Pipeline.ReadBack

/-!
# The input projection

A point multiplies 2048 normalised rows by one chip's quarter of the weight's columns.
-/

@[expose] public section

set_option maxRecDepth 16384

noncomputable section

open Idealize.ShloMosaic Idealize.ShloMosaic.TcCoe Idealize.SL.Sem

namespace Cert.Fwd.InProj

open Cert.Kernel6Ideal Cert.Kernel6Ideal.Gen Cert.Norm

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aW : FVec Ideal S1024x4608 .f32 := m ((c : Thread nD τ).loc main_arg2)

/-- `main_v13`: the normalised rows with their gain. -/
theorem V_n : V m c main_v13 = sNorm (aX m c) (aG m c) := by
  simp only [V, hostOps0]
  entry_read
  rfl

/-- `main_v16`: the weight, laid out by chips. -/
theorem V_w : V m c main_v16 = truncf .bf16 (transpose S4x1024x1152 [1, 0, 2]
    (shapeCast S1024x4x1152 (aW m c) shapeCasts_S1024x4608_S1024x4x1152) transposes_S1024x4x1152_S4x1024x1152_1_0_2)
    bitsLt_bf16_f32 := by
  simp only [V, hostOps0]
  entry_read
  rfl

/-- The block each window reads or writes at a point. -/
theorem idx : ∀ t : Fin cfg0.N, win0_0.index t = ![t.val / 4, 0] ∧ win0_1.index t = ![t.val % 4, 0, 0] ∧
    win0_2.index t = ![t.val / 4, t.val % 4] :=
  (by decide +kernel : ∀ t : Fin grid0.N, _)

/-- The array's row at row `r` of a point's tile, and its column at column `k` of a point's quarter. -/
def rowAt (t : Fin cfg0.N) (r : Fin 2048) : Fin 8192 :=
  ⟨t.val / 4 * 2048 + r.val, by have : t.val < 16 := t.isLt; omega⟩
@[inherit_doc rowAt] def colAt (t : Fin cfg0.N) (k : Fin 1152) : Fin 4608 := ⟨1152 * (t.val % 4) + k.val, by omega⟩

/-- The normalised rows. -/
theorem n_blk (t : Fin cfg0.N) (r : Fin 2048) (j : Fin 1024) :
    (show EReal from iblk m c 0 t (ix2 r j)) = sNorm (aX m c) (aG m c) (ix2 (rowAt t r) j) := by
  have : t.val < 16 := t.isLt
  blk_simp [iblk, idx t]
  have e : (win0_0.blk t).view.emb (ix2 r j) = ix2 (rowAt t r) j := by blk_ext [idx t, rowAt]
  rw [V_n, e]

/-- The weight. -/
theorem w_blk (t : Fin cfg0.N) (j : Fin 1024) (k : Fin 1152) :
    (show EReal from iblk m c 1 t (ix3 0 j k)) = aW m c (ix2 j (colAt t k)) := by
  have : t.val < 16 := t.isLt
  blk_simp [iblk, idx t]
  have e : (win0_1.blk t).view.emb (ix3 0 j k) = ix3 ⟨t.val % 4, by omega⟩ j k := by blk_ext [idx t]
  rw [V_w, e]
  pointwise
  blk_ext [colAt]

theorem pay_apply (a : FVec Ideal S2048x1024 .bf16) (b : FVec Ideal S1x1024x1152 .bf16) (r : Fin 2048) (k : Fin 1152) :
    (show EReal from k0_pay1 (F := Ideal) a b (ix2 r k)) = ∑ j : Fin 1024, a (ix2 r j) * b (ix3 0 j k) := by
  pointwise [k0_pay1]

/-- What a point leaves. -/
theorem out_eq (t : Fin cfg0.N) : (dats m 0 c).after 2 t = k0_pay1 (iblk m c 0 t) (iblk m c 1 t) := by
  rw [after0_2]
  frame_out

/-- The projection, as the reference has it. -/
abbrev proj (x : FVec Ideal S8192x1024 .f32) (w : FVec Ideal S1024x4608 .f32) : FVec Ideal S8192x4608 .f32 :=
  Host.dotGeneral (F := Ideal) Cert.Reference6Ideal.dot_S8192x1024_S1024x4608_S8192x4608_1_0_0_1_n_n none x w

theorem proj_apply (x : FVec Ideal S8192x1024 .f32) (w : FVec Ideal S1024x4608 .f32) (n : Fin 8192) (k : Fin 4608) :
    proj x w (ix2 n k) = ∑ j : Fin 1024, x (ix2 n j) * w (ix2 j k) := by
  pointwise [proj]

/-- The array the kernel leaves. -/
theorem arr2 : (dats m 0 c).arrAt 2 cfg0.N = proj (sNorm (aX m c) (aG m c)) (aW m c) := by
  refine (dats m 0 c).arrAt_eq_of_covers 2 _ (by decide +kernel) fun t hf y => ?_
  have : t.val < 16 := t.isLt
  blk_simp
  rw [out_eq]
  idx_vars y
  have e : (win0_2.blk t).view.emb (ix2 y0 y1) = ix2 (rowAt t y0) (colAt t y1) := by blk_ext [idx t, rowAt, colAt]
  rw [show ((View.whole main_v17).slice (win0_2.rect t)).emb (ix2 y0 y1) = _ from e, proj_apply]
  exact (pay_apply _ _ y0 y1).trans (Finset.sum_congr rfl fun j _ =>
    congrArg₂ (· * · : EReal → EReal → EReal) (n_blk m c t y0 j) (w_blk m c t j y1))

end Cert.Fwd.InProj
end
-- ==== Proof.Fwd.InProjClaim.lean ====
module

public import proofs.«01_k».proof.Defs
public import proofs.«01_k».proof.Proof.Fwd.InProj
public import Idealize.ShloMosaic.Lib.Claim
public import Idealize.ShloMosaic.Adequacy
public import Idealize.ShloMosaic.Init

/-!
# The claims on the input projection
-/

@[expose] public section

set_option maxRecDepth 16384

noncomputable section

namespace Cert.Fwd.InProj

open Idealize.ShloMosaic Idealize.ShloMosaic.TcCoe Idealize.SL.Sem Cert.Norm

/-- The reference runs on the host alone and has no semaphores. -/
theorem frame_reference : Cert.quiescent_Reference6Ideal := fun m g _ =>
  (θ_run _ _ _).mono (fun r h => ⟨fun c => (h c).2, sem_eq_zero_of_no_sems (by decide) r.2⟩)
    (Cert.Reference6Ideal.Value.run m g)

section
variable (m : (ℓ : Loc Cert.Reference6Ideal.nD Cert.Reference6Ideal.τ Cert.Reference6Ideal.sig) → Buf (Elt Ideal) ℓ)
  (c : Dev Cert.Reference6Ideal.nD)

/-- The reference's arguments, at their types. -/
abbrev rX : FVec Ideal Cert.Reference6Ideal.S8192x1024 .f32 := m ((c.tc : Thread _ Cert.Reference6Ideal.τ).loc Cert.Reference6Ideal.main_arg0)
@[inherit_doc rX] abbrev rG : FVec Ideal Cert.Reference6Ideal.S1024 .f32 := m ((c.tc : Thread _ Cert.Reference6Ideal.τ).loc Cert.Reference6Ideal.main_arg1)
@[inherit_doc rX] abbrev rW : FVec Ideal Cert.Reference6Ideal.S1024x4608 .f32 := m ((c.tc : Thread _ Cert.Reference6Ideal.τ).loc Cert.Reference6Ideal.main_arg2)

end

/-- Both runs end in the same array. -/
theorem algebraic : Cert.algebraic_Kernel6Ideal_Reference6Ideal := by
  intro m g m' g' _ hm
  refine ⟨_, Cert.Kernel6Ideal.Value.run_blocks m g,
    (θ_run _ _ _).mono (fun r h c => ?_) (Cert.Reference6Ideal.Value.run m' g')⟩
  obtain ⟨h0, args⟩ := h c
  have e0 : rX m' c = aX m c := (hm c).1
  have e1 : rG m' c = aG m c := (hm c).2.1
  have e2 : rW m' c = aW m c := (hm c).2.2
  have e : proj (sNorm (rX m' c) (rG m' c)) (rW m' c) = proj (sNorm (aX m c) (aG m c)) (aW m c) := by rw [e0, e1, e2]
  exact ⟨(h0.trans (show _ = proj (sNorm (rX m' c) (rG m' c)) (rW m' c) from rfl)).trans (e.trans (arr2 m c).symm), args⟩

end Cert.Fwd.InProj
end
-- ==== Proof.Fwd.Down.lean ====
module

public import proofs.«01_k».proof.Proof.Gen.Kernel7Ideal.Value
public import proofs.«01_k».proof.Proof.Gen.Reference7Ideal.Run
public import proofs.«01_k».proof.Proof.Norm.Reference
public import Idealize.ShloMosaic.Lib.Pipeline.ValueKit
public import Idealize.ShloMosaic.Lib.Pipeline.ReadBack

/-!
# The down projection

A point adds to 1024 rows of the stream the product of their activations with the whole weight, and normalises the rows
it gets.
-/

@[expose] public section

set_option maxRecDepth 16384

noncomputable section

open Idealize.ShloMosaic Idealize.ShloMosaic.TcCoe Idealize.SL.Sem

namespace Cert.Fwd.Down

open Cert.Kernel7Ideal Cert.Kernel7Ideal.Gen Cert.Norm

variable (m : (ℓ : Loc nD τ sig) → Buf (Elt Ideal) ℓ) (c : Dev nD)

/-- The arguments, at their types. -/
abbrev aA : FVec Ideal S8192x2816 .f32 := m ((c : Thread nD τ).loc main_arg0)
@[inherit_doc aA] abbrev aW : FVec Ideal S2816x1024 .f32 := m ((c : Thread nD τ).loc main_arg1)
@[inherit_doc aA] abbrev aX : FVec Ideal S8192x1024 .f32 := m ((c : Thread nD τ).loc main_arg2)
@[inherit_doc aA] abbrev aG : FVec Ideal S1024 .f32 := m ((c : Thread nD τ).loc main_arg3)

/-- `main_v0`: the activations. -/
theorem V_a : V m c main_v0 = truncf .bf16 (aA m c) bitsLt_bf16_f32 := by
  simp only [V, hostOps0]
  entry_read
  rfl

/-- `main_v2`: the weight, laid out by chips. -/
theorem V_w : V m c main_v2 = truncf .bf16 (shapeCast S4x704x1024 (aW m c) shapeCasts_S2816x1024_S4x704x1024)
    bitsLt_bf16_f32 := by
  simp only [V, hostOps0]
  entry_read
  rfl

/-- `main_v3`: the gain. -/
theorem V_g : V m c main_v3 = shapeCast S1x1024 (aG m c) shapeCasts_S1024_S1x1024 := by
  simp only [V, hostOps0]
  entry_read
  rfl

/-- The block each window reads or writes at a point. -/
theorem idx : ∀ t : Fin cfg0.N, win0_0.index t = ![t.val, 0] ∧ win0_1.index t = ![0, 0, 0] ∧
    win0_2.index t = ![t.val, 0] ∧ win0_3.index t = ![0, 0] ∧ win0_4.index t = ![t.val, 0] ∧ win0_5.index t = ![t.val, 0] :=
  (by decide +kernel : ∀ t : Fin grid0.N, _)

/-- The array's row at row `r` of a point's tile. -/
def rowAt (t : Fin cfg0.N) (r : Fin 1024) : Fin 8192 := ⟨t.val * 1024 + r.val, by have : t.val < 8 := t.isLt; omega⟩

/-- The activations. -/
theorem a_blk (t : Fin cfg0.N) (r : Fin 1024) (k : Fin 2816) :
    (show EReal from iblk m c 0 t (ix2 r k)) = aA m c (ix2 (rowAt t r) k) := by
  have : t.val < 8 := t.isLt
  blk_simp [iblk, idx t]
  have e : (win0_0.blk t).view.emb (ix2 r k) = ix2 (rowAt t r) k := by blk_ext [idx t, rowAt]
  rw [V_a, e]
  rfl

/-- The weight. -/
theorem w_blk (t : Fin cfg0.N) (p : Fin 4) (k : Fin 704) (j : Fin 1024) :
    (show EReal from iblk m c 1 t (ix3 p k j)) = aW m c (ix2 ⟨704 * p.val + k.val, by omega⟩ j) := by
  blk_simp [iblk, idx t]
  have e : (win0_1.blk t).view.emb (ix3 p k j) = ix3 p k j := by blk_ext [idx t]
  rw [V_w, e]
  pointwise
  blk_ext []

/-- The rows of the stream. -/
theorem x_blk (t : Fin cfg0.N) (r : Fin 1024) (j : Fin 1024) :
    (show EReal from iblk m c 2 t (ix2 r j)) = aX m c (ix2 (rowAt t r) j) := by
  have : t.val < 8 := t.isLt
  blk_simp [iblk, idx t]
  have e : (win0_2.blk t).view.emb (ix2 r j) = ix2 (rowAt t r) j := by blk_ext [idx t, rowAt]
  rw [V_main_arg2, e]

/-- The gain. -/
theorem g_blk (t : Fin cfg0.N) (j : Fin 1024) : (show EReal from iblk m c 3 t (ix2 0 j)) = aG m c (ix1 j) := by
  blk_simp [iblk, idx t]
  have e : (win0_3.blk t).view.emb (ix2 0 j) = ix2 0 j := by blk_ext [idx t]
  rw [V_g, e]
  pointwise

/-- The stream after the projection, as the reference has it. -/
abbrev outX (a : FVec Ideal S8192x2816 .f32) (w : FVec Ideal S2816x1024 .f32) (x : FVec Ideal S8192x1024 .f32) :
    FVec Ideal S8192x1024 .f32 :=
  addf x (Host.dotGeneral (F := Ideal) Cert.Reference7Ideal.dot_S8192x2816_S2816x1024_S8192x1024_1_0_0_1_n_n none a w)

theorem outX_apply (a : FVec Ideal S8192x2816 .f32) (w : FVec Ideal S2816x1024 .f32) (x : FVec Ideal S8192x1024 .f32)
    (n : Fin 8192) (j : Fin 1024) : outX a w x (ix2 n j) = x (ix2 n j) + ∑ k : Fin 2816, a (ix2 n k) * w (ix2 k j) := by
  pointwise [outX]

theorem pay1_apply (x : FVec Ideal S1024x1024 .f32) (a : FVec Ideal S1024x2816 .bf16) (w : FVec Ideal S4x704x1024 .bf16)
    (r j : Fin 1024) : (show EReal from k0_pay1 (F := Ideal) x a w (ix2 r j)) = x (ix2 r j) + ∑ k : Fin 2816,
      a (ix2 r k) * w (ix3 ⟨k.val / 704, by omega⟩ ⟨k.val % 704, by omega⟩ j) := by
  pointwise [k0_pay1]

theorem pay2_apply (x : FVec Ideal S1024x1024 .f32) (a : FVec Ideal S1024x2816 .bf16) (w : FVec Ideal S4x704x1024 .bf16)
    (g : FVec Ideal S1x1024 .f32) (r j : Fin 1024) : (show EReal from k0_pay2 (F := Ideal) x a w g (ix2 r j)) =
      hat (rowOf (k0_pay1 (F := Ideal) x a w) r) j * g (ix2 0 j) := by
  pointwise [k0_pay2]
  rfl

/-- A point's rows after the projection. -/
abbrev tile (t : Fin cfg0.N) : FVec Ideal S1024x1024 .f32 := k0_pay1 (iblk m c 2 t) (iblk m c 0 t) (iblk m c 1 t)

theorem tile_apply (t : Fin cfg0.N) (r j : Fin 1024) :
    tile m c t (ix2 r j) = outX (aA m c) (aW m c) (aX m c) (ix2 (rowAt t r) j) := by
  rw [outX_apply]
  refine (pay1_apply _ _ _ r j).trans (congrArg₂ (· + · : EReal → EReal → EReal) (x_blk m c t r j)
    (Finset.sum_congr rfl fun k _ => congrArg₂ (· * · : EReal → EReal → EReal) (a_blk m c t r k)
      ((w_blk m c t _ _ j).trans (congrArg (aW m c) ?_))))
  blk_ext []

theorem tile_row (t : Fin cfg0.N) (r : Fin 1024) :
    rowOf (tile m c t) r = rowOf (outX (aA m c) (aW m c) (aX m c)) (rowAt t r) :=
  funext fun j => tile_apply m c t r j

/-- What a point leaves. -/
theorem out4_eq (t : Fin cfg0.N) : (dats m 0 c).after 4 t = tile m c t := by
  rw [after0_4]
  frame_out

@[inherit_doc out4_eq]
theorem out5_eq (t : Fin cfg0.N) :
    (dats m 0 c).after 5 t = k0_pay2 (iblk m c 2 t) (iblk m c 0 t) (iblk m c 1 t) (iblk m c 3 t) := by
  rw [after0_5]
  frame_out

/-- The stream the kernel leaves. -/
theorem arr4 : (dats m 0 c).arrAt 4 cfg0.N = outX (aA m c) (aW m c) (aX m c) := by
  refine (dats m 0 c).arrAt_eq_of_covers 4 _ (by decide +kernel) fun t hf y => ?_
  have : t.val < 8 := t.isLt
  blk_simp
  rw [out4_eq]
  idx_vars y
  have e : (win0_4.blk t).view.emb (ix2 y0 y1) = ix2 (rowAt t y0) y1 := by blk_ext [idx t, rowAt]
  rw [show ((View.whole main_v4_0).slice (win0_4.rect t)).emb (ix2 y0 y1) = _ from e]
  exact tile_apply m c t y0 y1

/-- The stream normalised. -/
abbrev outN (x : FVec Ideal S8192x1024 .f32) (g : FVec Ideal S1024 .f32) : FVec Ideal S8192x1024 .bf16 :=
  truncf .bf16 (sNorm x g) bitsLt_bf16_f32

theorem outN_apply (x : FVec Ideal S8192x1024 .f32) (g : FVec Ideal S1024 .f32) (n : Fin 8192) (j : Fin 1024) :
    (show EReal from outN x g (ix2 n j)) = hat (rowOf x n) j * g (ix1 j) := sNorm_apply x g n j

/-- The normalised stream the kernel leaves. -/
theorem arr5 : (dats m 0 c).arrAt 5 cfg0.N = outN (outX (aA m c) (aW m c) (aX m c)) (aG m c) := by
  refine (dats m 0 c).arrAt_eq_of_covers 5 _ (by decide +kernel) fun t hf y => ?_
  have : t.val < 8 := t.isLt
  blk_simp
  rw [out5_eq]
  idx_vars y
  have e : (win0_5.blk t).view.emb (ix2 y0 y1) = ix2 (rowAt t y0) y1 := by blk_ext [idx t, rowAt]
  rw [show ((View.whole main_v4_1).slice (win0_5.rect t)).emb (ix2 y0 y1) = _ from e]
  exact (pay2_apply _ _ _ _ y0 y1).trans ((congrArg₂ (· * · : EReal → EReal → EReal)
    (congrArg (hat · y1) (tile_row m c t y0)) (g_blk m c t y1)).trans (outN_apply _ _ _ _).symm)

end Cert.Fwd.Down
end
-- ==== Proof.Fwd.DownClaim.lean ====
module

public import proofs.«01_k».proof.Defs
public import proofs.«01_k».proof.Proof.Fwd.Down
public import Idealize.ShloMosaic.Lib.Claim
public import Idealize.ShloMosaic.Adequacy
public import Idealize.ShloMosaic.Init

/-!
# The claims on the down projection
-/

@[expose] public section

set_option maxRecDepth 16384

noncomputable section

namespace Cert.Fwd.Down

open Idealize.ShloMosaic Idealize.ShloMosaic.TcCoe Idealize.SL.Sem Cert.Norm

/-- The reference runs on the host alone and has no semaphores. -/
theorem frame_reference : Cert.quiescent_Reference7Ideal := fun m g _ =>
  (θ_run _ _ _).mono (fun r h => ⟨fun c => (h c).2.2, sem_eq_zero_of_no_sems (by decide) r.2⟩)
    (Cert.Reference7Ideal.Value.run m g)

section
variable (m : (ℓ : Loc Cert.Reference7Ideal.nD Cert.Reference7Ideal.τ Cert.Reference7Ideal.sig) → Buf (Elt Ideal) ℓ)
  (c : Dev Cert.Reference7Ideal.nD)

/-- The reference's arguments, at their types. -/
abbrev rA : FVec Ideal Cert.Reference7Ideal.S8192x2816 .f32 := m ((c.tc : Thread _ Cert.Reference7Ideal.τ).loc Cert.Reference7Ideal.main_arg0)
@[inherit_doc rA] abbrev rW : FVec Ideal Cert.Reference7Ideal.S2816x1024 .f32 := m ((c.tc : Thread _ Cert.Reference7Ideal.τ).loc Cert.Reference7Ideal.main_arg1)
@[inherit_doc rA] abbrev rX : FVec Ideal Cert.Reference7Ideal.S8192x1024 .f32 := m ((c.tc : Thread _ Cert.Reference7Ideal.τ).loc Cert.Reference7Ideal.main_arg2)
@[inherit_doc rA] abbrev rG : FVec Ideal Cert.Reference7Ideal.S1024 .f32 := m ((c.tc : Thread _ Cert.Reference7Ideal.τ).loc Cert.Reference7Ideal.main_arg3)

end

/-- Both runs end in the same arrays. -/
theorem algebraic : Cert.algebraic_Kernel7Ideal_Reference7Ideal := by
  intro m g m' g' _ hm
  refine ⟨_, _, Cert.Kernel7Ideal.Value.run_blocks m g,
    (θ_run _ _ _).mono (fun r h c => ?_) (Cert.Reference7Ideal.Value.run m' g')⟩
  obtain ⟨h0, h1, args⟩ := h c
  have e0 : rA m' c = aA m c := (hm c).1
  have e1 : rW m' c = aW m c := (hm c).2.1
  have e2 : rX m' c = aX m c := (hm c).2.2.1
  have e3 : rG m' c = aG m c := (hm c).2.2.2
  have ex : outX (rA m' c) (rW m' c) (rX m' c) = outX (aA m c) (aW m c) (aX m c) := by rw [e0, e1, e2]
  have en : outN (outX (rA m' c) (rW m' c) (rX m' c)) (rG m' c) = outN (outX (aA m c) (aW m c) (aX m c)) (aG m c) := by
    rw [ex, e3]
  exact ⟨(h0.trans (show _ = outX (rA m' c) (rW m' c) (rX m' c) from rfl)).trans (ex.trans (arr4 m c).symm),
    (h1.trans (show _ = outN (outX (rA m' c) (rW m' c) (rX m' c)) (rG m' c) from rfl)).trans (en.trans (arr5 m c).symm), args⟩

end Cert.Fwd.Down
end
-- ==== Proof.Fwd.UpConvRun.lean ====
module

public import proofs.«01_k».proof.Proof.Gen.Kernel8Ideal.Frame
public import proofs.«01_k».proof.Proof.Gen.Kernel8Ideal.Skeleton
public import Idealize.ShloMosaic.Lib.Pipeline.ValueKit
public import Idealize.ShloMosaic.Lib.Pipeline.ReadBack

/-!
# One grid point of the up-projection kernel with its convolution

What the body leaves in its five output blocks and in the two strips it carries to the next point, as functions of its
input blocks and of the strips it finds; and the triple saying so.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Kernel8Ideal.Body

open Cert.Kernel8Ideal Cert.Kernel8Ideal.Gen

variable {F : FTy → Type} [FloatOps F]

/-- The resources of the machine the kernel runs on. -/
abbrev Res (F : FTy → Type) : Type := MT nD τ sig Unit (Elt F) ℕ (UR sig nD τ) ℕ

omit [FloatOps F] in
/-- A store of a whole block is read back. -/
theorem read_store {s : Shape} {e : EltTy} (v : View sig .tc .vmem s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w := by
  subst h; exact View.read_writes_whole v f w

section values

variable (i : grid0.Coords) (x : Vec F S512x1024 .bf16) (wv wg : Vec F S1x1024x1408 .bf16) (kv kg : Vec F S3x1408 .f32)
  (bv bg : Vec F S1x1408 .f32) (sv sg : Vec F S8x1408 .f32)

/-- The value half after its convolution. -/
def val : FVec F S512x1408 .f32 :=
  k0_pay14 (k0_pay5 x wv) kv (k0_pay9 i x wv sv kv) (k0_pay10 kv) (k0_pay11 i x wv sv) k0_pay12 k0_pay13 bv

/-- The gate half after its convolution. -/
def gate : FVec F S512x1408 .bf16 :=
  k0_pay2 (k0_pay15 (k0_pay4 x) wg) (k0_pay17 (BitVec.ofNat 32 (i 1).val) (k0_pay4 x) wg sg) kg (k0_pay19 kg) k0_pay21
    (k0_pay22 (BitVec.ofNat 32 (i 1).val) (k0_pay4 x) wg sg) (k0_pay23 (BitVec.ofNat 32 (i 1).val) (k0_pay4 x) wg sg) bg

/-- The gated product. -/
def act : FVec F S512x1408 .bf16 :=
  k0_pay3 (val i x wv kv bv sv) (k0_pay15 (k0_pay4 x) wg) (k0_pay17 (BitVec.ofNat 32 (i 1).val) (k0_pay4 x) wg sg) kg (k0_pay19 kg) k0_pay21
    (k0_pay22 (BitVec.ofNat 32 (i 1).val) (k0_pay4 x) wg sg) (k0_pay23 (BitVec.ofNat 32 (i 1).val) (k0_pay4 x) wg sg) bg

end values

set_option maxHeartbeats 2000000 in
/-- The body from its blocks and the two strips it finds: the blocks stay, the outputs hold the functions above, the strips are
    the last rows of the two products. -/
theorem run (c : Dev nD) (i : grid0.Coords) (arg2 : Memref sig .tc .vmem S512x1024 .bf16) (harg2 : arg2.IsWhole)
    (arg3 : Memref sig .tc .vmem S1x1024x1408 .bf16) (harg3 : arg3.IsWhole) (arg4 : Memref sig .tc .vmem S1x1024x1408 .bf16) (harg4 : arg4.IsWhole)
    (arg5 : Memref sig .tc .vmem S3x1408 .f32) (harg5 : arg5.IsWhole) (arg6 : Memref sig .tc .vmem S3x1408 .f32) (harg6 : arg6.IsWhole)
    (arg7 : Memref sig .tc .vmem S1x1408 .f32) (harg7 : arg7.IsWhole) (arg8 : Memref sig .tc .vmem S1x1408 .f32) (harg8 : arg8.IsWhole)
    (arg9 : Memref sig .tc .vmem S512x1408 .bf16) (harg9 : arg9.IsWhole) (arg10 : Memref sig .tc .vmem S512x1408 .bf16) (harg10 : arg10.IsWhole)
    (arg11 : Memref sig .tc .vmem S512x1408 .bf16) (harg11 : arg11.IsWhole) (arg12 : Memref sig .tc .vmem S512x1408 .bf16) (harg12 : arg12.IsWhole)
    (arg13 : Memref sig .tc .vmem S512x1408 .bf16) (harg13 : arg13.IsWhole) (arg14 : Memref sig .tc .vmem S8x1408 .f32) (harg14 : arg14.IsWhole)
    (arg15 : Memref sig .tc .vmem S8x1408 .f32) (harg15 : arg15.IsWhole)
    (x : Vec F S512x1024 .bf16) (wv wg : Vec F S1x1024x1408 .bf16) (kv kg : Vec F S3x1408 .f32) (bv bg : Vec F S1x1408 .f32)
    (sv sg : Vec F S8x1408 .f32) (E : Set ℕ) (K : PUnit → sProp (Res F)) :
    iprop(owns (c : Thread nD τ) arg2 fullShare x ∗ owns (c : Thread nD τ) arg3 fullShare wv ∗ owns (c : Thread nD τ) arg4 fullShare wg
        ∗ owns (c : Thread nD τ) arg5 fullShare kv ∗ owns (c : Thread nD τ) arg6 fullShare kg ∗ owns (c : Thread nD τ) arg7 fullShare bv
        ∗ owns (c : Thread nD τ) arg8 fullShare bg ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d) ∗ (∃ d, owns (c : Thread nD τ) arg13 fullShare d)
        ∗ owns (c : Thread nD τ) arg14 fullShare sv ∗ owns (c : Thread nD τ) arg15 fullShare sg
        ∗ (iprop(owns (c : Thread nD τ) arg2 fullShare x ∗ owns (c : Thread nD τ) arg3 fullShare wv ∗ owns (c : Thread nD τ) arg4 fullShare wg
            ∗ owns (c : Thread nD τ) arg5 fullShare kv ∗ owns (c : Thread nD τ) arg6 fullShare kg ∗ owns (c : Thread nD τ) arg7 fullShare bv
            ∗ owns (c : Thread nD τ) arg8 fullShare bg ∗ owns (c : Thread nD τ) arg9 fullShare (k0_pay6 x wv)
            ∗ owns (c : Thread nD τ) arg10 fullShare (k0_pay16 (k0_pay4 x) wg) ∗ owns (c : Thread nD τ) arg11 fullShare (k0_pay1 (val i x wv kv bv sv))
            ∗ owns (c : Thread nD τ) arg12 fullShare (gate i x wg kg bg sg) ∗ owns (c : Thread nD τ) arg13 fullShare (act i x wv wg kv kg bv bg sv sg)
            ∗ owns (c : Thread nD τ) arg14 fullShare (k0_pay8 x wv) ∗ owns (c : Thread nD τ) arg15 fullShare (k0_pay18 (k0_pay4 x) wg)) -∗ K ⟨⟩))
      ⊢ wp frame (wpE (defs₀ (F := F)) Variants.none c none) E
          (cc0_up_conv i arg2 harg2 arg3 harg3 arg4 harg4 arg5 harg5 arg6 harg6 arg7 harg7 arg8 harg8 arg9 harg9 arg10 harg10 arg11 harg11
            arg12 harg12 arg13 harg13 arg14 harg14 arg15 harg15) K := by
  simp only [cc0_up_conv_eq_skeleton]; unfold cc0_up_conv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  obtain rfl := harg14.eq_unread hfs0; obtain rfl := harg15.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (read_store _ _ (by decide) _ _).trans ?_; frame_out
  isplitl [H8]
  · iexists _; isplitr
    swap; · iexact H8
    ipureintro
    refine (read_store _ _ (by decide) _ _).trans ?_; frame_out
  isplitl [H9]
  · iexists _; isplitr
    swap; · iexact H9
    ipureintro
    refine (read_store _ _ (by decide) _ _).trans ?_; frame_out; rfl
  isplitl [H10]
  · iexists _; isplitr
    swap; · iexact H10
    ipureintro
    refine (read_store _ _ (by decide) _ _).trans ?_; frame_out; rfl
  isplitl [H11]
  · iexists _; isplitr
    swap; · iexact H11
    ipureintro
    refine (read_store _ _ (by decide) _ _).trans ?_; frame_out; rfl
  isplitl [HS0]
  · iexists _; isplitr
    swap; · iexact HS0
    ipureintro
    refine (read_store _ _ (by decide) _ _).trans ?_; frame_out
  iexists _; isplitr
  swap; · iexact HS1
  ipureintro
  refine (read_store _ _ (by decide) _ _).trans ?_; frame_out

end Cert.Kernel8Ideal.Body
end
-- ==== Proof.Fwd.UpConvFrame.lean ====
module

public import proofs.«01_k».proof.Proof.Fwd.UpConvRun

/-!
# The frame of the up-projection kernel with its convolution

The two strips carried from one grid point to the next hold the last rows of the products of the point before. At the very
first point they hold anything: the body replaces them with zeros wherever the row tile is the first one, so what it leaves
does not depend on them there.
-/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel8Ideal.Body

open Cert.Kernel8Ideal Cert.Kernel8Ideal.Gen

variable {F : FTy → Type} [FloatOps F]

section first

variable (i : grid0.Coords) (h : (i 1).val = 0) (x : Vec F S512x1024 .bf16) (wv wg : Vec F S1x1024x1408 .bf16) (kv kg : Vec F S3x1408 .f32)
  (bv bg : Vec F S1x1408 .f32) (sv sg sv' sg' : Vec F S8x1408 .f32)

include h

/-- In the first row tile the rows before it are zeros, whatever the strip holds. -/
theorem rows_first : k0_pay7 i x wv sv = k0_pay7 i x wv sv' := by
  unfold k0_pay7; rw [h]; rfl

/-- The same of the gate half's rows. -/
theorem rows_first_gate (y : FVec F S512x1024 .bf16) :
    k0_pay17 (BitVec.ofNat 32 (i 1).val) y wg sg = k0_pay17 (BitVec.ofNat 32 (i 1).val) y wg sg' := by
  unfold k0_pay17; rw [h]; rfl

theorem val_first : val i x wv kv bv sv = val i x wv kv bv sv' := by
  unfold val k0_pay9 k0_pay11; rw [rows_first i h x wv sv sv']

theorem gate_first : gate i x wg kg bg sg = gate i x wg kg bg sg' := by
  unfold gate k0_pay22 k0_pay23 k0_pay20; rw [rows_first_gate i h wg sg sg']

theorem act_first : act i x wv wg kv kg bv bg sv sg = act i x wv wg kv kg bv bg sv' sg' := by
  unfold act k0_pay22 k0_pay23 k0_pay20; rw [rows_first_gate i h wg sg sg', val_first i h x wv kv bv sv sv']

end first

variable (m : (ℓ : Loc nD τ sig) → Buf (Elt F) ℓ) (ρ : Dev nD → PrngReg)

/-- The grid point before `t` (the first point itself where there is none). -/
def prev (t : Fin cfg0.N) : Fin cfg0.N := ⟨t.val - 1, Nat.lt_of_le_of_lt (Nat.sub_le _ _) t.isLt⟩

/-- The strip a point leaves of the value half. -/
def stripV (c : Dev nD) (t : Fin cfg0.N) : Vec F S8x1408 .f32 := k0_pay8 (iblk m c 0 t) (iblk m c 1 t)

/-- The strip a point leaves of the gate half. -/
def stripG (c : Dev nD) (t : Fin cfg0.N) : Vec F S8x1408 .f32 := k0_pay18 (k0_pay4 (iblk m c 0 t)) (iblk m c 2 t)

/-- What a point leaves in the value half's block. -/
def valT (c : Dev nD) (t : Fin cfg0.N) : Vec F S512x1408 .f32 :=
  val (grid0.coords t) (iblk m c 0 t) (iblk m c 1 t) (iblk m c 3 t) (iblk m c 5 t) (stripV m c (prev t))

/-- What a point leaves in the gate half's block. -/
def gateT (c : Dev nD) (t : Fin cfg0.N) : Vec F S512x1408 .bf16 :=
  gate (grid0.coords t) (iblk m c 0 t) (iblk m c 2 t) (iblk m c 4 t) (iblk m c 6 t) (stripG m c (prev t))

/-- What a point leaves in the gated product's block. -/
def actT (c : Dev nD) (t : Fin cfg0.N) : Vec F S512x1408 .bf16 :=
  act (grid0.coords t) (iblk m c 0 t) (iblk m c 1 t) (iblk m c 2 t) (iblk m c 3 t) (iblk m c 4 t) (iblk m c 5 t) (iblk m c 6 t)
    (stripV m c (prev t)) (stripG m c (prev t))

/-- The strips `sv` and `sg` are what the point before point `n` left, if there is one. -/
def carried (c : Dev nD) (n : ℕ) (sv sg : Vec F S8x1408 .f32) : Prop :=
  ∀ t : Fin cfg0.N, n = t.val + 1 → sv = stripV m c t ∧ sg = stripG m c t

/-- Between two points the scratch holds carried strips. -/
def Phi (c : Dev nD) (n : ℕ) : sProp (Res F) :=
  iprop(∃ sv, ∃ sg, ⌜carried m c n sv sg⌝ ∗ iprop(owns (c : Thread nD τ) (Memref.whole cc0_scratch0) fullShare sv ∗ owns (c : Thread nD τ) (Memref.whole cc0_scratch1) fullShare sg)
    ∗ (∃ r, prngReg c r))

/-- What holds between the points of the one pipeline: the arrays as the region finds them, each input's buffer its block, each
    output's what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay6 (iblk m c 0 t) (iblk m c 1 t)
    | ⟨8, _⟩ => k0_pay16 (k0_pay4 (iblk m c 0 t)) (iblk m c 2 t)
    | ⟨9, _⟩ => k0_pay1 (valT m c t)
    | ⟨10, _⟩ => gateT m c t
    | ⟨11, _⟩ => actT m c t
    | ⟨_ + 12, h⟩ => absurd h (Nat.not_lt.2 (Nat.le_add_left _ _))
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay6 (iblk m c 0 t) (iblk m c 1 t) := by dsimp only [dats]
theorem after_8 (c : Dev nD) (t : Fin cfg0.N) : (dats m 0 c).after 8 t = k0_pay16 (k0_pay4 (iblk m c 0 t)) (iblk m c 2 t) := by dsimp only [dats]
theorem after_9 (c : Dev nD) (t : Fin cfg0.N) : (dats m 0 c).after 9 t = k0_pay1 (valT m c t) := by dsimp only [dats]
theorem after_10 (c : Dev nD) (t : Fin cfg0.N) : (dats m 0 c).after 10 t = gateT m c t := by dsimp only [dats]
theorem after_11 (c : Dev nD) (t : Fin cfg0.N) : (dats m 0 c).after 11 t = actT m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- No window is ever idle: every point leaves each window's buffer as the data says. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [show cfg0.idle w (grid0.coords t) = false from by revert w; exact (fun w => by fin_cases w <;> rfl)]

/-- At the first point the grid is at its first row tile. -/
theorem coords_first (t : Fin cfg0.N) (h : t.val = 0) : (grid0.coords t 1).val = 0 := by
  obtain rfl : t = ⟨0, by decide⟩ := Fin.ext h
  decide

/-- A point leaves the same blocks from any carried strips as from those of the point before. -/
theorem same (c : Dev nD) (t : Fin cfg0.N) (sv sg : Vec F S8x1408 .f32) (hs : carried m c t.val sv sg) :
    valT m c t = val (grid0.coords t) (iblk m c 0 t) (iblk m c 1 t) (iblk m c 3 t) (iblk m c 5 t) sv
    ∧ gateT m c t = gate (grid0.coords t) (iblk m c 0 t) (iblk m c 2 t) (iblk m c 4 t) (iblk m c 6 t) sg
    ∧ actT m c t = act (grid0.coords t) (iblk m c 0 t) (iblk m c 1 t) (iblk m c 2 t) (iblk m c 3 t) (iblk m c 4 t) (iblk m c 5 t) (iblk m c 6 t) sv sg := by
  by_cases hz : t.val = 0
  · have h0 := coords_first t hz
    exact ⟨val_first _ h0 _ _ _ _ _ _, gate_first _ h0 _ _ _ _ _ _, act_first _ h0 _ _ _ _ _ _ _ _ _ _ _⟩
  · obtain ⟨rfl, rfl⟩ := hs (prev t) (by show t.val = t.val - 1 + 1; omega)
    exact ⟨rfl, rfl, rfl⟩

/-- What the body is called with at a point. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp (Res F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves]
  rw [show (dats m 0 c).owesAt () t.succ = (dats m 0 c).owesAt () t.castSucc from rfl,
    show (dats m 0 c).Φ t.succ = Phi m c (t.val + 1) from rfl, show (dats m 0 c).Φ t.castSucc = Phi m c t.val from rfl]
  rw [after_0, after_1, after_2, after_3, after_4, after_5, after_6, after_7, after_8, after_9, after_10, after_11]
  unfold Phi
  iintro ⟨⟨%sv, %sg, %hs, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨ev, eg, ea⟩ := same m c t sv sg hs
  rw [ev, eg, ea]
  iapply (run c (grid0.coords t) _ _ _ _ _ _ _ _ _ _ _ _ _ _ _ _ _ _ _ _ _ _ _ _ _ (Memref.isWhole_whole _) _ (Memref.isWhole_whole _)
    (iblk m c 0 t) (iblk m c 1 t) (iblk m c 2 t) (iblk m c 3 t) (iblk m c 4 t) (iblk m c 5 t) (iblk m c 6 t) sv sg Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · iexists _; iexists _; isplitr
    · ipureintro
      intro t' ht
      obtain rfl : t = t' := Fin.ext (Nat.succ.inj ht)
      exact ⟨rfl, rfl⟩
    isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body called at a point is the kernel's. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

omit [FloatOps F] in
/-- What the launch hands over: the two strips at anything. -/
theorem PhiA_eq (c : Dev nD) :
    (Pipeline.ΦA spec0 c : sProp (Res F))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Phi m c 0 from rfl, PhiA_eq]
  unfold Phi
  iintro ⟨⟨⟨%sv, HS0⟩, ⟨%sg, HS1⟩⟩, Hg⟩
  iexists sv; iexists sg; isplitr
  · ipureintro; intro t ht; exact absurd ht (Nat.succ_ne_zero _).symm
  isplitl [HS0 HS1]
  · isplitl [HS0]; · iexact HS0
    iexact HS1
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨%sv, %sg, -, ⟨HS0, HS1⟩, Hg⟩
  isplitl [HS0 HS1]
  · isplitl [HS0]
    · iexists _; iexact HS0
    iexists _; iexact HS1
  iexact Hg

set_option backward.isDefEq.respectTransparency.types false in
/-- The launch: every execution ends, the arrays as the data says, every counter at zero. -/
theorem run_main_quiescent : θ_run defs (onTc (τ := τ) (main (F := F))) (s₀ m ρ) (fun r => (Pipeline.FramePost cfgs (dats m) 0 (V m)) r ∧
    r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel8Ideal.Body
end
-- ==== Proof.Fwd.UpConv.lean ====
module

public import proofs.«01_k».proof.Proof.Fwd.UpConvFrame
public import proofs.«01_k».proof.Proof.Gen.Reference8Ideal.Run
public import proofs.«01_k».proof.Proof.Norm.Reference
public import proofs.«01_k».proof.Proof.Ffn.Reference
public import Idealize.ShloMosaic.Lib.Pipeline.ValueKit
public import Idealize.ShloMosaic.Lib.Pipeline.ReadBack

/-!
# The up-projection with its convolution and gate

A point multiplies 512 normalised rows by 1408 columns of the value half and the same columns of the gate half. The
convolution's taps meet the rows one and two places above; for the tile's first rows these are the last rows of the tile
before, which the strip carries.
-/

@[expose] public section

set_option maxRecDepth 16384

noncomputable section

open Idealize.ShloMosaic Idealize.ShloMosaic.TcCoe Idealize.SL.Sem

namespace Cert.Fwd.UpConv

open Cert.Kernel8Ideal Cert.Kernel8Ideal.Gen Cert.Kernel8Ideal.Body Cert.Norm
open Cert.ReferenceIdeal (S8192x5632)
open Cert.ReferenceIdeal.Ffn (padded padded_apply conv tap0 tap1 tap2 rows0 rows1 rows2)

/-- One point's rows, and the eight rows above them. -/
abbrev Tile := FVec Ideal S512x1408 .f32
@[inherit_doc Tile] abbrev Strip := FVec Ideal S8x1408 .f32

section tile
variable (s : Strip) (p : Tile) (e : FVec Ideal S520x1408 .f32) (k : FVec Ideal S3x1408 .f32) (b : FVec Ideal S1x1408 .f32)

/-- The strip a point uses: zeros in the first row tile. -/
def above (i : grid0.Coords) : Strip :=
  Scalar.select (Scalar.cmpi .eq (BitVec.ofNat 32 (i 1).val) 0#32)
    (broadcast S8x1408 (Scalar.ofBits (F := Ideal) .f32 0x00000000#32)) s

/-- The rows with the strip above them. -/
def ext : FVec Ideal S520x1408 .f32 :=
  concatenate S520x1408 0 [⟨S8x1408, s⟩, ⟨S512x1408, p⟩] concatenates_S8x1408_S512x1408_S520x1408_d0

/-- The rows `d` places above the tile's, for `d` less than eight: in groups of eight, each row comes from its own group or from
    the group above. -/
def shifted (d : BitVec 32) : Tile :=
  shapeCast S512x1408
    (select (cmpi .sge (extractStridedSlice S64x8x1408 ![1, 0, 0] (iota .tc S65x8x1408 32 [1] iota_S65x8x1408_d1_w32)
        slices_S65x8x1408_o1_0_0_S64x8x1408) (broadcast S64x8x1408 d))
      (extractStridedSlice S64x8x1408 ![1, 0, 0] (dynamicRotate 1 d none
        (shapeCast S65x8x1408 e shapeCasts_S520x1408_S65x8x1408) rotates_S65x8x1408_d1) slices_S65x8x1408_o1_0_0_S64x8x1408)
      (extractStridedSlice S64x8x1408 ![0, 0, 0] (dynamicRotate 1 d none
        (shapeCast S65x8x1408 e shapeCasts_S520x1408_S65x8x1408) rotates_S65x8x1408_d1) slices_S65x8x1408_o0_0_0_S64x8x1408))
    shapeCasts_S64x8x1408_S512x1408

/-- The convolution of a tile. -/
def tileConv : Tile :=
  addf (addf (addf
      (mulf (broadcastTo S512x1408 (extractStridedSlice S1x1408 ![0, 0] k slices_S3x1408_o0_0_S1x1408) broadcasts_S1x1408_S512x1408)
        (shifted (ext s p) 2#32))
      (mulf (broadcastTo S512x1408 (extractStridedSlice S1x1408 ![1, 0] k slices_S3x1408_o1_0_S1x1408) broadcasts_S1x1408_S512x1408)
        (shifted (ext s p) 1#32)))
      (mulf (broadcastTo S512x1408 (extractStridedSlice S1x1408 ![2, 0] k slices_S3x1408_o2_0_S1x1408) broadcasts_S1x1408_S512x1408) p))
    (broadcastTo S512x1408 (shapeCast S1x1408 b shapeCasts_S1x1408_S1x1408) broadcasts_S1x1408_S512x1408)

theorem ext_apply (q : Fin 520) (cc : Fin 1408) :
    ext s p (ix2 q cc) = if h : q.val < 8 then s (ix2 ⟨q.val, h⟩ cc) else p (ix2 ⟨q.val - 8, by omega⟩ cc) := by
  pointwise [ext]

/-- One place above. -/
theorem shifted1_apply (r : Fin 512) (cc : Fin 1408) : shifted e 1#32 (ix2 r cc) = e (ix2 ⟨r.val + 7, by omega⟩ cc) := by
  pointwise [shifted]
  have hc : ∀ k : Fin 8, IntOp.cmpi .sge (BitVec.ofNat 32 k.val) 1#32 = BitVec.ofBool (decide (1 ≤ k.val)) := by decide
  rw [hc ⟨r.val % 8, by omega⟩]
  by_cases h : 1 ≤ r.val % 8
  · have e' : (1 + r.val / 8) * 8 + (r.val % 8 + 8 - 1) % 8 = r.val + 7 := by omega
    simp only [Scalar.select, h, e', decide_true, BitVec.ofBool_true, if_true]
  · have e' : r.val / 8 * 8 + (r.val % 8 + 8 - 1) % 8 = r.val + 7 := by omega
    simp only [Scalar.select, h, e', decide_false, BitVec.ofBool_false]
    rfl

/-- Two places above. -/
theorem shifted2_apply (r : Fin 512) (cc : Fin 1408) : shifted e 2#32 (ix2 r cc) = e (ix2 ⟨r.val + 6, by omega⟩ cc) := by
  pointwise [shifted]
  have hc : ∀ k : Fin 8, IntOp.cmpi .sge (BitVec.ofNat 32 k.val) 2#32 = BitVec.ofBool (decide (2 ≤ k.val)) := by decide
  rw [hc ⟨r.val % 8, by omega⟩]
  by_cases h : 2 ≤ r.val % 8
  · have e' : (1 + r.val / 8) * 8 + (r.val % 8 + 8 - 2) % 8 = r.val + 6 := by omega
    simp only [Scalar.select, h, e', decide_true, BitVec.ofBool_true, if_true]
  · have e' : r.val / 8 * 8 + (r.val % 8 + 8 - 2) % 8 = r.val + 6 := by omega
    simp only [Scalar.select, h, e', decide_false, BitVec.ofBool_false]
    rfl

theorem tileConv_apply (r : Fin 512) (cc : Fin 1408) : tileConv s p k b (ix2 r cc) =
    k (ix2 0 cc) * ext s p (ix2 ⟨r.val + 6, by omega⟩ cc) + k (ix2 1 cc) * ext s p (ix2 ⟨r.val + 7, by omega⟩ cc)
      + k (ix2 2 cc) * p (ix2 r cc) + b (ix2 0 cc) := by
  pointwise [tileConv]
  rw [shifted1_apply, shifted2_apply]

/-- The strip in use, element by element. -/
theorem above_apply (i : grid0.Coords) (r : Fin 8) (cc : Fin 1408) :
    above s i (ix2 r cc) = if (i 1).val = 0 then (0 : EReal) else s (ix2 r cc) := by
  have h16 : (i 1).val < 16 := (i 1).isLt
  have hc : ∀ n : Fin 16, Scalar.cmpi .eq (BitVec.ofNat 32 n.val) 0#32 = BitVec.ofBool (decide (n.val = 0)) := by decide
  unfold above
  rw [hc ⟨(i 1).val, h16⟩]
  by_cases h : (i 1).val = 0
  · rw [if_pos h]
    simp only [Scalar.select, h, decide_true, BitVec.ofBool_true, if_true]
    pointwise
  · rw [if_neg h]
    simp only [Scalar.select, h, decide_false, BitVec.ofBool_false]
    rfl

/-- The reference's convolution, element by element. -/
theorem conv_apply (H : FVec Ideal S8192x5632 .f32) (K : FVec Ideal S3x5632 .f32) (B : FVec Ideal S5632 .f32) (n : Fin 8192) (C : Fin 5632) :
    conv H K B (ix2 n C) = K (ix2 0 C) * padded H (ix2 ⟨n.val, by omega⟩ C) + K (ix2 1 C) * padded H (ix2 ⟨1 + n.val, by omega⟩ C)
      + K (ix2 2 C) * H (ix2 n C) + B (ix1 C) := by
  pointwise [conv, tap0, tap1, tap2, rows0, rows1, rows2]
  have e : padded H (ix2 ⟨2 + n.val, by omega⟩ C) = H (ix2 n C) := by
    rw [padded_apply, dif_neg (by show ¬ 2 + n.val < 2; omega)]
    exact congrArg (fun q : Fin 8192 => H (ix2 q C)) (Fin.ext (by show 2 + n.val - 2 = n.val; omega))
  rw [e]

end tile

/-- A tile of an array with the rows above it is a tile of the array with two rows of zeros in front. -/
theorem ext_padded (H : FVec Ideal S8192x5632 .f32) (s : Strip) (p : Tile) (n : Fin 16) (cc : Fin 1408) (C : Fin 5632)
    (hp : ∀ r : Fin 512, p (ix2 r cc) = H (ix2 ⟨512 * n.val + r.val, by omega⟩ C))
    (hs : ∀ r : Fin 8, s (ix2 r cc) = if n.val = 0 then (0 : EReal) else H (ix2 ⟨512 * n.val - 8 + r.val, by omega⟩ C))
    (q : Fin 520) (hq : 6 ≤ q.val) : ext s p (ix2 q cc) = padded H (ix2 ⟨512 * n.val + (q.val - 6), by omega⟩ C) := by
  rw [ext_apply, padded_apply]
  by_cases h : q.val < 8
  · rw [dif_pos h, hs]
    by_cases h0 : n.val = 0
    · rw [if_pos h0, dif_pos (by show 512 * n.val + (q.val - 6) < 2; omega)]
    · rw [if_neg h0, dif_neg (by show ¬ 512 * n.val + (q.val - 6) < 2; omega)]
      exact congrArg (fun q : Fin 8192 => H (ix2 q C)) (Fin.ext (by show 512 * n.val - 8 + q.val = 512 * n.val + (q.val - 6) - 2; omega))
  · rw [dif_neg h, hp, dif_neg (by show ¬ 512 * n.val + (q.val - 6) < 2; omega)]
    exact congrArg (fun q : Fin 8192 => H (ix2 q C)) (Fin.ext (by show 512 * n.val + (q.val - 8) = 512 * n.val + (q.val - 6) - 2; omega))

/-- The convolution of a tile is a tile of the convolution. -/
theorem tileConv_eq (H : FVec Ideal S8192x5632 .f32) (K : FVec Ideal S3x5632 .f32) (B : FVec Ideal S5632 .f32) (s : Strip) (p : Tile)
    (k : FVec Ideal S3x1408 .f32) (b : FVec Ideal S1x1408 .f32) (n : Fin 16) (cc : Fin 1408) (C : Fin 5632)
    (hp : ∀ r : Fin 512, p (ix2 r cc) = H (ix2 ⟨512 * n.val + r.val, by omega⟩ C))
    (hs : ∀ r : Fin 8, s (ix2 r cc) = if n.val = 0 then (0 : EReal) else H (ix2 ⟨512 * n.val - 8 + r.val, by omega⟩ C))
    (hk : ∀ j : Fin 3, k (ix2 j cc) = K (ix2 j C)) (hb : b (ix2 0 cc) = B (ix1 C)) (r : Fin 512) :
    tileConv s p k b (ix2 r cc) = conv H K B (ix2 ⟨512 * n.val + r.val, by omega⟩ C) := by
  rw [tileConv_apply, conv_apply, hk, hk, hk, hb, hp, ext_padded H s p n cc C hp hs _ (by show 6 ≤ r.val + 6; omega),
    ext_padded H s p n cc C hp hs _ (by show 6 ≤ r.val + 7; omega)]
  have e0 : (⟨512 * n.val + (r.val + 6 - 6), by omega⟩ : Fin 8194) = ⟨512 * n.val + r.val, by omega⟩ :=
    Fin.ext (by show 512 * n.val + (r.val + 6 - 6) = 512 * n.val + r.val; omega)
  have e1 : (⟨512 * n.val + (r.val + 7 - 6), by omega⟩ : Fin 8194) = ⟨1 + (512 * n.val + r.val), by omega⟩ :=
    Fin.ext (by show 512 * n.val + (r.val + 7 - 6) = 1 + (512 * n.val + r.val); omega)
  exact congrArg₂ (fun a c : Fin 8194 => K (ix2 0 C) * padded H (ix2 a C) + K (ix2 1 C) * padded H (ix2 c C)
      + K (ix2 2 C) * H (ix2 ⟨512 * n.val + r.val, by omega⟩ C) + B (ix1 C)) e0 e1

/-- The projection, as the reference has it. -/
abbrev proj (x : FVec Ideal S8192x1024 .f32) (w : FVec Ideal S1024x5632 .f32) : FVec Ideal S8192x5632 .f32 :=
  Host.dotGeneral (F := Ideal) Cert.Reference8Ideal.dot_S8192x1024_S1024x5632_S8192x5632_1_0_0_1_n_n none x w

theorem proj_apply (x : FVec Ideal S8192x1024 .f32) (w : FVec Ideal S1024x5632 .f32) (n : Fin 8192) (k : Fin 5632) :
    proj x w (ix2 n k) = ∑ j : Fin 1024, x (ix2 n j) * w (ix2 j k) := by
  pointwise [proj]

theorem val_eq (i : grid0.Coords) (x : Vec Ideal S512x1024 .bf16) (w : Vec Ideal S1x1024x1408 .bf16) (k : Vec Ideal S3x1408 .f32)
    (b : Vec Ideal S1x1408 .f32) (s : Vec Ideal S8x1408 .f32) : Body.val i x w k b s = tileConv (above s i) (k0_pay5 x w) k b := rfl

theorem gate_eq (i : grid0.Coords) (x : Vec Ideal S512x1024 .bf16) (w : Vec Ideal S1x1024x1408 .bf16) (k : Vec Ideal S3x1408 .f32)
    (b : Vec Ideal S1x1408 .f32) (s : Vec Ideal S8x1408 .f32) :
    Body.gate i x w k b s = truncf .bf16 (tileConv (above s i) (k0_pay5 x w) k b) bitsLt_bf16_f32 := rfl

theorem act_eq (i : grid0.Coords) (x : Vec Ideal S512x1024 .bf16) (wv wg : Vec Ideal S1x1024x1408 .bf16) (kv kg : Vec Ideal S3x1408 .f32)
    (bv bg : Vec Ideal S1x1408 .f32) (sv sg : Vec Ideal S8x1408 .f32) : Body.act i x wv wg kv kg bv bg sv sg =
      mulf (mulf (Body.gate i x wg kg bg sg) (logistic (Body.gate i x wg kg bg sg))) (k0_pay1 (Body.val i x wv kv bv sv)) := rfl

theorem prod_apply (x : FVec Ideal S512x1024 .bf16) (w : FVec Ideal S1x1024x1408 .bf16) (r : Fin 512) (k : Fin 1408) :
    (show EReal from k0_pay5 (F := Ideal) x w (ix2 r k)) = ∑ j : Fin 1024, x (ix2 r j) * w (ix3 0 j k) := by
  pointwise [k0_pay5, k0_pay4]

theorem strip_apply (x : FVec Ideal S512x1024 .bf16) (w : FVec Ideal S1x1024x1408 .bf16) (r : Fin 8) (k : Fin 1408) :
    (show EReal from k0_pay8 (F := Ideal) x w (ix2 r k)) = k0_pay5 (F := Ideal) x w (ix2 ⟨504 + r.val, by omega⟩ k) := by
  pointwise [k0_pay8]

variable (m : (ℓ : Loc nD τ sig) → Buf (Elt Ideal) ℓ) (c : Dev nD)

/-- The arguments, at their types. -/
abbrev aX : FVec Ideal S8192x1024 .f32 := m ((c : Thread nD τ).loc main_arg0)
@[inherit_doc aX] abbrev aG : FVec Ideal S1024 .f32 := m ((c : Thread nD τ).loc main_arg1)
@[inherit_doc aX] abbrev aW : FVec Ideal S1024x5632 .f32 := m ((c : Thread nD τ).loc main_arg2)
@[inherit_doc aX] abbrev aK : FVec Ideal S3x5632 .f32 := m ((c : Thread nD τ).loc main_arg3)
@[inherit_doc aX] abbrev aB : FVec Ideal S5632 .f32 := m ((c : Thread nD τ).loc main_arg4)

/-- The up-projection, and its convolution. -/
abbrev up : FVec Ideal S8192x5632 .f32 := proj (sNorm (aX m c) (aG m c)) (aW m c)
@[inherit_doc up] abbrev conved : FVec Ideal S8192x5632 .f32 := conv (up m c) (aK m c) (aB m c)

/-- `main_v13`: the normalised rows with their gain. -/
theorem V_n : V m c main_v13 = sNorm (aX m c) (aG m c) := by
  simp only [V, hostOps0]
  entry_read
  rfl

/-- `main_v16`: the weight, laid out by chips. -/
theorem V_w : V m c main_v16 = truncf .bf16 (transpose S4x1024x1408 [1, 0, 2]
    (shapeCast S1024x4x1408 (aW m c) shapeCasts_S1024x5632_S1024x4x1408) transposes_S1024x4x1408_S4x1024x1408_1_0_2)
    bitsLt_bf16_f32 := by
  simp only [V, hostOps0]
  entry_read
  rfl

/-- `main_v17`: the bias, as one row. -/
theorem V_b : V m c main_v17 = shapeCast S1x5632 (aB m c) shapeCasts_S5632_S1x5632 := by
  simp only [V, hostOps0]
  entry_read
  rfl

/-- The block each window reads or writes at a point. -/
theorem idx : ∀ t : Fin cfg0.N, win0_0.index t = ![t.val % 16, 0] ∧ win0_1.index t = ![t.val / 16, 0, 0] ∧
    win0_2.index t = ![2 + t.val / 16, 0, 0] ∧ win0_3.index t = ![0, t.val / 16] ∧ win0_4.index t = ![0, 2 + t.val / 16] ∧
    win0_5.index t = ![0, t.val / 16] ∧ win0_6.index t = ![0, 2 + t.val / 16] ∧ win0_7.index t = ![t.val % 16, t.val / 16] ∧
    win0_8.index t = ![t.val % 16, t.val / 16] ∧ win0_9.index t = ![t.val % 16, t.val / 16] ∧
    win0_10.index t = ![t.val % 16, t.val / 16] ∧ win0_11.index t = ![t.val % 16, t.val / 16] :=
  (by decide +kernel : ∀ t : Fin grid0.N, _)

/-- The row tile of a point, as the body sees it. -/
theorem coord : ∀ t : Fin cfg0.N, (grid0.coords t 1).val = t.val % 16 := (by decide +kernel : ∀ t : Fin grid0.N, _)

/-- A point's row tile. -/
def tile (t : Fin cfg0.N) : Fin 16 := ⟨t.val % 16, by omega⟩

/-- The array's row at row `r` of a point's tile; the columns of its value and gate halves, and of an output, at column `k`. -/
abbrev rowAt (t : Fin cfg0.N) (r : Fin 512) : Fin 8192 := ⟨512 * (tile t).val + r.val, by omega⟩
@[inherit_doc rowAt] def colV (t : Fin cfg0.N) (k : Fin 1408) : Fin 5632 :=
  ⟨1408 * (t.val / 16) + k.val, by have : t.val < 32 := t.isLt; omega⟩
@[inherit_doc rowAt] def colG (t : Fin cfg0.N) (k : Fin 1408) : Fin 5632 :=
  ⟨1408 * (t.val / 16) + k.val + 2816, by have : t.val < 32 := t.isLt; omega⟩
@[inherit_doc rowAt] def colAt (t : Fin cfg0.N) (k : Fin 1408) : Fin 2816 :=
  ⟨1408 * (t.val / 16) + k.val, by have : t.val < 32 := t.isLt; omega⟩

/-- The normalised rows. -/
theorem n_blk (t : Fin cfg0.N) (r : Fin 512) (j : Fin 1024) :
    (show EReal from iblk m c 0 t (ix2 r j)) = sNorm (aX m c) (aG m c) (ix2 (rowAt t r) j) := by
  have : t.val < 32 := t.isLt
  blk_simp [iblk, idx t]
  have e : (win0_0.blk t).view.emb (ix2 r j) = ix2 (rowAt t r) j := by blk_ext [idx t, rowAt, tile]
  rw [V_n, e]

/-- The weight's columns of the value half, … -/
theorem wv_blk (t : Fin cfg0.N) (j : Fin 1024) (k : Fin 1408) :
    (show EReal from iblk m c 1 t (ix3 0 j k)) = aW m c (ix2 j (colV t k)) := by
  have : t.val < 32 := t.isLt
  blk_simp [iblk, idx t]
  have e : (win0_1.blk t).view.emb (ix3 0 j k) = ix3 ⟨t.val / 16, by omega⟩ j k := by blk_ext [idx t]
  rw [V_w, e]
  pointwise
  blk_ext [colV]

/-- … and of the gate half. -/
theorem wg_blk (t : Fin cfg0.N) (j : Fin 1024) (k : Fin 1408) :
    (show EReal from iblk m c 2 t (ix3 0 j k)) = aW m c (ix2 j (colG t k)) := by
  have : t.val < 32 := t.isLt
  blk_simp [iblk, idx t]
  have e : (win0_2.blk t).view.emb (ix3 0 j k) = ix3 ⟨2 + t.val / 16, by omega⟩ j k := by blk_ext [idx t]
  rw [V_w, e]
  pointwise
  blk_ext [colG]

/-- The taps of the two halves. -/
theorem kv_blk (t : Fin cfg0.N) (j : Fin 3) (k : Fin 1408) :
    (show EReal from iblk m c 3 t (ix2 j k)) = aK m c (ix2 j (colV t k)) := by
  have : t.val < 32 := t.isLt
  blk_simp [iblk, idx t]
  have e : (win0_3.blk t).view.emb (ix2 j k) = ix2 j (colV t k) := by blk_ext [idx t, colV]
  rw [V_main_arg3, e]

@[inherit_doc kv_blk] theorem kg_blk (t : Fin cfg0.N) (j : Fin 3) (k : Fin 1408) :
    (show EReal from iblk m c 4 t (ix2 j k)) = aK m c (ix2 j (colG t k)) := by
  have : t.val < 32 := t.isLt
  blk_simp [iblk, idx t]
  have e : (win0_4.blk t).view.emb (ix2 j k) = ix2 j (colG t k) := by blk_ext [idx t, colG]
  rw [V_main_arg3, e]

/-- The bias of the two halves. -/
theorem bv_blk (t : Fin cfg0.N) (k : Fin 1408) : (show EReal from iblk m c 5 t (ix2 0 k)) = aB m c (ix1 (colV t k)) := by
  have : t.val < 32 := t.isLt
  blk_simp [iblk, idx t]
  have e : (win0_5.blk t).view.emb (ix2 0 k) = ix2 0 (colV t k) := by blk_ext [idx t, colV]
  rw [V_b, e]
  pointwise

@[inherit_doc bv_blk] theorem bg_blk (t : Fin cfg0.N) (k : Fin 1408) :
    (show EReal from iblk m c 6 t (ix2 0 k)) = aB m c (ix1 (colG t k)) := by
  have : t.val < 32 := t.isLt
  blk_simp [iblk, idx t]
  have e : (win0_6.blk t).view.emb (ix2 0 k) = ix2 0 (colG t k) := by blk_ext [idx t, colG]
  rw [V_b, e]
  pointwise

/-- The products of a point. -/
theorem v_prod (t : Fin cfg0.N) (r : Fin 512) (k : Fin 1408) :
    (show EReal from k0_pay5 (F := Ideal) (iblk m c 0 t) (iblk m c 1 t) (ix2 r k)) = up m c (ix2 (rowAt t r) (colV t k)) :=
  (prod_apply _ _ r k).trans ((Finset.sum_congr rfl fun j _ =>
    congrArg₂ (· * · : EReal → EReal → EReal) (n_blk m c t r j) (wv_blk m c t j k)).trans (proj_apply _ _ _ _).symm)

@[inherit_doc v_prod] theorem g_prod (t : Fin cfg0.N) (r : Fin 512) (k : Fin 1408) :
    (show EReal from k0_pay5 (F := Ideal) (iblk m c 0 t) (iblk m c 2 t) (ix2 r k)) = up m c (ix2 (rowAt t r) (colG t k)) :=
  (prod_apply _ _ r k).trans ((Finset.sum_congr rfl fun j _ =>
    congrArg₂ (· * · : EReal → EReal → EReal) (n_blk m c t r j) (wg_blk m c t j k)).trans (proj_apply _ _ _ _).symm)

/-- Below the first row tile the point before is the row tile above, in the same columns. -/
theorem prev_row (t : Fin cfg0.N) (h : ¬ t.val % 16 = 0) (r : Fin 8) :
    rowAt (prev t) ⟨504 + r.val, by omega⟩ = ⟨512 * (tile t).val - 8 + r.val, by omega⟩ := by
  have : t.val < 32 := t.isLt
  exact Fin.ext (by show 512 * ((t.val - 1) % 16) + (504 + r.val) = 512 * (t.val % 16) - 8 + r.val; omega)

theorem prev_half (t : Fin cfg0.N) (h : ¬ t.val % 16 = 0) : (prev t).val / 16 = t.val / 16 := by
  show (t.val - 1) / 16 = t.val / 16; omega

/-- The strips in use at a point. -/
theorem v_strip (t : Fin cfg0.N) (r : Fin 8) (k : Fin 1408) : above (stripV m c (prev t)) (grid0.coords t) (ix2 r k) =
    if (tile t).val = 0 then (0 : EReal) else up m c (ix2 ⟨512 * (tile t).val - 8 + r.val, by omega⟩ (colV t k)) := by
  rw [above_apply, coord]
  by_cases h : t.val % 16 = 0
  · rw [if_pos h, if_pos (show (tile t).val = 0 from h)]
  · rw [if_neg h, if_neg (show ¬ (tile t).val = 0 from h), ← prev_row t h r,
      show colV t k = colV (prev t) k from Fin.ext (by simp only [colV, prev_half t h])]
    exact (strip_apply _ _ r k).trans (v_prod m c (prev t) _ k)

@[inherit_doc v_strip] theorem g_strip (t : Fin cfg0.N) (r : Fin 8) (k : Fin 1408) :
    above (stripG m c (prev t)) (grid0.coords t) (ix2 r k) =
    if (tile t).val = 0 then (0 : EReal) else up m c (ix2 ⟨512 * (tile t).val - 8 + r.val, by omega⟩ (colG t k)) := by
  rw [above_apply, coord]
  by_cases h : t.val % 16 = 0
  · rw [if_pos h, if_pos (show (tile t).val = 0 from h)]
  · rw [if_neg h, if_neg (show ¬ (tile t).val = 0 from h), ← prev_row t h r,
      show colG t k = colG (prev t) k from Fin.ext (by simp only [colG, prev_half t h])]
    exact (strip_apply _ _ r k).trans (g_prod m c (prev t) _ k)

/-- What a point leaves of the two halves. -/
theorem v_tile (t : Fin cfg0.N) (r : Fin 512) (k : Fin 1408) :
    (show EReal from valT m c t (ix2 r k)) = conved m c (ix2 (rowAt t r) (colV t k)) :=
  (congrFun (val_eq _ _ _ _ _ _) _).trans (tileConv_eq (up m c) (aK m c) (aB m c) _ _ _ _ (tile t) k (colV t k)
    (fun r => v_prod m c t r k) (fun r => v_strip m c t r k) (fun j => kv_blk m c t j k) (bv_blk m c t k) r)

@[inherit_doc v_tile] theorem g_tile (t : Fin cfg0.N) (r : Fin 512) (k : Fin 1408) :
    (show EReal from gateT m c t (ix2 r k)) = conved m c (ix2 (rowAt t r) (colG t k)) :=
  (congrFun (gate_eq _ _ _ _ _ _) _).trans (tileConv_eq (up m c) (aK m c) (aB m c) _ _ _ _ (tile t) k (colG t k)
    (fun r => g_prod m c t r k) (fun r => g_strip m c t r k) (fun j => kg_blk m c t j k) (bg_blk m c t k) r)

/-- The halves, element by element. -/
theorem valHalf_apply (u : FVec Ideal S8192x5632 .f32) (n : Fin 8192) (t : Fin cfg0.N) (k : Fin 1408) :
    Cert.ReferenceIdeal.Ffn.val u (ix2 n (colAt t k)) = u (ix2 n (colV t k)) := by
  pointwise [Cert.ReferenceIdeal.Ffn.val]
  rfl

@[inherit_doc valHalf_apply] theorem gateHalf_apply (u : FVec Ideal S8192x5632 .f32) (n : Fin 8192) (t : Fin cfg0.N) (k : Fin 1408) :
    Cert.ReferenceIdeal.Ffn.gate u (ix2 n (colAt t k)) = u (ix2 n (colG t k)) := by
  pointwise [Cert.ReferenceIdeal.Ffn.gate]
  blk_ext [colG, colAt]

/-- The gated product, element by element. -/
theorem act_apply (u : FVec Ideal S8192x5632 .f32) (n : Fin 8192) (k : Fin 2816) :
    Cert.ReferenceIdeal.Ffn.act u (ix2 n k) = Cert.ReferenceIdeal.Ffn.gate u (ix2 n k)
      * Ideal.logistic (Cert.ReferenceIdeal.Ffn.gate u (ix2 n k)) * Cert.ReferenceIdeal.Ffn.val u (ix2 n k) := by
  pointwise [Cert.ReferenceIdeal.Ffn.act, Cert.ReferenceIdeal.Ffn.silu]
  rw [Cert.ReferenceIdeal.Ffn.sigm_apply]

/-- The arrays the kernel leaves: the two halves before the convolution, … -/
theorem arr7 : (dats m 0 c).arrAt 7 cfg0.N = Cert.ReferenceIdeal.Ffn.val (up m c) := by
  refine (dats m 0 c).arrAt_eq_of_covers 7 _ (by decide +kernel) fun t hf y => ?_
  have : t.val < 32 := t.isLt
  blk_simp
  rw [after_7]
  idx_vars y
  have e : (win0_7.blk t).view.emb (ix2 y0 y1) = ix2 (rowAt t y0) (colAt t y1) := by blk_ext [idx t, rowAt, tile, colAt]
  rw [show ((View.whole main_v18_0).slice (win0_7.rect t)).emb (ix2 y0 y1) = _ from e, valHalf_apply]
  exact v_prod m c t y0 y1

@[inherit_doc arr7] theorem arr8 : (dats m 0 c).arrAt 8 cfg0.N = Cert.ReferenceIdeal.Ffn.gate (up m c) := by
  refine (dats m 0 c).arrAt_eq_of_covers 8 _ (by decide +kernel) fun t hf y => ?_
  have : t.val < 32 := t.isLt
  blk_simp
  rw [after_8]
  idx_vars y
  have e : (win0_8.blk t).view.emb (ix2 y0 y1) = ix2 (rowAt t y0) (colAt t y1) := by blk_ext [idx t, rowAt, tile, colAt]
  rw [show ((View.whole main_v18_1).slice (win0_8.rect t)).emb (ix2 y0 y1) = _ from e, gateHalf_apply]
  exact g_prod m c t y0 y1

/-- … after it, … -/
theorem arr9 : (dats m 0 c).arrAt 9 cfg0.N = Cert.ReferenceIdeal.Ffn.val (conved m c) := by
  refine (dats m 0 c).arrAt_eq_of_covers 9 _ (by decide +kernel) fun t hf y => ?_
  have : t.val < 32 := t.isLt
  blk_simp
  rw [after_9]
  idx_vars y
  have e : (win0_9.blk t).view.emb (ix2 y0 y1) = ix2 (rowAt t y0) (colAt t y1) := by blk_ext [idx t, rowAt, tile, colAt]
  rw [show ((View.whole main_v18_2).slice (win0_9.rect t)).emb (ix2 y0 y1) = _ from e, valHalf_apply]
  exact v_tile m c t y0 y1

@[inherit_doc arr9] theorem arr10 : (dats m 0 c).arrAt 10 cfg0.N = Cert.ReferenceIdeal.Ffn.gate (conved m c) := by
  refine (dats m 0 c).arrAt_eq_of_covers 10 _ (by decide +kernel) fun t hf y => ?_
  have : t.val < 32 := t.isLt
  blk_simp
  rw [after_10]
  idx_vars y
  have e : (win0_10.blk t).view.emb (ix2 y0 y1) = ix2 (rowAt t y0) (colAt t y1) := by blk_ext [idx t, rowAt, tile, colAt]
  rw [show ((View.whole main_v18_3).slice (win0_10.rect t)).emb (ix2 y0 y1) = _ from e, gateHalf_apply]
  exact g_tile m c t y0 y1

/-- … and the gated product. -/
theorem arr11 : (dats m 0 c).arrAt 11 cfg0.N = Cert.ReferenceIdeal.Ffn.act (conved m c) := by
  refine (dats m 0 c).arrAt_eq_of_covers 11 _ (by decide +kernel) fun t hf y => ?_
  have : t.val < 32 := t.isLt
  blk_simp
  rw [after_11]
  idx_vars y
  have e : (win0_11.blk t).view.emb (ix2 y0 y1) = ix2 (rowAt t y0) (colAt t y1) := by blk_ext [idx t, rowAt, tile, colAt]
  rw [show ((View.whole main_v18_4).slice (win0_11.rect t)).emb (ix2 y0 y1) = _ from e, act_apply, valHalf_apply, gateHalf_apply,
    ← v_tile m c t y0 y1, ← g_tile m c t y0 y1]
  exact congrFun (act_eq _ _ _ _ _ _ _ _ _ _) _

end Cert.Fwd.UpConv
end
-- ==== Proof.Fwd.UpConvClaim.lean ====
module

public import proofs.«01_k».proof.Defs
public import proofs.«01_k».proof.Proof.Gen.Kernel8
public import proofs.«01_k».proof.Proof.Fwd.UpConv
public import Idealize.ShloMosaic.Lib.Claim
public import Idealize.ShloMosaic.Adequacy
public import Idealize.ShloMosaic.Init

/-!
# The claims on the up-projection with its convolution
-/

@[expose] public section

set_option maxRecDepth 16384

noncomputable section

namespace Cert.Fwd.UpConv

open Idealize.ShloMosaic Idealize.ShloMosaic.TcCoe Idealize.SL.Sem Cert.Norm
open Cert.ReferenceIdeal.Ffn (conv val gate act)

/-- The frame over the ideal values. -/
theorem frame_ideal : Cert.quiescent_Kernel8Ideal := fun m g _ => Cert.Kernel8Ideal.Body.frame m g

section
variable {F : FTy → Type} [FloatOps F]

set_option maxHeartbeats 4000000 in
/-- The two printed programs have the same kernel, … -/
theorem defs₀_eq : Cert.Kernel8.defs₀ (F := F) = Cert.Kernel8Ideal.defs₀ (F := F) := by
  unfold Cert.Kernel8.defs₀ Cert.Kernel8Ideal.defs₀
  refine congrArg Defs.onTc (funext fun l => funext fun args => ?_)
  match l, args with
  | 0, (t, s) => rfl
  | ⟨_ + 1, h⟩, _ => exact absurd h (Nat.not_lt.2 (Nat.le_add_left _ _))

/-- … hence the same definitions. -/
theorem defs_eq : Cert.Kernel8.defs (F := F) = Cert.Kernel8Ideal.defs (F := F) := by
  unfold Cert.Kernel8.defs Cert.Kernel8Ideal.defs
  rw [defs₀_eq]; rfl

end

/-- The frame over bit patterns: the same proof, which knows nothing of the values. -/
theorem frame : Cert.quiescent_Kernel8 := by
  intro m g _
  have h := Cert.Kernel8Ideal.Body.frame (F := Bits) m g
  rw [← defs_eq] at h
  exact h

/-- The reference runs on the host alone and has no semaphores. -/
theorem frame_reference : Cert.quiescent_Reference8Ideal := fun m g _ =>
  (θ_run _ _ _).mono (fun r h => ⟨fun c => (h c).2.2.2.2.2, sem_eq_zero_of_no_sems (by decide) r.2⟩)
    (Cert.Reference8Ideal.Value.run m g)

section
open Cert.Kernel8Ideal Cert.Kernel8Ideal.Gen Cert.Kernel8Ideal.Body
variable (m : (ℓ : Loc nD τ sig) → Buf (Elt Ideal) ℓ) (g : Dev nD → PrngReg)

/-- The kernel's run: each result at the array its blocks make up, the arguments unchanged. -/
theorem run_blocks : θ_run defs (onTc (τ := τ) (main (F := Ideal))) ⟨m, fun _ => 0, g⟩ fun r => ∀ c : Dev nD,
      r.2.mem ((c : Thread nD τ).loc main_v18_0) = (dats m 0 c).arrAt 7 cfg0.N
      ∧ r.2.mem ((c : Thread nD τ).loc main_v18_1) = (dats m 0 c).arrAt 8 cfg0.N
      ∧ r.2.mem ((c : Thread nD τ).loc main_v18_2) = (dats m 0 c).arrAt 9 cfg0.N
      ∧ r.2.mem ((c : Thread nD τ).loc main_v18_3) = (dats m 0 c).arrAt 10 cfg0.N
      ∧ r.2.mem ((c : Thread nD τ).loc main_v18_4) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 7, (h.1 c).1 8, (h.1 c).1 9, (h.1 c).1 10, (h.1 c).1 11, h.2.1 c⟩)
    (θ_run_and (run_main m g) (Cert.Kernel8Ideal.Body.frame m g))

end

section
variable (m : (ℓ : Loc Cert.Reference8Ideal.nD Cert.Reference8Ideal.τ Cert.Reference8Ideal.sig) → Buf (Elt Ideal) ℓ)
  (c : Dev Cert.Reference8Ideal.nD)

/-- The reference's arguments, at their types. -/
abbrev rX : FVec Ideal Cert.Reference8Ideal.S8192x1024 .f32 := m ((c.tc : Thread _ Cert.Reference8Ideal.τ).loc Cert.Reference8Ideal.main_arg0)
@[inherit_doc rX] abbrev rG : FVec Ideal Cert.Reference8Ideal.S1024 .f32 := m ((c.tc : Thread _ Cert.Reference8Ideal.τ).loc Cert.Reference8Ideal.main_arg1)
@[inherit_doc rX] abbrev rW : FVec Ideal Cert.Reference8Ideal.S1024x5632 .f32 := m ((c.tc : Thread _ Cert.Reference8Ideal.τ).loc Cert.Reference8Ideal.main_arg2)
@[inherit_doc rX] abbrev rK : FVec Ideal Cert.Reference8Ideal.S3x5632 .f32 := m ((c.tc : Thread _ Cert.Reference8Ideal.τ).loc Cert.Reference8Ideal.main_arg3)
@[inherit_doc rX] abbrev rB : FVec Ideal Cert.Reference8Ideal.S5632 .f32 := m ((c.tc : Thread _ Cert.Reference8Ideal.τ).loc Cert.Reference8Ideal.main_arg4)

/-- The reference's up-projection, and its convolution. -/
abbrev rUp : FVec Ideal Cert.ReferenceIdeal.S8192x5632 .f32 := proj (sNorm (rX m c) (rG m c)) (rW m c)
@[inherit_doc rUp] abbrev rConv : FVec Ideal Cert.ReferenceIdeal.S8192x5632 .f32 := conv (rUp m c) (rK m c) (rB m c)

end

/-- Both runs end in the same five arrays. -/
theorem algebraic : Cert.algebraic_Kernel8Ideal_Reference8Ideal := by
  intro m g m' g' _ hm
  refine ⟨_, _, _, _, _, run_blocks m g, (θ_run _ _ _).mono (fun r h c => ?_) (Cert.Reference8Ideal.Value.run m' g')⟩
  obtain ⟨h0, h1, h2, h3, h4, args⟩ := h c
  have e0 : rX m' c = aX m c := (hm c).1
  have e1 : rG m' c = aG m c := (hm c).2.1
  have e2 : rW m' c = aW m c := (hm c).2.2.1
  have e3 : rK m' c = aK m c := (hm c).2.2.2.1
  have e4 : rB m' c = aB m c := (hm c).2.2.2.2
  have eu : rUp m' c = up m c := by rw [rUp, e0, e1, e2]
  have ec : rConv m' c = conved m c := by rw [rConv, eu, e3, e4]
  exact ⟨(h0.trans (show _ = val (rUp m' c) from rfl)).trans ((congrArg val eu).trans (arr7 m c).symm),
    (h1.trans (show _ = gate (rUp m' c) from rfl)).trans ((congrArg gate eu).trans (arr8 m c).symm),
    (h2.trans (show _ = val (rConv m' c) from rfl)).trans ((congrArg val ec).trans (arr9 m c).symm),
    (h3.trans (show _ = gate (rConv m' c) from rfl)).trans ((congrArg gate ec).trans (arr10 m c).symm),
    (h4.trans (show _ = act (rConv m' c) from rfl)).trans ((congrArg act ec).trans (arr11 m c).symm), args⟩

end Cert.Fwd.UpConv
end
-- ==== Proof.Opt.Step.lean ====
module

public import Idealize.ShloMosaic.Lib.Pipeline.ValueKit

/-!
# The optimiser's step

One step on a weight, entry by entry, over any shape: the running mean and mean square of the gradient move
towards it, and the weight's change is the corrected mean over the root of the corrected mean square, with the
weight's decay.
-/

@[expose] public section

noncomputable section

open Idealize.ShloMosaic

namespace Cert.Opt

variable {s s' : Shape}

/-- The sum of two parts of a gradient. -/
def grad (a b : FVec Ideal s .bf16) : FVec Ideal s .f32 :=
  fun i => (a i + b i : EReal)

/-- The new running mean, `0.9 m + 0.1 g`. -/
def newM (m g : FVec Ideal s .f32) : FVec Ideal s .f32 :=
  addf (mulf (broadcast s (Scalar.ofBits .f32 0x3F666666#32)) m) (mulf (broadcast s (Scalar.ofBits .f32 0x3DCCCCCD#32)) g)

/-- The new running mean square, `0.999 v + 0.001 g²`. -/
def newV (v g : FVec Ideal s .f32) : FVec Ideal s .f32 :=
  addf (mulf (broadcast s (Scalar.ofBits .f32 0x3F7FBE77#32)) v)
    (mulf (broadcast s (Scalar.ofBits .f32 0x3A83126F#32)) (mulf g g))

/-- The weight's change. -/
def delta (w m v g : FVec Ideal s .f32) : FVec Ideal s .f32 :=
  mulf (broadcast s (Scalar.ofBits .f32 0xBA83126F#32))
    (addf (divf (divf (newM m g) (broadcast s (Scalar.ofBits .f32 0x3F26BD02#32)))
        (addf (sqrt (divf (newV v g) (broadcast s (Scalar.ofBits .f32 0x3C231ACC#32))))
          (broadcast s (Scalar.ofBits .f32 0x322BCC77#32))))
      (mulf (broadcast s (Scalar.ofBits .f32 0x3C23D70A#32)) w))

/-! An entry of each depends on the same entry of the arguments alone, so it is the same at two places that hold the
same values. -/

section
variable {w m v g : FVec Ideal s .f32} {w' m' v' g' : FVec Ideal s' .f32} {i : s.Idx} {j : s'.Idx}

theorem grad_at {a b : FVec Ideal s .bf16} {a' b' : FVec Ideal s' .bf16} (ha : a i = a' j) (hb : b i = b' j) :
    grad a b i = grad a' b' j :=
  congrArg₂ (fun x y : EReal => x + y) ha hb

theorem newM_at (hm : m i = m' j) (hg : g i = g' j) : newM m g i = newM m' g' j :=
  congrArg₂ (fun x y : EReal => Scalar.ofBits (F := Ideal) .f32 0x3F666666#32 * x + Scalar.ofBits (F := Ideal) .f32 0x3DCCCCCD#32 * y) hm hg

theorem newV_at (hv : v i = v' j) (hg : g i = g' j) : newV v g i = newV v' g' j :=
  congrArg₂ (fun x y : EReal => Scalar.ofBits (F := Ideal) .f32 0x3F7FBE77#32 * x + Scalar.ofBits (F := Ideal) .f32 0x3A83126F#32 * (y * y)) hv hg

theorem delta_at (hw : w i = w' j) (hm : m i = m' j) (hv : v i = v' j) (hg : g i = g' j) :
    delta w m v g i = delta w' m' v' g' j := by
  simp only [delta, mulf, addf, divf, sqrt, broadcast, newM_at hm hg, newV_at hv hg, hw]
end

end Cert.Opt
end
-- ==== Proof.Opt.InWeight.lean ====
module

public import proofs.«01_k».proof.Defs
public import proofs.«01_k».proof.Proof.Gen.Kernel9Ideal.Value
public import proofs.«01_k».proof.Proof.Gen.Reference9Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the input projection's weight

A point takes 256 rows of every array.
-/

@[expose] public section

set_option maxRecDepth 16384

noncomputable section

open Idealize.ShloMosaic Idealize.ShloMosaic.TcCoe Idealize.SL.Sem

namespace Cert.Opt.InWeight

open Cert.Kernel9Ideal Cert.Kernel9Ideal.Gen

variable (m : (ℓ : Loc nD τ sig) → Buf (Elt Ideal) ℓ) (c : Dev nD)

/-- The weight, its mean and mean square, and the gradient from its parts, as rows. -/
abbrev aW : FVec Ideal S2048x1152 .f32 := V m c main_v0
@[inherit_doc aW] abbrev aM : FVec Ideal S2048x1152 .f32 := V m c main_v1
@[inherit_doc aW] abbrev aV : FVec Ideal S2048x1152 .f32 := V m c main_v2
@[inherit_doc aW] abbrev aG : FVec Ideal S2048x1152 .f32 := grad (V m c main_v3) (V m c main_v4)

/-- The rows are the arguments' own. -/
theorem rows : (V m c main_v0 = shapeCast S2048x1152 (m ((c : Thread nD τ).loc main_arg0)) shapeCasts_S2x1024x1152_S2048x1152) ∧
    (V m c main_v1 = shapeCast S2048x1152 (m ((c : Thread nD τ).loc main_arg1)) shapeCasts_S2x1024x1152_S2048x1152) ∧
    (V m c main_v2 = shapeCast S2048x1152 (m ((c : Thread nD τ).loc main_arg2)) shapeCasts_S2x1024x1152_S2048x1152) ∧
    (V m c main_v3 = shapeCast S2048x1152 (m ((c : Thread nD τ).loc main_arg3)) shapeCasts_S2x1024x1152_S2048x1152) ∧
    (V m c main_v4 = shapeCast S2048x1152 (m ((c : Thread nD τ).loc main_arg4)) shapeCasts_S2x1024x1152_S2048x1152) := by
  refine ⟨?_, ?_, ?_, ?_, ?_⟩ <;> · simp only [V, hostOps0]; entry_read; rfl

/-- The four values of the body, on a block, are the step's. -/
theorem pay_g (a b : FVec Ideal S256x1152 .bf16) : k0_pay2 (F := Ideal) a b = grad a b := by
  simp only [k0_pay2, shapeCast_self]; rfl
@[inherit_doc pay_g] theorem pay_m (a b : FVec Ideal S256x1152 .bf16) (x : FVec Ideal S256x1152 .f32) :
    k0_pay3 (F := Ideal) a b x = newM x (grad a b) := by
  simp only [k0_pay3, shapeCast_self, pay_g]; rfl
@[inherit_doc pay_g] theorem pay_v (a b : FVec Ideal S256x1152 .bf16) (x : FVec Ideal S256x1152 .f32) :
    k0_pay4 (F := Ideal) a b x = newV x (grad a b) := by
  simp only [k0_pay4, shapeCast_self, pay_g]; rfl
@[inherit_doc pay_g] theorem pay_d (a b : FVec Ideal S256x1152 .bf16) (x y w : FVec Ideal S256x1152 .f32) :
    k0_pay1 (F := Ideal) (k0_pay5 a b x y w) k0_pay6 = delta w x y (grad a b) := by
  simp only [k0_pay1, k0_pay5, k0_pay6, shapeCast_self, pay_m, pay_v]; rfl

/-- The four arrays the kernel leaves are the step on the rows. -/
theorem arr_g : (dats m 0 c).arrAt 5 cfg0.N = aG m c := by
  refine (dats m 0 c).arrAt_eq_of_covers 5 _ (by decide +kernel) fun t hf y => ?_
  blk_simp
  rw [show (dats m 0 c).after 5 t = grad (iblk m c 3 t) (iblk m c 4 t) by rw [after0_5, ← pay_g]; frame_out]
  exact grad_at rfl rfl
@[inherit_doc arr_g] theorem arr_d : (dats m 0 c).arrAt 6 cfg0.N = delta (aW m c) (aM m c) (aV m c) (aG m c) := by
  refine (dats m 0 c).arrAt_eq_of_covers 6 _ (by decide +kernel) fun t hf y => ?_
  blk_simp
  rw [show (dats m 0 c).after 6 t = delta (iblk m c 0 t) (iblk m c 1 t) (iblk m c 2 t) (grad (iblk m c 3 t) (iblk m c 4 t)) by
    rw [after0_6, ← pay_d]; frame_out]
  exact delta_at rfl rfl rfl (grad_at rfl rfl)
@[inherit_doc arr_g] theorem arr_m : (dats m 0 c).arrAt 7 cfg0.N = newM (aM m c) (aG m c) := by
  refine (dats m 0 c).arrAt_eq_of_covers 7 _ (by decide +kernel) fun t hf y => ?_
  blk_simp
  rw [show (dats m 0 c).after 7 t = newM (iblk m c 1 t) (grad (iblk m c 3 t) (iblk m c 4 t)) by rw [after0_7, ← pay_m]; frame_out]
  exact newM_at rfl (grad_at rfl rfl)
@[inherit_doc arr_g] theorem arr_v : (dats m 0 c).arrAt 8 cfg0.N = newV (aV m c) (aG m c) := by
  refine (dats m 0 c).arrAt_eq_of_covers 8 _ (by decide +kernel) fun t hf y => ?_
  blk_simp
  rw [show (dats m 0 c).after 8 t = newV (iblk m c 2 t) (grad (iblk m c 3 t) (iblk m c 4 t)) by rw [after0_8, ← pay_v]; frame_out]
  exact newV_at rfl (grad_at rfl rfl)

/-- The reference runs on the host alone and has no semaphores. -/
theorem frame_reference : Cert.quiescent_Reference9Ideal := fun m g _ =>
  (θ_run _ _ _).mono (fun r h => ⟨fun c => (h c).2.2.2.2, sem_eq_zero_of_no_sems (by decide) r.2⟩)
    (Cert.Reference9Ideal.Value.run m g)

/-- Both runs end in the same four arrays. -/
theorem algebraic : Cert.algebraic_Kernel9Ideal_Reference9Ideal := by
  intro m g m' g' _ hm
  refine ⟨_, _, _, _, Cert.Kernel9Ideal.Value.run_blocks m g,
    (θ_run _ _ _).mono (fun r h c => ?_) (Cert.Reference9Ideal.Value.run m' g')⟩
  obtain ⟨hg, hd, hn, hv, args⟩ := h c
  obtain ⟨e0, e1, e2, e3, e4⟩ := hm c
  obtain ⟨r0, r1, r2, r3, r4⟩ := rows m c
  rw [arr_g, arr_d, arr_m, arr_v, aW, aM, aV, aG, r0, r1, r2, r3, r4, ← e0, ← e1, ← e2, ← e3, ← e4]
  exact ⟨hg, hd, hn, hv, args⟩

end Cert.Opt.InWeight
end
-- ==== Proof.Opt.UpWeight.lean ====
module

public import proofs.«01_k».proof.Defs
public import proofs.«01_k».proof.Proof.Gen.Kernel10Ideal.Value
public import proofs.«01_k».proof.Proof.Gen.Reference10Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the feed-forward block's first weight

A point takes 256 rows of every array.
-/

@[expose] public section

set_option maxRecDepth 16384

noncomputable section

open Idealize.ShloMosaic Idealize.ShloMosaic.TcCoe Idealize.SL.Sem

namespace Cert.Opt.UpWeight

open Cert.Kernel10Ideal Cert.Kernel10Ideal.Gen

variable (m : (ℓ : Loc nD τ sig) → Buf (Elt Ideal) ℓ) (c : Dev nD)

/-- The weight, its mean and mean square, and the gradient from its parts, as rows. -/
abbrev aW : FVec Ideal S2048x1408 .f32 := V m c main_v0
@[inherit_doc aW] abbrev aM : FVec Ideal S2048x1408 .f32 := V m c main_v1
@[inherit_doc aW] abbrev aV : FVec Ideal S2048x1408 .f32 := V m c main_v2
@[inherit_doc aW] abbrev aG : FVec Ideal S2048x1408 .f32 := grad (V m c main_v3) (V m c main_v4)

/-- The rows are the arguments' own. -/
theorem rows : (V m c main_v0 = shapeCast S2048x1408 (m ((c : Thread nD τ).loc main_arg0)) shapeCasts_S2x1024x1408_S2048x1408) ∧
    (V m c main_v1 = shapeCast S2048x1408 (m ((c : Thread nD τ).loc main_arg1)) shapeCasts_S2x1024x1408_S2048x1408) ∧
    (V m c main_v2 = shapeCast S2048x1408 (m ((c : Thread nD τ).loc main_arg2)) shapeCasts_S2x1024x1408_S2048x1408) ∧
    (V m c main_v3 = shapeCast S2048x1408 (m ((c : Thread nD τ).loc main_arg3)) shapeCasts_S2x1024x1408_S2048x1408) ∧
    (V m c main_v4 = shapeCast S2048x1408 (m ((c : Thread nD τ).loc main_arg4)) shapeCasts_S2x1024x1408_S2048x1408) := by
  refine ⟨?_, ?_, ?_, ?_, ?_⟩ <;> · simp only [V, hostOps0]; entry_read; rfl

/-- The four values of the body, on a block, are the step's. -/
theorem pay_g (a b : FVec Ideal S256x1408 .bf16) : k0_pay2 (F := Ideal) a b = grad a b := by
  simp only [k0_pay2, shapeCast_self]; rfl
@[inherit_doc pay_g] theorem pay_m (a b : FVec Ideal S256x1408 .bf16) (x : FVec Ideal S256x1408 .f32) :
    k0_pay3 (F := Ideal) a b x = newM x (grad a b) := by
  simp only [k0_pay3, shapeCast_self, pay_g]; rfl
@[inherit_doc pay_g] theorem pay_v (a b : FVec Ideal S256x1408 .bf16) (x : FVec Ideal S256x1408 .f32) :
    k0_pay4 (F := Ideal) a b x = newV x (grad a b) := by
  simp only [k0_pay4, shapeCast_self, pay_g]; rfl
@[inherit_doc pay_g] theorem pay_d (a b : FVec Ideal S256x1408 .bf16) (x y w : FVec Ideal S256x1408 .f32) :
    k0_pay1 (F := Ideal) (k0_pay5 a b x y w) k0_pay6 = delta w x y (grad a b) := by
  simp only [k0_pay1, k0_pay5, k0_pay6, shapeCast_self, pay_m, pay_v]; rfl

/-- The four arrays the kernel leaves are the step on the rows. -/
theorem arr_g : (dats m 0 c).arrAt 5 cfg0.N = aG m c := by
  refine (dats m 0 c).arrAt_eq_of_covers 5 _ (by decide +kernel) fun t hf y => ?_
  blk_simp
  rw [show (dats m 0 c).after 5 t = grad (iblk m c 3 t) (iblk m c 4 t) by rw [after0_5, ← pay_g]; frame_out]
  exact grad_at rfl rfl
@[inherit_doc arr_g] theorem arr_d : (dats m 0 c).arrAt 6 cfg0.N = delta (aW m c) (aM m c) (aV m c) (aG m c) := by
  refine (dats m 0 c).arrAt_eq_of_covers 6 _ (by decide +kernel) fun t hf y => ?_
  blk_simp
  rw [show (dats m 0 c).after 6 t = delta (iblk m c 0 t) (iblk m c 1 t) (iblk m c 2 t) (grad (iblk m c 3 t) (iblk m c 4 t)) by
    rw [after0_6, ← pay_d]; frame_out]
  exact delta_at rfl rfl rfl (grad_at rfl rfl)
@[inherit_doc arr_g] theorem arr_m : (dats m 0 c).arrAt 7 cfg0.N = newM (aM m c) (aG m c) := by
  refine (dats m 0 c).arrAt_eq_of_covers 7 _ (by decide +kernel) fun t hf y => ?_
  blk_simp
  rw [show (dats m 0 c).after 7 t = newM (iblk m c 1 t) (grad (iblk m c 3 t) (iblk m c 4 t)) by rw [after0_7, ← pay_m]; frame_out]
  exact newM_at rfl (grad_at rfl rfl)
@[inherit_doc arr_g] theorem arr_v : (dats m 0 c).arrAt 8 cfg0.N = newV (aV m c) (aG m c) := by
  refine (dats m 0 c).arrAt_eq_of_covers 8 _ (by decide +kernel) fun t hf y => ?_
  blk_simp
  rw [show (dats m 0 c).after 8 t = newV (iblk m c 2 t) (grad (iblk m c 3 t) (iblk m c 4 t)) by rw [after0_8, ← pay_v]; frame_out]
  exact newV_at rfl (grad_at rfl rfl)

/-- The reference runs on the host alone and has no semaphores. -/
theorem frame_reference : Cert.quiescent_Reference10Ideal := fun m g _ =>
  (θ_run _ _ _).mono (fun r h => ⟨fun c => (h c).2.2.2.2, sem_eq_zero_of_no_sems (by decide) r.2⟩)
    (Cert.Reference10Ideal.Value.run m g)

/-- Both runs end in the same four arrays. -/
theorem algebraic : Cert.algebraic_Kernel10Ideal_Reference10Ideal := by
  intro m g m' g' _ hm
  refine ⟨_, _, _, _, Cert.Kernel10Ideal.Value.run_blocks m g,
    (θ_run _ _ _).mono (fun r h c => ?_) (Cert.Reference10Ideal.Value.run m' g')⟩
  obtain ⟨hg, hd, hn, hv, args⟩ := h c
  obtain ⟨e0, e1, e2, e3, e4⟩ := hm c
  obtain ⟨r0, r1, r2, r3, r4⟩ := rows m c
  rw [arr_g, arr_d, arr_m, arr_v, aW, aM, aV, aG, r0, r1, r2, r3, r4, ← e0, ← e1, ← e2, ← e3, ← e4]
  exact ⟨hg, hd, hn, hv, args⟩

end Cert.Opt.UpWeight
end
-- ==== Proof.Opt.DownWeight.lean ====
module

public import proofs.«01_k».proof.Defs
public import proofs.«01_k».proof.Proof.Gen.Kernel11Ideal.Value
public import proofs.«01_k».proof.Proof.Gen.Reference11Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the feed-forward block's second weight

A point takes 128 rows of every array.
-/

@[expose] public section

set_option maxRecDepth 16384

noncomputable section

open Idealize.ShloMosaic Idealize.ShloMosaic.TcCoe Idealize.SL.Sem

namespace Cert.Opt.DownWeight

open Cert.Kernel11Ideal Cert.Kernel11Ideal.Gen

variable (m : (ℓ : Loc nD τ sig) → Buf (Elt Ideal) ℓ) (c : Dev nD)

/-- The weight, its mean and mean square, and the gradient from its parts, as rows. -/
abbrev aW : FVec Ideal S1408x1024 .f32 := V m c main_v0
@[inherit_doc aW] abbrev aM : FVec Ideal S1408x1024 .f32 := V m c main_v1
@[inherit_doc aW] abbrev aV : FVec Ideal S1408x1024 .f32 := V m c main_v2
@[inherit_doc aW] abbrev aG : FVec Ideal S1408x1024 .f32 := grad (V m c main_v3) (V m c main_v4)

/-- The rows are the arguments' own. -/
theorem rows : (V m c main_v0 = shapeCast S1408x1024 (m ((c : Thread nD τ).loc main_arg0)) shapeCasts_S2x704x1024_S1408x1024) ∧
    (V m c main_v1 = shapeCast S1408x1024 (m ((c : Thread nD τ).loc main_arg1)) shapeCasts_S2x704x1024_S1408x1024) ∧
    (V m c main_v2 = shapeCast S1408x1024 (m ((c : Thread nD τ).loc main_arg2)) shapeCasts_S2x704x1024_S1408x1024) ∧
    (V m c main_v3 = shapeCast S1408x1024 (m ((c : Thread nD τ).loc main_arg3)) shapeCasts_S2x704x1024_S1408x1024) ∧
    (V m c main_v4 = shapeCast S1408x1024 (m ((c : Thread nD τ).loc main_arg4)) shapeCasts_S2x704x1024_S1408x1024) := by
  refine ⟨?_, ?_, ?_, ?_, ?_⟩ <;> · simp only [V, hostOps0]; entry_read; rfl

/-- The four values of the body, on a block, are the step's. -/
theorem pay_g (a b : FVec Ideal S128x1024 .bf16) : k0_pay2 (F := Ideal) a b = grad a b := by
  simp only [k0_pay2, shapeCast_self]; rfl
@[inherit_doc pay_g] theorem pay_m (a b : FVec Ideal S128x1024 .bf16) (x : FVec Ideal S128x1024 .f32) :
    k0_pay3 (F := Ideal) a b x = newM x (grad a b) := by
  simp only [k0_pay3, shapeCast_self, pay_g]; rfl
@[inherit_doc pay_g] theorem pay_v (a b : FVec Ideal S128x1024 .bf16) (x : FVec Ideal S128x1024 .f32) :
    k0_pay4 (F := Ideal) a b x = newV x (grad a b) := by
  simp only [k0_pay4, shapeCast_self, pay_g]; rfl
@[inherit_doc pay_g] theorem pay_d (a b : FVec Ideal S128x1024 .bf16) (x y w : FVec Ideal S128x1024 .f32) :
    k0_pay1 (F := Ideal) (k0_pay5 a b x y w) k0_pay6 = delta w x y (grad a b) := by
  simp only [k0_pay1, k0_pay5, k0_pay6, shapeCast_self, pay_m, pay_v]; rfl

/-- The four arrays the kernel leaves are the step on the rows. -/
theorem arr_g : (dats m 0 c).arrAt 5 cfg0.N = aG m c := by
  refine (dats m 0 c).arrAt_eq_of_covers 5 _ (by decide +kernel) fun t hf y => ?_
  blk_simp
  rw [show (dats m 0 c).after 5 t = grad (iblk m c 3 t) (iblk m c 4 t) by rw [after0_5, ← pay_g]; frame_out]
  exact grad_at rfl rfl
@[inherit_doc arr_g] theorem arr_d : (dats m 0 c).arrAt 6 cfg0.N = delta (aW m c) (aM m c) (aV m c) (aG m c) := by
  refine (dats m 0 c).arrAt_eq_of_covers 6 _ (by decide +kernel) fun t hf y => ?_
  blk_simp
  rw [show (dats m 0 c).after 6 t = delta (iblk m c 0 t) (iblk m c 1 t) (iblk m c 2 t) (grad (iblk m c 3 t) (iblk m c 4 t)) by
    rw [after0_6, ← pay_d]; frame_out]
  exact delta_at rfl rfl rfl (grad_at rfl rfl)
@[inherit_doc arr_g] theorem arr_m : (dats m 0 c).arrAt 7 cfg0.N = newM (aM m c) (aG m c) := by
  refine (dats m 0 c).arrAt_eq_of_covers 7 _ (by decide +kernel) fun t hf y => ?_
  blk_simp
  rw [show (dats m 0 c).after 7 t = newM (iblk m c 1 t) (grad (iblk m c 3 t) (iblk m c 4 t)) by rw [after0_7, ← pay_m]; frame_out]
  exact newM_at rfl (grad_at rfl rfl)
@[inherit_doc arr_g] theorem arr_v : (dats m 0 c).arrAt 8 cfg0.N = newV (aV m c) (aG m c) := by
  refine (dats m 0 c).arrAt_eq_of_covers 8 _ (by decide +kernel) fun t hf y => ?_
  blk_simp
  rw [show (dats m 0 c).after 8 t = newV (iblk m c 2 t) (grad (iblk m c 3 t) (iblk m c 4 t)) by rw [after0_8, ← pay_v]; frame_out]
  exact newV_at rfl (grad_at rfl rfl)

/-- The reference runs on the host alone and has no semaphores. -/
theorem frame_reference : Cert.quiescent_Reference11Ideal := fun m g _ =>
  (θ_run _ _ _).mono (fun r h => ⟨fun c => (h c).2.2.2.2, sem_eq_zero_of_no_sems (by decide) r.2⟩)
    (Cert.Reference11Ideal.Value.run m g)

/-- Both runs end in the same four arrays. -/
theorem algebraic : Cert.algebraic_Kernel11Ideal_Reference11Ideal := by
  intro m g m' g' _ hm
  refine ⟨_, _, _, _, Cert.Kernel11Ideal.Value.run_blocks m g,
    (θ_run _ _ _).mono (fun r h c => ?_) (Cert.Reference11Ideal.Value.run m' g')⟩
  obtain ⟨hg, hd, hn, hv, args⟩ := h c
  obtain ⟨e0, e1, e2, e3, e4⟩ := hm c
  obtain ⟨r0, r1, r2, r3, r4⟩ := rows m c
  rw [arr_g, arr_d, arr_m, arr_v, aW, aM, aV, aG, r0, r1, r2, r3, r4, ← e0, ← e1, ← e2, ← e3, ← e4]
  exact ⟨hg, hd, hn, hv, args⟩

end Cert.Opt.DownWeight
end
-- ==== Proof.Opt.OutWeight.lean ====
module

public import proofs.«01_k».proof.Defs
public import proofs.«01_k».proof.Proof.Gen.Kernel12Ideal.Value
public import proofs.«01_k».proof.Proof.Gen.Reference12Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the mixing block's output weight

A point takes 256 rows of every array.
-/

@[expose] public section

set_option maxRecDepth 16384

noncomputable section

open Idealize.ShloMosaic Idealize.ShloMosaic.TcCoe Idealize.SL.Sem

namespace Cert.Opt.OutWeight

open Cert.Kernel12Ideal Cert.Kernel12Ideal.Gen

variable (m : (ℓ : Loc nD τ sig) → Buf (Elt Ideal) ℓ) (c : Dev nD)

/-- The weight, its mean and mean square, and the gradient from its parts, as rows. -/
abbrev aW : FVec Ideal S512x1024 .f32 := V m c main_v0
@[inherit_doc aW] abbrev aM : FVec Ideal S512x1024 .f32 := V m c main_v1
@[inherit_doc aW] abbrev aV : FVec Ideal S512x1024 .f32 := V m c main_v2
@[inherit_doc aW] abbrev aG : FVec Ideal S512x1024 .f32 := grad (V m c main_v3) (V m c main_v4)

/-- The rows are the arguments' own. -/
theorem rows : (V m c main_v0 = shapeCast S512x1024 (m ((c : Thread nD τ).loc main_arg0)) shapeCasts_S2x256x1024_S512x1024) ∧
    (V m c main_v1 = shapeCast S512x1024 (m ((c : Thread nD τ).loc main_arg1)) shapeCasts_S2x256x1024_S512x1024) ∧
    (V m c main_v2 = shapeCast S512x1024 (m ((c : Thread nD τ).loc main_arg2)) shapeCasts_S2x256x1024_S512x1024) ∧
    (V m c main_v3 = shapeCast S512x1024 (m ((c : Thread nD τ).loc main_arg3)) shapeCasts_S2x256x1024_S512x1024) ∧
    (V m c main_v4 = shapeCast S512x1024 (m ((c : Thread nD τ).loc main_arg4)) shapeCasts_S2x256x1024_S512x1024) := by
  refine ⟨?_, ?_, ?_, ?_, ?_⟩ <;> · simp only [V, hostOps0]; entry_read; rfl

/-- The four values of the body, on a block, are the step's. -/
theorem pay_g (a b : FVec Ideal S256x1024 .bf16) : k0_pay2 (F := Ideal) a b = grad a b := by
  simp only [k0_pay2, shapeCast_self]; rfl
@[inherit_doc pay_g] theorem pay_m (a b : FVec Ideal S256x1024 .bf16) (x : FVec Ideal S256x1024 .f32) :
    k0_pay3 (F := Ideal) a b x = newM x (grad a b) := by
  simp only [k0_pay3, shapeCast_self, pay_g]; rfl
@[inherit_doc pay_g] theorem pay_v (a b : FVec Ideal S256x1024 .bf16) (x : FVec Ideal S256x1024 .f32) :
    k0_pay4 (F := Ideal) a b x = newV x (grad a b) := by
  simp only [k0_pay4, shapeCast_self, pay_g]; rfl
@[inherit_doc pay_g] theorem pay_d (a b : FVec Ideal S256x1024 .bf16) (x y w : FVec Ideal S256x1024 .f32) :
    k0_pay1 (F := Ideal) (k0_pay5 a b x y w) k0_pay6 = delta w x y (grad a b) := by
  simp only [k0_pay1, k0_pay5, k0_pay6, shapeCast_self, pay_m, pay_v]; rfl

/-- The four arrays the kernel leaves are the step on the rows. -/
theorem arr_g : (dats m 0 c).arrAt 5 cfg0.N = aG m c := by
  refine (dats m 0 c).arrAt_eq_of_covers 5 _ (by decide +kernel) fun t hf y => ?_
  blk_simp
  rw [show (dats m 0 c).after 5 t = grad (iblk m c 3 t) (iblk m c 4 t) by rw [after0_5, ← pay_g]; frame_out]
  exact grad_at rfl rfl
@[inherit_doc arr_g] theorem arr_d : (dats m 0 c).arrAt 6 cfg0.N = delta (aW m c) (aM m c) (aV m c) (aG m c) := by
  refine (dats m 0 c).arrAt_eq_of_covers 6 _ (by decide +kernel) fun t hf y => ?_
  blk_simp
  rw [show (dats m 0 c).after 6 t = delta (iblk m c 0 t) (iblk m c 1 t) (iblk m c 2 t) (grad (iblk m c 3 t) (iblk m c 4 t)) by
    rw [after0_6, ← pay_d]; frame_out]
  exact delta_at rfl rfl rfl (grad_at rfl rfl)
@[inherit_doc arr_g] theorem arr_m : (dats m 0 c).arrAt 7 cfg0.N = newM (aM m c) (aG m c) := by
  refine (dats m 0 c).arrAt_eq_of_covers 7 _ (by decide +kernel) fun t hf y => ?_
  blk_simp
  rw [show (dats m 0 c).after 7 t = newM (iblk m c 1 t) (grad (iblk m c 3 t) (iblk m c 4 t)) by rw [after0_7, ← pay_m]; frame_out]
  exact newM_at rfl (grad_at rfl rfl)
@[inherit_doc arr_g] theorem arr_v : (dats m 0 c).arrAt 8 cfg0.N = newV (aV m c) (aG m c) := by
  refine (dats m 0 c).arrAt_eq_of_covers 8 _ (by decide +kernel) fun t hf y => ?_
  blk_simp
  rw [show (dats m 0 c).after 8 t = newV (iblk m c 2 t) (grad (iblk m c 3 t) (iblk m c 4 t)) by rw [after0_8, ← pay_v]; frame_out]
  exact newV_at rfl (grad_at rfl rfl)

/-- The reference runs on the host alone and has no semaphores. -/
theorem frame_reference : Cert.quiescent_Reference12Ideal := fun m g _ =>
  (θ_run _ _ _).mono (fun r h => ⟨fun c => (h c).2.2.2.2, sem_eq_zero_of_no_sems (by decide) r.2⟩)
    (Cert.Reference12Ideal.Value.run m g)

/-- Both runs end in the same four arrays. -/
theorem algebraic : Cert.algebraic_Kernel12Ideal_Reference12Ideal := by
  intro m g m' g' _ hm
  refine ⟨_, _, _, _, Cert.Kernel12Ideal.Value.run_blocks m g,
    (θ_run _ _ _).mono (fun r h c => ?_) (Cert.Reference12Ideal.Value.run m' g')⟩
  obtain ⟨hg, hd, hn, hv, args⟩ := h c
  obtain ⟨e0, e1, e2, e3, e4⟩ := hm c
  obtain ⟨r0, r1, r2, r3, r4⟩ := rows m c
  rw [arr_g, arr_d, arr_m, arr_v, aW, aM, aV, aG, r0, r1, r2, r3, r4, ← e0, ← e1, ← e2, ← e3, ← e4]
  exact ⟨hg, hd, hn, hv, args⟩

end Cert.Opt.OutWeight
end
-- ==== Proof.Opt.MixWeight.lean ====
module

public import proofs.«01_k».proof.Defs
public import proofs.«01_k».proof.Proof.Gen.Kernel13Ideal.Value
public import proofs.«01_k».proof.Proof.Gen.Reference13Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the projection of one of the two mixers, whose weights have one shape

One point takes all rows of every array.
-/

@[expose] public section

set_option maxRecDepth 16384

noncomputable section

open Idealize.ShloMosaic Idealize.ShloMosaic.TcCoe Idealize.SL.Sem

namespace Cert.Opt.MixWeight

open Cert.Kernel13Ideal Cert.Kernel13Ideal.Gen

variable (m : (ℓ : Loc nD τ sig) → Buf (Elt Ideal) ℓ) (c : Dev nD)

/-- The weight, its mean and mean square, and the gradient from its parts, as rows. -/
abbrev aW : FVec Ideal S1024x256 .f32 := V m c main_v0
@[inherit_doc aW] abbrev aM : FVec Ideal S1024x256 .f32 := V m c main_v1
@[inherit_doc aW] abbrev aV : FVec Ideal S1024x256 .f32 := V m c main_v2
@[inherit_doc aW] abbrev aG : FVec Ideal S1024x256 .f32 := grad (V m c main_v3) (V m c main_v4)

/-- The rows are the arguments' own. -/
theorem rows : (V m c main_v0 = shapeCast S1024x256 (m ((c : Thread nD τ).loc main_arg0)) shapeCasts_S2x512x256_S1024x256) ∧
    (V m c main_v1 = shapeCast S1024x256 (m ((c : Thread nD τ).loc main_arg1)) shapeCasts_S2x512x256_S1024x256) ∧
    (V m c main_v2 = shapeCast S1024x256 (m ((c : Thread nD τ).loc main_arg2)) shapeCasts_S2x512x256_S1024x256) ∧
    (V m c main_v3 = shapeCast S1024x256 (m ((c : Thread nD τ).loc main_arg3)) shapeCasts_S2x512x256_S1024x256) ∧
    (V m c main_v4 = shapeCast S1024x256 (m ((c : Thread nD τ).loc main_arg4)) shapeCasts_S2x512x256_S1024x256) := by
  refine ⟨?_, ?_, ?_, ?_, ?_⟩ <;> · simp only [V, hostOps0]; entry_read; rfl

/-- The four values of the body, on a block, are the step's. -/
theorem pay_g (a b : FVec Ideal S1024x256 .bf16) : k0_pay2 (F := Ideal) a b = grad a b := by
  simp only [k0_pay2, shapeCast_self]; rfl
@[inherit_doc pay_g] theorem pay_m (a b : FVec Ideal S1024x256 .bf16) (x : FVec Ideal S1024x256 .f32) :
    k0_pay3 (F := Ideal) a b x = newM x (grad a b) := by
  simp only [k0_pay3, shapeCast_self, pay_g]; rfl
@[inherit_doc pay_g] theorem pay_v (a b : FVec Ideal S1024x256 .bf16) (x : FVec Ideal S1024x256 .f32) :
    k0_pay4 (F := Ideal) a b x = newV x (grad a b) := by
  simp only [k0_pay4, shapeCast_self, pay_g]; rfl
@[inherit_doc pay_g] theorem pay_d (a b : FVec Ideal S1024x256 .bf16) (x y w : FVec Ideal S1024x256 .f32) :
    k0_pay1 (F := Ideal) (k0_pay5 a b x y w) k0_pay6 = delta w x y (grad a b) := by
  simp only [k0_pay1, k0_pay5, k0_pay6, shapeCast_self, pay_m, pay_v]; rfl

/-- The four arrays the kernel leaves are the step on the rows. -/
theorem arr_g : (dats m 0 c).arrAt 5 cfg0.N = aG m c := by
  refine (dats m 0 c).arrAt_eq_of_covers 5 _ (by decide +kernel) fun t hf y => ?_
  blk_simp
  rw [show (dats m 0 c).after 5 t = grad (iblk m c 3 t) (iblk m c 4 t) by rw [after0_5, ← pay_g]; frame_out]
  exact grad_at rfl rfl
@[inherit_doc arr_g] theorem arr_d : (dats m 0 c).arrAt 6 cfg0.N = delta (aW m c) (aM m c) (aV m c) (aG m c) := by
  refine (dats m 0 c).arrAt_eq_of_covers 6 _ (by decide +kernel) fun t hf y => ?_
  blk_simp
  rw [show (dats m 0 c).after 6 t = delta (iblk m c 0 t) (iblk m c 1 t) (iblk m c 2 t) (grad (iblk m c 3 t) (iblk m c 4 t)) by
    rw [after0_6, ← pay_d]; frame_out]
  exact delta_at rfl rfl rfl (grad_at rfl rfl)
@[inherit_doc arr_g] theorem arr_m : (dats m 0 c).arrAt 7 cfg0.N = newM (aM m c) (aG m c) := by
  refine (dats m 0 c).arrAt_eq_of_covers 7 _ (by decide +kernel) fun t hf y => ?_
  blk_simp
  rw [show (dats m 0 c).after 7 t = newM (iblk m c 1 t) (grad (iblk m c 3 t) (iblk m c 4 t)) by rw [after0_7, ← pay_m]; frame_out]
  exact newM_at rfl (grad_at rfl rfl)
@[inherit_doc arr_g] theorem arr_v : (dats m 0 c).arrAt 8 cfg0.N = newV (aV m c) (aG m c) := by
  refine (dats m 0 c).arrAt_eq_of_covers 8 _ (by decide +kernel) fun t hf y => ?_
  blk_simp
  rw [show (dats m 0 c).after 8 t = newV (iblk m c 2 t) (grad (iblk m c 3 t) (iblk m c 4 t)) by rw [after0_8, ← pay_v]; frame_out]
  exact newV_at rfl (grad_at rfl rfl)

/-- The reference runs on the host alone and has no semaphores. -/
theorem frame_reference : Cert.quiescent_Reference13Ideal := fun m g _ =>
  (θ_run _ _ _).mono (fun r h => ⟨fun c => (h c).2.2.2.2, sem_eq_zero_of_no_sems (by decide) r.2⟩)
    (Cert.Reference13Ideal.Value.run m g)

/-- Both runs end in the same four arrays. -/
theorem algebraic : Cert.algebraic_Kernel13Ideal_Reference13Ideal := by
  intro m g m' g' _ hm
  refine ⟨_, _, _, _, Cert.Kernel13Ideal.Value.run_blocks m g,
    (θ_run _ _ _).mono (fun r h c => ?_) (Cert.Reference13Ideal.Value.run m' g')⟩
  obtain ⟨hg, hd, hn, hv, args⟩ := h c
  obtain ⟨e0, e1, e2, e3, e4⟩ := hm c
  obtain ⟨r0, r1, r2, r3, r4⟩ := rows m c
  rw [arr_g, arr_d, arr_m, arr_v, aW, aM, aV, aG, r0, r1, r2, r3, r4, ← e0, ← e1, ← e2, ← e3, ← e4]
  exact ⟨hg, hd, hn, hv, args⟩

end Cert.Opt.MixWeight
end
-- ==== Proof.Opt.ConvWeight.lean ====
module

public import proofs.«01_k».proof.Defs
public import proofs.«01_k».proof.Proof.Gen.Kernel14Ideal.Value
public import proofs.«01_k».proof.Proof.Gen.Reference14Ideal.Run
public import proofs.«01_k».proof.Proof.Opt.Step
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

/-!
# The optimiser's step on the convolution's weight

One point takes all rows. The gradient has one part.
-/

@[expose] public section

set_option maxRecDepth 16384

noncomputable section

open Idealize.ShloMosaic Idealize.ShloMosaic.TcCoe Idealize.SL.Sem

namespace Cert.Opt.ConvWeight

open Cert.Kernel14Ideal Cert.Kernel14Ideal.Gen

variable (m : (ℓ : Loc nD τ sig) → Buf (Elt Ideal) ℓ) (c : Dev nD)

/-- The weight, its mean and mean square, and the gradient, as rows. -/
abbrev aW : FVec Ideal S6x1408 .f32 := V m c main_v0
@[inherit_doc aW] abbrev aM : FVec Ideal S6x1408 .f32 := V m c main_v1
@[inherit_doc aW] abbrev aV : FVec Ideal S6x1408 .f32 := V m c main_v2
@[inherit_doc aW] abbrev aG : FVec Ideal S6x1408 .f32 := V m c main_v3

/-- The rows are the arguments' own. -/
theorem rows : (V m c main_v0 = shapeCast S6x1408 (m ((c : Thread nD τ).loc main_arg0)) shapeCasts_S2x3x1408_S6x1408) ∧
    (V m c main_v1 = shapeCast S6x1408 (m ((c : Thread nD τ).loc main_arg1)) shapeCasts_S2x3x1408_S6x1408) ∧
    (V m c main_v2 = shapeCast S6x1408 (m ((c : Thread nD τ).loc main_arg2)) shapeCasts_S2x3x1408_S6x1408) ∧
    (V m c main_v3 = shapeCast S6x1408 (m ((c : Thread nD τ).loc main_arg3)) shapeCasts_S2x3x1408_S6x1408) := by
  refine ⟨?_, ?_, ?_, ?_⟩ <;> · simp only [V, hostOps0]; entry_read; rfl

/-- The four values of the body, on a block, are the step's. -/
theorem pay_g (g : FVec Ideal S6x1408 .f32) : k0_pay1 (F := Ideal) g = g := by
  simp only [k0_pay1, shapeCast_self]
@[inherit_doc pay_g] theorem pay_m (g x : FVec Ideal S6x1408 .f32) : k0_pay2 (F := Ideal) g x = newM x g := by
  simp only [k0_pay2, shapeCast_self, pay_g]; rfl
@[inherit_doc pay_g] theorem pay_v (g x : FVec Ideal S6x1408 .f32) : k0_pay3 (F := Ideal) g x = newV x g := by
  simp only [k0_pay3, shapeCast_self, pay_g]; rfl
@[inherit_doc pay_g] theorem pay_d (g x y w : FVec Ideal S6x1408 .f32) : k0_pay4 (F := Ideal) g x y w = delta w x y g := by
  simp only [k0_pay4, shapeCast_self, pay_m, pay_v]; rfl

/-- The four arrays the kernel leaves are the step on the rows. -/
theorem arr_g : (dats m 0 c).arrAt 4 cfg0.N = aG m c := by
  refine (dats m 0 c).arrAt_eq_of_covers 4 _ (by decide +kernel) fun t hf y => ?_
  blk_simp
  rw [show (dats m 0 c).after 4 t = k0_pay1 (iblk m c 3 t) by rw [after0_4]; frame_out, pay_g]
  rfl
@[inherit_doc arr_g] theorem arr_d : (dats m 0 c).arrAt 5 cfg0.N = delta (aW m c) (aM m c) (aV m c) (aG m c) := by
  refine (dats m 0 c).arrAt_eq_of_covers 5 _ (by decide +kernel) fun t hf y => ?_
  blk_simp
  rw [show (dats m 0 c).after 5 t = delta (iblk m c 0 t) (iblk m c 1 t) (iblk m c 2 t) (iblk m c 3 t) by
    rw [after0_5, ← pay_d]; frame_out]
  exact delta_at rfl rfl rfl rfl
@[inherit_doc arr_g] theorem arr_m : (dats m 0 c).arrAt 6 cfg0.N = newM (aM m c) (aG m c) := by
  refine (dats m 0 c).arrAt_eq_of_covers 6 _ (by decide +kernel) fun t hf y => ?_
  blk_simp
  rw [show (dats m 0 c).after 6 t = newM (iblk m c 1 t) (iblk m c 3 t) by rw [after0_6, ← pay_m]; frame_out]
  exact newM_at rfl rfl
@[inherit_doc arr_g] theorem arr_v : (dats m 0 c).arrAt 7 cfg0.N = newV (aV m c) (aG m c) := by
  refine (dats m 0 c).arrAt_eq_of_covers 7 _ (by decide +kernel) fun t hf y => ?_
  blk_simp
  rw [show (dats m 0 c).after 7 t = newV (iblk m c 2 t) (iblk m c 3 t) by rw [after0_7, ← pay_v]; frame_out]
  exact newV_at rfl rfl

/-- The reference runs on the host alone and has no semaphores. -/
theorem frame_reference : Cert.quiescent_Reference14Ideal := fun m g _ =>
  (θ_run _ _ _).mono (fun r h => ⟨fun c => (h c).2.2.2.2, sem_eq_zero_of_no_sems (by decide) r.2⟩)
    (Cert.Reference14Ideal.Value.run m g)

/-- Both runs end in the same four arrays. -/
theorem algebraic : Cert.algebraic_Kernel14Ideal_Reference14Ideal := by
  intro m g m' g' _ hm
  refine ⟨_, _, _, _, Cert.Kernel14Ideal.Value.run_blocks m g,
    (θ_run _ _ _).mono (fun r h c => ?_) (Cert.Reference14Ideal.Value.run m' g')⟩
  obtain ⟨hg, hd, hn, hv, args⟩ := h c
  obtain ⟨e0, e1, e2, e3⟩ := hm c
  obtain ⟨r0, r1, r2, r3⟩ := rows m c
  rw [arr_g, arr_d, arr_m, arr_v, aW, aM, aV, aG, r0, r1, r2, r3, ← e0, ← e1, ← e2, ← e3]
  exact ⟨hg, hd, hn, hv, args⟩

end Cert.Opt.ConvWeight
end
-- ==== Proof.Opt.Pack.lean ====
module

public import Idealize.ShloMosaic.Lib.Pipeline.ValueKit
public import Idealize.ShloMosaic.Lib.Pointwise

/-!
# A function taken entry by entry on arrays laid end to end

Four families of arrays, of the same shapes, are each laid end to end. A function of four entries is then the same on the
long arrays as on the pieces, piece by piece.
-/

@[expose] public section

noncomputable section

open Idealize.ShloMosaic

namespace Cert.Opt

variable {α : Type} {t : Shape} (a : Fin t.rank) (f : (Fin 4 → α) → α)

/-- The pieces of one family. -/
def family (k : Fin 4) (ps : List ((s : Shape) × (Fin 4 → s.Idx → α))) : List ((s : Shape) × (s.Idx → α)) :=
  ps.map fun p => ⟨p.1, p.2 k⟩

/-- The function on each piece. -/
def steps (ps : List ((s : Shape) × (Fin 4 → s.Idx → α))) : List ((s : Shape) × (s.Idx → α)) :=
  ps.map fun p => ⟨p.1, fun i => f fun k => p.2 k i⟩

theorem concatenateAt_steps (j : t.Idx) : ∀ (ps : List ((s : Shape) × (Fin 4 → s.Idx → α)))
    (hs : ∀ s ∈ (steps f ps).map (·.1), s.FitsOff t a) (hk : ∀ k, ∀ s ∈ (family k ps).map (·.1), s.FitsOff t a) (c : Nat)
    (hc : c < (axisSizes t a (steps f ps)).sum) (hd : ∀ k, c < (axisSizes t a (family k ps)).sum),
    concatenateAt t a j (steps f ps) hs c hc = f fun k => concatenateAt t a j (family k ps) (hk k) c (hd k)
  | [], _, _, _, hc, _ => absurd hc (Nat.not_lt_zero _)
  | [p], hs, hk, c, hc, hd => by
    simp only [steps, family, List.map_cons, List.map_nil, concatenateAt_singleton]
  | p :: q :: ps, hs, hk, c, hc, hd => by
    have hp : p.1.FitsOff t a := hs p.1 List.mem_cons_self
    have ec : (axisSizes t a (steps f (p :: q :: ps))).sum = p.1.size (a.cast hp.rank_eq.symm) + (axisSizes t a (steps f (q :: ps))).sum :=
      (congrArg List.sum (axisSizes_cons t a ⟨p.1, fun i => f fun k => p.2 k i⟩ (steps f (q :: ps)) hp)).trans List.sum_cons
    have ed : ∀ k, (axisSizes t a (family k (p :: q :: ps))).sum
        = p.1.size (a.cast hp.rank_eq.symm) + (axisSizes t a (family k (q :: ps))).sum := fun k =>
      (congrArg List.sum (axisSizes_cons t a ⟨p.1, p.2 k⟩ (family k (q :: ps)) hp)).trans List.sum_cons
    have hc' := ec ▸ hc
    have hd' := fun k => ed k ▸ hd k
    simp only [steps, family, List.map_cons, concatenateAt_cons]
    split
    · rfl
    · rename_i hn
      have hn := Nat.le_of_not_lt hn
      exact concatenateAt_steps j (q :: ps) (fun s h => hs s (List.mem_cons_of_mem _ h))
          (fun k s h => hk k s (List.mem_cons_of_mem _ h)) _ (Nat.sub_lt_left_of_lt_add hn hc')
          fun k => Nat.sub_lt_left_of_lt_add hn (hd' k)

/-- The function on the long arrays. -/
theorem concatenate_steps (ps : List ((s : Shape) × (Fin 4 → s.Idx → α)))
    (h : Shape.Concatenates ((steps f ps).map (·.1)) t a) (hk : ∀ k, Shape.Concatenates ((family k ps).map (·.1)) t a) (j : t.Idx) :
    concatenate t a (steps f ps) h j = f fun k => concatenate t a (family k ps) (hk k) j := by
  rw [concatenate_apply]
  simp only [concatenate_apply t a (family _ ps)]
  exact concatenateAt_steps a f j ps _ _ _ _ _

/-- The function on padded pieces, if it keeps the padding's value. -/
theorem pad_steps {s u : Shape} (lo hi interior : Fin s.rank → Nat) (x : Fin 4 → s.Idx → α) (v : u.Idx → α)
    (h : s.Pads lo hi interior t) (hu : 0 < u.numel) (hv : (f fun _ => v (Shape.Idx.first hu)) = v (Shape.Idx.first hu)) :
    pad t lo hi interior (fun i => f fun k => x k i) v h hu = fun j => f fun k => pad t lo hi interior (x k) v h hu j := by
  funext j
  simp only [pad]
  split
  · rfl
  · exact hv.symm

end Cert.Opt
end
-- ==== Proof.Opt.SmallWeights.lean ====
module

public import proofs.«01_k».proof.Defs
public import proofs.«01_k».proof.Proof.Gen.Kernel15Ideal.Value
public import proofs.«01_k».proof.Proof.Gen.Reference15Ideal.Run
public import proofs.«01_k».proof.Proof.Opt.Step
public import proofs.«01_k».proof.Proof.Opt.Pack
public import Idealize.ShloMosaic.Lib.IdealHost
public import Idealize.ShloMosaic.Lib.Pipeline.ReadBack
public import Idealize.ShloMosaic.Lib.Claim
public import Idealize.ShloMosaic.Adequacy
public import Idealize.ShloMosaic.Init

/-!
# The optimiser's step on the nine small weights

The kernel lays the weights end to end, with zeros after one that does not fill its lines, and takes one step on the
whole; the reference takes a step on each weight and lays the results end to end. A step on zeros alone is zero, so both
end in the same arrays.
-/

@[expose] public section

set_option maxRecDepth 16384

noncomputable section

open Idealize.ShloMosaic Idealize.ShloMosaic.TcCoe Idealize.SL.Sem

namespace Cert.Opt.SmallWeights

open Cert.Kernel15Ideal Cert.Kernel15Ideal.Gen

/-- An array for each of the nine weights. -/
structure Small where
  norm1 : FVec Ideal S2x1024 .f32
  gate : FVec Ideal S2x2048 .f32
  pool : FVec Ideal S2x4x128x128 .f32
  scale : FVec Ideal S2x512 .f32
  logits : FVec Ideal S2x512 .f32
  hgrn : FVec Ideal S2x128 .f32
  norm2 : FVec Ideal S2x1024 .f32
  bias : FVec Ideal S2x5632 .f32
  final : FVec Ideal S1024 .f32

/-- The nine arrays end to end. -/
def packed (x : Small) : FVec Ideal S1208x128 .f32 := shapeCast S1208x128 (concatenate S154624 0
   [⟨S2048, shapeCast S2048 x.norm1 shapeCasts_S2x1024_S2048⟩,
    ⟨S4096, shapeCast S4096 x.gate shapeCasts_S2x2048_S4096⟩,
    ⟨S131072, shapeCast S131072 x.pool shapeCasts_S2x4x128x128_S131072⟩,
    ⟨S1024, shapeCast S1024 x.scale shapeCasts_S2x512_S1024⟩,
    ⟨S1024, shapeCast S1024 x.logits shapeCasts_S2x512_S1024⟩,
    ⟨S1024, pad S1024 ![0] ![768] ![0] (shapeCast S256 x.hgrn shapeCasts_S2x128_S256)
      (sitofp (F := Ideal) .f32 (constantI S_ 32 0#32)) pads_S256_S1024_07680 h_S_⟩,
    ⟨S2048, shapeCast S2048 x.norm2 shapeCasts_S2x1024_S2048⟩,
    ⟨S11264, shapeCast S11264 x.bias shapeCasts_S2x5632_S11264⟩,
    ⟨S1024, x.final⟩]
  concatenates_S2048_S4096_S131072_S1024_S1024_S1024_S2048_S11264_S1024_S154624_d0) shapeCasts_S154624_S1208x128

/-- A function of a weight, its two moments and its gradient, on each weight. -/
def each (f : (Fin 4 → EReal) → EReal) (x : Fin 4 → Small) : Small :=
  ⟨fun i => f fun k => (x k).norm1 i, fun i => f fun k => (x k).gate i, fun i => f fun k => (x k).pool i, fun i => f fun k => (x k).scale i, fun i => f fun k => (x k).logits i, fun i => f fun k => (x k).hgrn i, fun i => f fun k => (x k).norm2 i, fun i => f fun k => (x k).bias i, fun i => f fun k => (x k).final i⟩

/-- Equal lists of pieces give equal arrays. -/
theorem concatenate_congr {α : Type} {t : Shape} {a : Fin t.rank} {p q : List ((s : Shape) × (s.Idx → α))} (e : p = q)
    (hp : t.Concatenates (p.map (·.1)) a) (hq : t.Concatenates (q.map (·.1)) a) (j : t.Idx) :
    concatenate t a p hp j = concatenate t a q hq j := by
  subst e
  rfl

/-- A function that is zero on zeros is the same on the long arrays as on each weight. -/
theorem packed_each (f : (Fin 4 → EReal) → EReal) (hf : (f fun _ => 0) = 0) (x : Fin 4 → Small) :
    packed (each f x) = fun i => f fun k => packed (x k) i := by
  have hz : (sitofp (F := Ideal) .f32 (constantI S_ 32 0#32)) (Shape.Idx.first h_S_) = (0 : EReal) := by
    show (((0#32 : BitVec 32).toInt : ℝ) : EReal) = 0
    simp
  have hp := pad_steps (α := EReal) f (t := S1024) ![0] ![768] ![0] (fun k => shapeCast S256 (x k).hgrn shapeCasts_S2x128_S256)
    (sitofp (F := Ideal) .f32 (constantI S_ 32 0#32)) pads_S256_S1024_07680 h_S_ (by rw [hz]; exact hf)
  have h := concatenate_steps (t := S154624) 0 f
   [⟨S2048, fun k => shapeCast S2048 (x k).norm1 shapeCasts_S2x1024_S2048⟩,
    ⟨S4096, fun k => shapeCast S4096 (x k).gate shapeCasts_S2x2048_S4096⟩,
    ⟨S131072, fun k => shapeCast S131072 (x k).pool shapeCasts_S2x4x128x128_S131072⟩,
    ⟨S1024, fun k => shapeCast S1024 (x k).scale shapeCasts_S2x512_S1024⟩,
    ⟨S1024, fun k => shapeCast S1024 (x k).logits shapeCasts_S2x512_S1024⟩,
    ⟨S1024, fun k => pad (α := EReal) S1024 ![0] ![768] ![0] (shapeCast S256 (x k).hgrn shapeCasts_S2x128_S256)
      (sitofp (F := Ideal) .f32 (constantI S_ 32 0#32)) pads_S256_S1024_07680 h_S_⟩,
    ⟨S2048, fun k => shapeCast S2048 (x k).norm2 shapeCasts_S2x1024_S2048⟩,
    ⟨S11264, fun k => shapeCast S11264 (x k).bias shapeCasts_S2x5632_S11264⟩,
    ⟨S1024, fun k => (x k).final⟩]
    concatenates_S2048_S4096_S131072_S1024_S1024_S1024_S2048_S11264_S1024_S154624_d0
    fun _ => concatenates_S2048_S4096_S131072_S1024_S1024_S1024_S2048_S11264_S1024_S154624_d0
  funext i
  refine Eq.trans ?_ (h _)
  have hq : pad (α := EReal) S1024 ![0] ![768] ![0]
      (shapeCast S256 (fun i => f fun k => (x k).hgrn i) shapeCasts_S2x128_S256)
      (sitofp (F := Ideal) .f32 (constantI S_ 32 0#32)) pads_S256_S1024_07680 h_S_ = _ := hp
  simp only [packed, each, shapeCast]
  refine concatenate_congr ?_ _ _ _
  rw [hq]
  rfl

/-- The step's three functions, of a weight, its two moments and its gradient. -/
def fM (q : Fin 4 → EReal) : EReal := Ideal.ofBits .f32 0x3F666666#32 * q 1 + Ideal.ofBits .f32 0x3DCCCCCD#32 * q 3
@[inherit_doc fM] def fV (q : Fin 4 → EReal) : EReal :=
  Ideal.ofBits .f32 0x3F7FBE77#32 * q 2 + Ideal.ofBits .f32 0x3A83126F#32 * (q 3 * q 3)
@[inherit_doc fM] def fD (q : Fin 4 → EReal) : EReal :=
  Ideal.ofBits .f32 0xBA83126F#32 *
    (Ideal.div (Ideal.div (fM q) (Ideal.ofBits .f32 0x3F26BD02#32))
        (Ideal.sqrt (Ideal.div (fV q) (Ideal.ofBits .f32 0x3C231ACC#32)) + Ideal.ofBits .f32 0x322BCC77#32)
      + Ideal.ofBits .f32 0x3C23D70A#32 * q 0)

theorem fM_zero : (fM fun _ => 0) = 0 := by simp [fM]
theorem fV_zero : (fV fun _ => 0) = 0 := by simp [fV]
theorem fD_zero : (fD fun _ => 0) = 0 := by
  have h1 : Ideal.ofBits .f32 0x3F26BD02#32 ≠ 0 := by simp [Ideal.ofBits, Ideal.ieee]
  have h2 : Ideal.ofBits .f32 0x3C231ACC#32 ≠ 0 := by simp [Ideal.ofBits, Ideal.ieee]
  have h3 : Ideal.ofBits .f32 0x322BCC77#32 ≠ 0 := by simp [Ideal.ofBits, Ideal.ieee]
  have h0 : Ideal.sqrt 0 = 0 := by
    show (if (0 : ℝ) < 0 then ⊥ else (Real.sqrt 0 : EReal)) = 0
    simp
  rw [fD, fM_zero, fV_zero, Ideal.zero_div h1, Ideal.zero_div h2, h0, zero_add, Ideal.zero_div h3]
  simp

variable (m : (ℓ : Loc nD τ sig) → Buf (Elt Ideal) ℓ) (c : Dev nD)

/-- The weights, their first and second moments, and their gradients. -/
def arg : Fin 4 → Small
  | 0 => ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩
  | 1 => ⟨m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩
  | 2 => ⟨m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26)⟩
  | 3 => ⟨m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35)⟩

/-- The kernel's four arrays. -/
abbrev aW : FVec Ideal S1208x128 .f32 := V m c main_v10
@[inherit_doc aW] abbrev aM : FVec Ideal S1208x128 .f32 := V m c main_v21
@[inherit_doc aW] abbrev aV : FVec Ideal S1208x128 .f32 := V m c main_v32
@[inherit_doc aW] abbrev aG : FVec Ideal S1208x128 .f32 := V m c main_v43

/-- They are the arguments end to end. -/
theorem rows : V m c main_v10 = packed (arg m c 0) ∧ V m c main_v21 = packed (arg m c 1) ∧
    V m c main_v32 = packed (arg m c 2) ∧ V m c main_v43 = packed (arg m c 3) := by
  refine ⟨?_, ?_, ?_, ?_⟩ <;> · simp only [V, hostOps0]; entry_read; rfl

/-- The four values of the body, on a block, are the step's. -/
theorem pay_g (g : FVec Ideal S1208x128 .f32) : k0_pay1 (F := Ideal) g = g := by
  simp only [k0_pay1, shapeCast_self]
@[inherit_doc pay_g] theorem pay_m (g x : FVec Ideal S1208x128 .f32) : k0_pay2 (F := Ideal) g x = newM x g := by
  simp only [k0_pay2, shapeCast_self, pay_g]; rfl
@[inherit_doc pay_g] theorem pay_v (g x : FVec Ideal S1208x128 .f32) : k0_pay3 (F := Ideal) g x = newV x g := by
  simp only [k0_pay3, shapeCast_self, pay_g]; rfl
@[inherit_doc pay_g] theorem pay_d (g x y w : FVec Ideal S1208x128 .f32) : k0_pay4 (F := Ideal) g x y w = delta w x y g := by
  simp only [k0_pay4, shapeCast_self, pay_m, pay_v]; rfl

/-- The four arrays the kernel leaves are the step on the rows. -/
theorem arr_g : (dats m 0 c).arrAt 4 cfg0.N = aG m c := by
  refine (dats m 0 c).arrAt_eq_of_covers 4 _ (by decide +kernel) fun t hf y => ?_
  blk_simp
  rw [show (dats m 0 c).after 4 t = k0_pay1 (iblk m c 3 t) by rw [after0_4]; frame_out, pay_g]
  rfl
@[inherit_doc arr_g] theorem arr_d : (dats m 0 c).arrAt 5 cfg0.N = delta (aW m c) (aM m c) (aV m c) (aG m c) := by
  refine (dats m 0 c).arrAt_eq_of_covers 5 _ (by decide +kernel) fun t hf y => ?_
  blk_simp
  rw [show (dats m 0 c).after 5 t = delta (iblk m c 0 t) (iblk m c 1 t) (iblk m c 2 t) (iblk m c 3 t) by
    rw [after0_5, ← pay_d]; frame_out]
  exact delta_at rfl rfl rfl rfl
@[inherit_doc arr_g] theorem arr_m : (dats m 0 c).arrAt 6 cfg0.N = newM (aM m c) (aG m c) := by
  refine (dats m 0 c).arrAt_eq_of_covers 6 _ (by decide +kernel) fun t hf y => ?_
  blk_simp
  rw [show (dats m 0 c).after 6 t = newM (iblk m c 1 t) (iblk m c 3 t) by rw [after0_6, ← pay_m]; frame_out]
  exact newM_at rfl rfl
@[inherit_doc arr_g] theorem arr_v : (dats m 0 c).arrAt 7 cfg0.N = newV (aV m c) (aG m c) := by
  refine (dats m 0 c).arrAt_eq_of_covers 7 _ (by decide +kernel) fun t hf y => ?_
  blk_simp
  rw [show (dats m 0 c).after 7 t = newV (iblk m c 2 t) (iblk m c 3 t) by rw [after0_7, ← pay_v]; frame_out]
  exact newV_at rfl rfl

section
variable (m : (ℓ : Loc Cert.Reference15Ideal.nD Cert.Reference15Ideal.τ Cert.Reference15Ideal.sig) → Buf (Elt Ideal) ℓ)
  (c : Dev Cert.Reference15Ideal.nD)

/-- The reference's arguments. -/
def rArg : Fin 4 → Small
  | 0 => ⟨m ((c.tc : Thread _ Cert.Reference15Ideal.τ).loc Cert.Reference15Ideal.main_arg0), m ((c.tc : Thread _ Cert.Reference15Ideal.τ).loc Cert.Reference15Ideal.main_arg1), m ((c.tc : Thread _ Cert.Reference15Ideal.τ).loc Cert.Reference15Ideal.main_arg2), m ((c.tc : Thread _ Cert.Reference15Ideal.τ).loc Cert.Reference15Ideal.main_arg3), m ((c.tc : Thread _ Cert.Reference15Ideal.τ).loc Cert.Reference15Ideal.main_arg4), m ((c.tc : Thread _ Cert.Reference15Ideal.τ).loc Cert.Reference15Ideal.main_arg5), m ((c.tc : Thread _ Cert.Reference15Ideal.τ).loc Cert.Reference15Ideal.main_arg6), m ((c.tc : Thread _ Cert.Reference15Ideal.τ).loc Cert.Reference15Ideal.main_arg7), m ((c.tc : Thread _ Cert.Reference15Ideal.τ).loc Cert.Reference15Ideal.main_arg8)⟩
  | 1 => ⟨m ((c.tc : Thread _ Cert.Reference15Ideal.τ).loc Cert.Reference15Ideal.main_arg9), m ((c.tc : Thread _ Cert.Reference15Ideal.τ).loc Cert.Reference15Ideal.main_arg10), m ((c.tc : Thread _ Cert.Reference15Ideal.τ).loc Cert.Reference15Ideal.main_arg11), m ((c.tc : Thread _ Cert.Reference15Ideal.τ).loc Cert.Reference15Ideal.main_arg12), m ((c.tc : Thread _ Cert.Reference15Ideal.τ).loc Cert.Reference15Ideal.main_arg13), m ((c.tc : Thread _ Cert.Reference15Ideal.τ).loc Cert.Reference15Ideal.main_arg14), m ((c.tc : Thread _ Cert.Reference15Ideal.τ).loc Cert.Reference15Ideal.main_arg15), m ((c.tc : Thread _ Cert.Reference15Ideal.τ).loc Cert.Reference15Ideal.main_arg16), m ((c.tc : Thread _ Cert.Reference15Ideal.τ).loc Cert.Reference15Ideal.main_arg17)⟩
  | 2 => ⟨m ((c.tc : Thread _ Cert.Reference15Ideal.τ).loc Cert.Reference15Ideal.main_arg18), m ((c.tc : Thread _ Cert.Reference15Ideal.τ).loc Cert.Reference15Ideal.main_arg19), m ((c.tc : Thread _ Cert.Reference15Ideal.τ).loc Cert.Reference15Ideal.main_arg20), m ((c.tc : Thread _ Cert.Reference15Ideal.τ).loc Cert.Reference15Ideal.main_arg21), m ((c.tc : Thread _ Cert.Reference15Ideal.τ).loc Cert.Reference15Ideal.main_arg22), m ((c.tc : Thread _ Cert.Reference15Ideal.τ).loc Cert.Reference15Ideal.main_arg23), m ((c.tc : Thread _ Cert.Reference15Ideal.τ).loc Cert.Reference15Ideal.main_arg24), m ((c.tc : Thread _ Cert.Reference15Ideal.τ).loc Cert.Reference15Ideal.main_arg25), m ((c.tc : Thread _ Cert.Reference15Ideal.τ).loc Cert.Reference15Ideal.main_arg26)⟩
  | 3 => ⟨m ((c.tc : Thread _ Cert.Reference15Ideal.τ).loc Cert.Reference15Ideal.main_arg27), m ((c.tc : Thread _ Cert.Reference15Ideal.τ).loc Cert.Reference15Ideal.main_arg28), m ((c.tc : Thread _ Cert.Reference15Ideal.τ).loc Cert.Reference15Ideal.main_arg29), m ((c.tc : Thread _ Cert.Reference15Ideal.τ).loc Cert.Reference15Ideal.main_arg30), m ((c.tc : Thread _ Cert.Reference15Ideal.τ).loc Cert.Reference15Ideal.main_arg31), m ((c.tc : Thread _ Cert.Reference15Ideal.τ).loc Cert.Reference15Ideal.main_arg32), m ((c.tc : Thread _ Cert.Reference15Ideal.τ).loc Cert.Reference15Ideal.main_arg33), m ((c.tc : Thread _ Cert.Reference15Ideal.τ).loc Cert.Reference15Ideal.main_arg34), m ((c.tc : Thread _ Cert.Reference15Ideal.τ).loc Cert.Reference15Ideal.main_arg35)⟩

end

/-- The reference runs on the host alone and has no semaphores. -/
theorem frame_reference : Cert.quiescent_Reference15Ideal := fun m g _ =>
  (θ_run _ _ _).mono (fun r h => ⟨fun c => (h c).2.2.2.2, sem_eq_zero_of_no_sems (by decide) r.2⟩)
    (Cert.Reference15Ideal.Value.run m g)

/-- Both runs end in the same four arrays. -/
theorem algebraic : Cert.algebraic_Kernel15Ideal_Reference15Ideal := by
  intro m g m' g' _ hm
  refine ⟨_, _, _, _, Cert.Kernel15Ideal.Value.run_blocks m g,
    (θ_run _ _ _).mono (fun r h c => ?_) (Cert.Reference15Ideal.Value.run m' g')⟩
  obtain ⟨hg, hd, hn, hv, args⟩ := h c
  obtain ⟨h0, h1, h2, h3, h4, h5, h6, h7, h8, h9, h10, h11, h12, h13, h14, h15, h16, h17, h18, h19, h20, h21, h22, h23, h24, h25, h26, h27, h28, h29, h30, h31, h32, h33, h34, h35⟩ := hm c
  have e : rArg m' c = arg m c := by
    funext k
    match k with
    | 0 => simp only [rArg, arg, h0, h1, h2, h3, h4, h5, h6, h7, h8]
    | 1 => simp only [rArg, arg, h9, h10, h11, h12, h13, h14, h15, h16, h17]
    | 2 => simp only [rArg, arg, h18, h19, h20, h21, h22, h23, h24, h25, h26]
    | 3 => simp only [rArg, arg, h27, h28, h29, h30, h31, h32, h33, h34, h35]
  rw [arr_g, arr_d, arr_m, arr_v, aW, aM, aV, aG, (rows m c).1, (rows m c).2.1, (rows m c).2.2.1, (rows m c).2.2.2, ← e]
  exact ⟨hg.trans (show _ = packed (rArg m' c 3) from rfl),
    (hd.trans (show _ = packed (each fD (rArg m' c)) from rfl)).trans (packed_each fD fD_zero _),
    (hn.trans (show _ = packed (each fM (rArg m' c)) from rfl)).trans (packed_each fM fM_zero _),
    (hv.trans (show _ = packed (each fV (rArg m' c)) from rfl)).trans (packed_each fV fV_zero _), args⟩

end Cert.Opt.SmallWeights
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite
public import proofs.«01_k».proof.Proof.Ffn.Equal
public import proofs.«01_k».proof.Proof.Norm.UpClaim
public import proofs.«01_k».proof.Proof.Norm.UpWgradClaim
public import proofs.«01_k».proof.Proof.Norm.InClaim
public import proofs.«01_k».proof.Proof.Norm.InWgradClaim
public import proofs.«01_k».proof.Proof.Fwd.InProjClaim
public import proofs.«01_k».proof.Proof.Fwd.DownClaim
public import proofs.«01_k».proof.Proof.Fwd.UpConvClaim
public import proofs.«01_k».proof.Proof.Opt.InWeight
public import proofs.«01_k».proof.Proof.Opt.UpWeight
public import proofs.«01_k».proof.Proof.Opt.DownWeight
public import proofs.«01_k».proof.Proof.Opt.OutWeight
public import proofs.«01_k».proof.Proof.Opt.MixWeight
public import proofs.«01_k».proof.Proof.Opt.ConvWeight
public import proofs.«01_k».proof.Proof.Opt.SmallWeights
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs on the host alone and has no semaphores. -/
theorem frame_reference : Cert.quiescent_ReferenceIdeal := fun m g _ =>
  (θ_run _ _ _).mono (fun r h => ⟨fun c => (h c).2.2.2.2.2.2.2.2, sem_eq_zero_of_no_sems (by decide) r.2⟩)
    (Cert.ReferenceIdeal.Value.run m g)

/-- Both runs end in the same arrays. -/
theorem algebraic : Cert.algebraic_KernelIdeal_ReferenceIdeal_pre_finite := by
  intro m g m' g' hp hm
  have ag : ∀ c, Cert.Ffn.Agree m m' c := fun c =>
    ⟨(hm c).1, (hm c).2.1, (hm c).2.2.1, (hm c).2.2.2.1, (hm c).2.2.2.2⟩
  have hr := Cert.Ffn.real_of_pre m hp
  refine ⟨_, _, _, _, _, _, _, _, Cert.KernelIdeal.Value.run_blocks m g,
    (θ_run _ _ _).mono (fun r h c => ?_) (Cert.ReferenceIdeal.Value.run m' g')⟩
  obtain ⟨h0, h1, h2, h3, h4, h5, h6, h7, args⟩ := h c
  exact ⟨h0.trans (Cert.Ffn.equal0 (ag c)), h1.trans (Cert.Ffn.equal1 (ag c) (hr c)),
    h2.trans (Cert.Ffn.equal2 (ag c)), h3.trans (Cert.Ffn.equal3 (ag c)), h4.trans (Cert.Ffn.equal4 (ag c)),
    h5.trans (Cert.Ffn.equal5 (ag c) (hr c)), h6.trans (Cert.Ffn.equal6 (ag c)),
    h7.trans (Cert.Ffn.equal7 (ag c) (hr c)), args⟩

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, Cert.Norm.Up.frame_reference,
  fun m ρ _ => Cert.Kernel3.Gen.frame m ρ, fun m ρ _ => Cert.Kernel3Ideal.Gen.frame m ρ, Cert.Norm.UpWgrad.frame_reference,
  fun m ρ _ => Cert.Kernel4.Gen.frame m ρ, fun m ρ _ => Cert.Kernel4Ideal.Gen.frame m ρ, Cert.Norm.In.frame_reference,
  fun m ρ _ => Cert.Kernel5.Gen.frame m ρ, fun m ρ _ => Cert.Kernel5Ideal.Gen.frame m ρ, Cert.Norm.InWgrad.frame_reference,
  fun m ρ _ => Cert.Kernel6.Gen.frame m ρ, fun m ρ _ => Cert.Kernel6Ideal.Gen.frame m ρ, Cert.Fwd.InProj.frame_reference,
  fun m ρ _ => Cert.Kernel7.Gen.frame m ρ, fun m ρ _ => Cert.Kernel7Ideal.Gen.frame m ρ, Cert.Fwd.Down.frame_reference,
  Cert.Fwd.UpConv.frame, Cert.Fwd.UpConv.frame_ideal, Cert.Fwd.UpConv.frame_reference,
  fun m ρ _ => Cert.Kernel9.Gen.frame m ρ, fun m ρ _ => Cert.Kernel9Ideal.Gen.frame m ρ, Cert.Opt.InWeight.frame_reference,
  fun m ρ _ => Cert.Kernel10.Gen.frame m ρ, fun m ρ _ => Cert.Kernel10Ideal.Gen.frame m ρ, Cert.Opt.UpWeight.frame_reference,
  fun m ρ _ => Cert.Kernel11.Gen.frame m ρ, fun m ρ _ => Cert.Kernel11Ideal.Gen.frame m ρ, Cert.Opt.DownWeight.frame_reference,
  fun m ρ _ => Cert.Kernel12.Gen.frame m ρ, fun m ρ _ => Cert.Kernel12Ideal.Gen.frame m ρ, Cert.Opt.OutWeight.frame_reference,
  fun m ρ _ => Cert.Kernel13.Gen.frame m ρ, fun m ρ _ => Cert.Kernel13Ideal.Gen.frame m ρ, Cert.Opt.MixWeight.frame_reference,
  fun m ρ _ => Cert.Kernel14.Gen.frame m ρ, fun m ρ _ => Cert.Kernel14Ideal.Gen.frame m ρ, Cert.Opt.ConvWeight.frame_reference,
  fun m ρ _ => Cert.Kernel15.Gen.frame m ρ, fun m ρ _ => Cert.Kernel15Ideal.Gen.frame m ρ, Cert.Opt.SmallWeights.frame_reference,
  trivial, algebraic, trivial, Cert.Norm.Up.algebraic, trivial, Cert.Norm.UpWgrad.algebraic,
  trivial, Cert.Norm.In.algebraic, trivial, Cert.Norm.InWgrad.algebraic,
  trivial, Cert.Fwd.InProj.algebraic,
  trivial, Cert.Fwd.Down.algebraic,
  trivial, Cert.Fwd.UpConv.algebraic,
  trivial, Cert.Opt.InWeight.algebraic,
  trivial, Cert.Opt.UpWeight.algebraic,
  trivial, Cert.Opt.DownWeight.algebraic,
  trivial, Cert.Opt.OutWeight.algebraic,
  trivial, Cert.Opt.MixWeight.algebraic,
  trivial, Cert.Opt.ConvWeight.algebraic,
  trivial, Cert.Opt.SmallWeights.algebraic⟩

end Cert.Proof

end
